-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v75_0)) (v1 : (c : Dev Cert.Kernel2Ideal.nD) → Buf (Elt Ideal) ((c.tc : Thread Cert.Kernel2Ideal.nD Cert.Kernel2Ideal.τ).loc Cert.Kernel2Ideal.main_v75_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v75_0) = v0 c
          ∧ r.2.mem ((c.tc : Thread Cert.Kernel2Ideal.nD Cert.Kernel2Ideal.τ).loc Cert.Kernel2Ideal.main_v75_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v83_1)) (v1 : (c : Dev Cert.Kernel3Ideal.nD) → Buf (Elt Ideal) ((c.tc : Thread Cert.Kernel3Ideal.nD Cert.Kernel3Ideal.τ).loc Cert.Kernel3Ideal.main_v83_3)) (v2 : (c : Dev Cert.Kernel3Ideal.nD) → Buf (Elt Ideal) ((c.tc : Thread Cert.Kernel3Ideal.nD Cert.Kernel3Ideal.τ).loc Cert.Kernel3Ideal.main_v83_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v83_1) = v0 c
          ∧ r.2.mem ((c.tc : Thread Cert.Kernel3Ideal.nD Cert.Kernel3Ideal.τ).loc Cert.Kernel3Ideal.main_v83_3) = v1 c
          ∧ r.2.mem ((c.tc : Thread Cert.Kernel3Ideal.nD Cert.Kernel3Ideal.τ).loc Cert.Kernel3Ideal.main_v83_6) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_routing : Cert.Pre_finite_routing.Facts),
    quiescent_Kernel (hKernel := hKernel)
    ∧ quiescent_KernelIdeal (hKernelIdeal := hKernelIdeal)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_routing (hKernelIdeal := hKernelIdeal) (hReferenceIdeal := hReferenceIdeal) (hPre_finite_routing := hPre_finite_routing)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_routing.lean ====
abbrev S17408x1024 : Shape := ⟨2, ![17408, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1x16x1024x256 : Shape := ⟨4, ![1, 16, 1024, 256]⟩
abbrev S1x16x256x1024 : Shape := ⟨4, ![1, 16, 256, 1024]⟩
abbrev S1x1024 : Shape := ⟨2, ![1, 1024]⟩
abbrev S_ : Shape := ⟨0, ![]⟩

class Facts : Prop where
  bcast_S_S17408x1024 : S_.BroadcastsInDim S17408x1024 (![] : Fin 0 → Fin S17408x1024.rank)
  bcast_S_S1x1024x4 : S_.BroadcastsInDim S1x1024x4 (![] : Fin 0 → Fin S1x1024x4.rank)
  bcast_S_S1x4 : S_.BroadcastsInDim S1x4 (![] : Fin 0 → Fin S1x4.rank)
  bcast_S_S1x1024x16 : S_.BroadcastsInDim S1x1024x16 (![] : Fin 0 → Fin S1x1024x16.rank)
  bcast_S_S1x16 : S_.BroadcastsInDim S1x16 (![] : Fin 0 → Fin S1x16.rank)

variable [Facts]

def fn {F : FTy → Type} [FloatOps F] (main_arg0 : FVec F S17408x1024 .f32) (main_arg1 : FVec F S1x1024x4 .f32) (main_arg2 : FVec F S1x4 .f32) (main_arg3 : FVec F S1x1024x16 .f32) (main_arg4 : FVec F S1x16 .f32) (main_arg5 : FVec F S1x16x1024x256 .f32) (main_arg6 : FVec F S1x16x1024x256 .f32) (main_arg7 : FVec F S1x16x256x1024 .f32) (main_arg8 : FVec F S1x1024 .f32) (main_arg9 : FVec F S1x1024 .f32) : IVec S17408x1024 1 × IVec S1x1024x4 1 × IVec S1x4 1 × IVec S1x1024x16 1 × IVec S1x16 1 :=
  let main_v0 : FVec F S17408x1024 .f32 := Host.absf main_arg0
  let main_cst : FVec F S_ .f32 := constant S_ .f32 0x7F800000#32
  let main_v1 : FVec F S17408x1024 .f32 := broadcastInDim S17408x1024 ![] bcast_S_S17408x1024 main_cst
  let main_v2 : IVec S17408x1024 1 := cmpf .olt main_v0 main_v1
  let main_v3 : FVec F S1x1024x4 .f32 := Host.absf main_arg1
  let main_cst_0 : FVec F S_ .f32 := constant S_ .f32 0x7F800000#32
  let main_v4 : FVec F S1x1024x4 .f32 := broadcastInDim S1x1024x4 ![] bcast_S_S1x1024x4 main_cst_0
  let main_v5 : IVec S1x1024x4 1 := cmpf .olt main_v3 main_v4
  let main_v6 : FVec F S1x4 .f32 := Host.absf main_arg2
  let main_cst_1 : FVec F S_ .f32 := constant S_ .f32 0x7F800000#32
  let main_v7 : FVec F S1x4 .f32 := broadcastInDim S1x4 ![] bcast_S_S1x4 main_cst_1
  let main_v8 : IVec S1x4 1 := cmpf .olt main_v6 main_v7
  let main_v9 : FVec F S1x1024x16 .f32 := Host.absf main_arg3
  let main_cst_2 : FVec F S_ .f32 := constant S_ .f32 0x7F800000#32
  let main_v10 : FVec F S1x1024x16 .f32 := broadcastInDim S1x1024x16 ![] bcast_S_S1x1024x16 main_cst_2
  let main_v11 : IVec S1x1024x16 1 := cmpf .olt main_v9 main_v10
  let main_v12 : FVec F S1x16 .f32 := Host.absf main_arg4
  let main_cst_3 : FVec F S_ .f32 := constant S_ .f32 0x7F800000#32
  let main_v13 : FVec F S1x16 .f32 := broadcastInDim S1x16 ![] bcast_S_S1x16 main_cst_3
  let main_v14 : IVec S1x16 1 := cmpf .olt main_v12 main_v13
  (main_v2, main_v5, main_v8, main_v11, main_v14)
-- ==== Kernel.lean ====
abbrev S17408x1024 : Shape := ⟨2, ![17408, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1x16x1024x256 : Shape := ⟨4, ![1, 16, 1024, 256]⟩
abbrev S1x16x256x1024 : Shape := ⟨4, ![1, 16, 256, 1024]⟩
abbrev S1x1024 : Shape := ⟨2, ![1, 1024]⟩
abbrev S1024x4 : Shape := ⟨2, ![1024, 4]⟩
abbrev S1024x16 : Shape := ⟨2, ![1024, 16]⟩
abbrev S1024x20 : Shape := ⟨2, ![1024, 20]⟩
abbrev S_ : Shape := ⟨0, ![]⟩
abbrev S1024x128 : Shape := ⟨2, ![1024, 128]⟩
abbrev S4 : Shape := ⟨1, ![4]⟩
abbrev S16 : Shape := ⟨1, ![16]⟩
abbrev S20 : Shape := ⟨1, ![20]⟩
abbrev S128 : Shape := ⟨1, ![128]⟩
abbrev S1x128 : Shape := ⟨2, ![1, 128]⟩
abbrev S16x1024x256 : Shape := ⟨3, ![16, 1024, 256]⟩
abbrev S16x256x1024 : Shape := ⟨3, ![16, 256, 1024]⟩
abbrev S1024 : Shape := ⟨1, ![1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 38
  | .vmem => 12
  | .smem => 0
  | _ => 0

abbrev bufTy : (tb : Table) → Fin (tcTables nBuf tb) → BufTy
  | .hbm, ⟨0, _⟩ => ⟨S17408x1024, .f32⟩
  | .hbm, ⟨1, _⟩ => ⟨S1x1024x4, .f32⟩
  | .hbm, ⟨2, _⟩ => ⟨S1x4, .f32⟩
  | .hbm, ⟨3, _⟩ => ⟨S1x1024x16, .f32⟩
  | .hbm, ⟨4, _⟩ => ⟨S1x16, .f32⟩
  | .hbm, ⟨5, _⟩ => ⟨S1x16x1024x256, .f32⟩
  | .hbm, ⟨6, _⟩ => ⟨S1x16x1024x256, .f32⟩
  | .hbm, ⟨7, _⟩ => ⟨S1x16x256x1024, .f32⟩
  | .hbm, ⟨8, _⟩ => ⟨S1x1024, .f32⟩
  | .hbm, ⟨9, _⟩ => ⟨S1x1024, .f32⟩
  | .hbm, ⟨10, _⟩ => ⟨S1024x4, .f32⟩
  | .hbm, ⟨11, _⟩ => ⟨S1024x16, .f32⟩
  | .hbm, ⟨12, _⟩ => ⟨S1024x20, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S4, .f32⟩
  | .hbm, ⟨18, _⟩ => ⟨S16, .f32⟩
  | .hbm, ⟨19, _⟩ => ⟨S20, .f32⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S16x1024x256, .f32⟩
  | .hbm, ⟨28, _⟩ => ⟨S16x1024x256, .bf16⟩
  | .hbm, ⟨29, _⟩ => ⟨S16x1024x256, .f32⟩
  | .hbm, ⟨30, _⟩ => ⟨S16x1024x256, .bf16⟩
  | .hbm, ⟨31, _⟩ => ⟨S16x256x1024, .f32⟩
  | .hbm, ⟨32, _⟩ => ⟨S16x256x1024, .bf16⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S16x1024x256, .bf16⟩
  | .local _ .vmem, ⟨6, _⟩ => ⟨S16x1024x256, .bf16⟩
  | .local _ .vmem, ⟨7, _⟩ => ⟨S16x256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S17408x1024 : Shape := ⟨2, ![17408, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1x16x1024x256 : Shape := ⟨4, ![1, 16, 1024, 256]⟩
abbrev S1x16x256x1024 : Shape := ⟨4, ![1, 16, 256, 1024]⟩
abbrev S1x1024 : Shape := ⟨2, ![1, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S17408x4 : Shape := ⟨2, ![17408, 4]⟩
abbrev S_ : Shape := ⟨0, ![]⟩
abbrev S17408 : Shape := ⟨1, ![17408]⟩
abbrev S17408x1 : Shape := ⟨2, ![17408, 1]⟩
abbrev S17408x1x1 : Shape := ⟨3, ![17408, 1, 1]⟩
abbrev S1 : Shape := ⟨1, ![1]⟩
abbrev S1x1x1 : Shape := ⟨3, ![1, 1, 1]⟩
abbrev S17408x16 : Shape := ⟨2, ![17408, 16]⟩
abbrev S17408x4x4 : Shape := ⟨3, ![17408, 4, 4]⟩
abbrev S17408x1x4 : Shape := ⟨3, ![17408, 1, 4]⟩
abbrev S17408x2 : Shape := ⟨2, ![17408, 2]⟩
abbrev S17408x2x1 : Shape := ⟨3, ![17408, 2, 1]⟩
abbrev S1x1x16 : Shape := ⟨3, ![1, 1, 16]⟩
abbrev S17408x2x16 : Shape := ⟨3, ![17408, 2, 16]⟩
abbrev S17408x16x256 : Shape := ⟨3, ![17408, 16, 256]⟩
abbrev S17408x16x1 : Shape := ⟨3, ![17408, 16, 1]⟩
abbrev S1024 : Shape := ⟨1, ![1024]⟩

abbrev nBuf : Space → Nat
  | .hbm => 183
  | .vmem => 0
  | .smem => 0
  | _ => 0

abbrev hbmTy0_0 (i : Nat) : BufTy := match i % 128 with
  | 0 => ⟨S17408x1024, .f32⟩
  | 1 => ⟨S1x1024x4, .f32⟩
  | 2 => ⟨S1x4, .f32⟩
  | 3 => ⟨S1x1024x16, .f32⟩
  | 4 => ⟨S1x16, .f32⟩
  | 5 => ⟨S1x16x1024x256, .f32⟩
  | 6 => ⟨S1x16x1024x256, .f32⟩
  | 7 => ⟨S1x16x256x1024, .f32⟩
  | 8 => ⟨S1x1024, .f32⟩
  | 9 => ⟨S1x1024, .f32⟩
  | 10 => ⟨S1024x4, .f32⟩
  | 11 => ⟨S4, .f32⟩
  | 12 => ⟨S1024x16, .f32⟩
  | 13 => ⟨S16, .f32⟩
  | 14 => ⟨S16x1024x256, .f32⟩
  | 15 => ⟨S16x1024x256, .f32⟩
  | 16 => ⟨S16x256x1024, .f32⟩
  | 17 => ⟨S17408x4, .f32⟩
  | 18 => ⟨S1x4, .f32⟩
  | 19 => ⟨S17408x4, .f32⟩
  | 20 => ⟨S17408x4, .f32⟩
  | 21 => ⟨S17408x4, .i32⟩
  | 22 => ⟨S_, .f32⟩
  | 23 => ⟨S_, .i32⟩
  | 24 => ⟨S17408, .f32⟩
  | 25 => ⟨S17408, .i32⟩
  | 26 => ⟨S_, .f32⟩
  | 27 => ⟨S17408, .f32⟩
  | 28 => ⟨S_, .f32⟩
  | 29 => ⟨S17408, .f32⟩
  | 30 => ⟨S17408, .f32⟩
  | 31 => ⟨S17408x1, .f32⟩
  | 32 => ⟨S17408x4, .f32⟩
  | 33 => ⟨S17408x4, .f32⟩
  | 34 => ⟨S17408x4, .f32⟩
  | 35 => ⟨S_, .f32⟩
  | 36 => ⟨S17408, .f32⟩
  | 37 => ⟨S17408x1, .f32⟩
  | 38 => ⟨S17408x4, .f32⟩
  | 39 => ⟨S17408x4, .f32⟩
  | 40 => ⟨S17408x1, .i32⟩
  | 41 => ⟨S_, .i32⟩
  | 42 => ⟨S17408x1, .i32⟩
  | 43 => ⟨S17408x1, .i1⟩
  | 44 => ⟨S_, .i32⟩
  | 45 => ⟨S17408x1, .i32⟩
  | 46 => ⟨S17408x1, .i32⟩
  | 47 => ⟨S17408x1, .i32⟩
  | 48 => ⟨S17408x1x1, .i32⟩
  | 49 => ⟨S1, .i32⟩
  | 50 => ⟨S_, .i32⟩
  | 51 => ⟨S17408x1x1, .i32⟩
  | 52 => ⟨S17408x1x1, .i1⟩
  | 53 => ⟨S1x1x1, .i32⟩
  | 54 => ⟨S17408x1x1, .i32⟩
  | 55 => ⟨S17408x1x1, .i1⟩
  | 56 => ⟨S17408x1x1, .i1⟩
  | 57 => ⟨S_, .i1⟩
  | 58 => ⟨S17408x1, .i1⟩
  | 59 => ⟨S17408x1, .f32⟩
  | 60 => ⟨S_, .f32⟩
  | 61 => ⟨S17408x1, .f32⟩
  | 62 => ⟨S17408x1, .f32⟩
  | 63 => ⟨S17408x16, .f32⟩
  | 64 => ⟨S1x16, .f32⟩
  | 65 => ⟨S17408x16, .f32⟩
  | 66 => ⟨S17408x16, .f32⟩
  | 67 => ⟨S17408x4x4, .f32⟩
  | 68 => ⟨S17408x1x1, .i32⟩
  | 69 => ⟨S_, .i32⟩
  | 70 => ⟨S17408x1x1, .i32⟩
  | 71 => ⟨S17408x1x1, .i1⟩
  | 72 => ⟨S_, .i32⟩
  | 73 => ⟨S17408x1x1, .i32⟩
  | 74 => ⟨S17408x1x1, .i32⟩
  | 75 => ⟨S17408x1x1, .i32⟩
  | 76 => ⟨S1, .i32⟩
  | 77 => ⟨S_, .i32⟩
  | 78 => ⟨S17408x1x1, .i32⟩
  | 79 => ⟨S17408x1x1, .i1⟩
  | 80 => ⟨S1x1x1, .i32⟩
  | 81 => ⟨S17408x1x1, .i32⟩
  | 82 => ⟨S17408x1x1, .i1⟩
  | 83 => ⟨S17408x1x1, .i1⟩
  | 84 => ⟨S_, .i1⟩
  | 85 => ⟨S17408x1, .i1⟩
  | 86 => ⟨S17408x1x4, .f32⟩
  | 87 => ⟨S17408x1x4, .i1⟩
  | 88 => ⟨S_, .f32⟩
  | 89 => ⟨S17408x1x4, .f32⟩
  | 90 => ⟨S17408x1x4, .f32⟩
  | 91 => ⟨S17408x4, .f32⟩
  | 92 => ⟨S_, .f32⟩
  | 93 => ⟨S17408, .f32⟩
  | 94 => ⟨S_, .f32⟩
  | 95 => ⟨S17408, .f32⟩
  | 96 => ⟨S17408, .f32⟩
  | 97 => ⟨S17408x1, .f32⟩
  | 98 => ⟨S17408x4, .f32⟩
  | 99 => ⟨S17408x4, .f32⟩
  | 100 => ⟨S17408x4, .f32⟩
  | 101 => ⟨S_, .f32⟩
  | 102 => ⟨S17408, .f32⟩
  | 103 => ⟨S17408x1, .f32⟩
  | 104 => ⟨S17408x4, .f32⟩
  | 105 => ⟨S17408x4, .f32⟩
  | 106 => ⟨S17408x2, .f32⟩
  | 107 => ⟨S17408x2, .i32⟩
  | 108 => ⟨S_, .f32⟩
  | 109 => ⟨S17408, .f32⟩
  | 110 => ⟨S17408x1, .f32⟩
  | 111 => ⟨S17408x2, .f32⟩
  | 112 => ⟨S17408x2, .f32⟩
  | 113 => ⟨S17408x2, .f32⟩
  | 114 => ⟨S17408x2, .f32⟩
  | 115 => ⟨S17408x1, .i32⟩
  | 116 => ⟨S_, .i32⟩
  | 117 => ⟨S17408x1, .i32⟩
  | 118 => ⟨S17408x1, .i32⟩
  | 119 => ⟨S17408x2, .i32⟩
  | 120 => ⟨S17408x2, .i32⟩
  | 121 => ⟨S17408x2x1, .i32⟩
  | 122 => ⟨S1x1x16, .i32⟩
  | 123 => ⟨S17408x2x16, .i32⟩
  | 124 => ⟨S17408x2x16, .i32⟩
  | 125 => ⟨S17408x2x16, .i1⟩
  | 126 => ⟨S17408x2x16, .f32⟩
  | 127 => ⟨S17408x2x1, .f32⟩
  | _ => ⟨S17408x1024, .f32⟩

abbrev hbmTy0_1 (i : Nat) : BufTy := match i % 128 with
  | 0 => ⟨S17408x2x16, .f32⟩
  | 1 => ⟨S17408x2x16, .f32⟩
  | 2 => ⟨S_, .f32⟩
  | 3 => ⟨S17408x16, .f32⟩
  | 4 => ⟨S17408x16x256, .f32⟩
  | 5 => ⟨S17408x16x256, .f32⟩
  | 6 => ⟨S17408x16x256, .f32⟩
  | 7 => ⟨S17408x16x256, .f32⟩
  | 8 => ⟨S_, .f32⟩
  | 9 => ⟨S17408x16x256, .f32⟩
  | 10 => ⟨S17408x16x256, .f32⟩
  | 11 => ⟨S_, .f32⟩
  | 12 => ⟨S17408x16x256, .f32⟩
  | 13 => ⟨S17408x16x256, .f32⟩
  | 14 => ⟨S17408x16x256, .f32⟩
  | 15 => ⟨S17408x16x256, .f32⟩
  | 16 => ⟨S17408x16x1, .f32⟩
  | 17 => ⟨S17408x16x256, .f32⟩
  | 18 => ⟨S17408x16x256, .f32⟩
  | 19 => ⟨S17408x1024, .f32⟩
  | 20 => ⟨S_, .f32⟩
  | 21 => ⟨S17408x1024, .f32⟩
  | 22 => ⟨S17408x1024, .f32⟩
  | 23 => ⟨S17408x1024, .f32⟩
  | 24 => ⟨S1024, .f32⟩
  | 25 => ⟨S1024, .f32⟩
  | 26 => ⟨S_, .f32⟩
  | 27 => ⟨S17408, .f32⟩
  | 28 => ⟨S17408x1, .f32⟩
  | 29 => ⟨S_, .f32⟩
  | 30 => ⟨S17408x1, .f32⟩
  | 31 => ⟨S17408x1, .f32⟩
  | 32 => ⟨S17408x1024, .f32⟩
  | 33 => ⟨S17408x1024, .f32⟩
  | 34 => ⟨S17408x1024, .f32⟩
  | 35 => ⟨S_, .f32⟩
  | 36 => ⟨S17408, .f32⟩
  | 37 => ⟨S17408x1, .f32⟩
  | 38 => ⟨S_, .f32⟩
  | 39 => ⟨S17408x1, .f32⟩
  | 40 => ⟨S17408x1, .f32⟩
  | 41 => ⟨S17408x1024, .f32⟩
  | 42 => ⟨S17408x1024, .f32⟩
  | 43 => ⟨S_, .f32⟩
  | 44 => ⟨S17408x1, .f32⟩
  | 45 => ⟨S17408x1, .f32⟩
  | 46 => ⟨S17408x1, .f32⟩
  | 47 => ⟨S17408x1024, .f32⟩
  | 48 => ⟨S17408x1024, .f32⟩
  | 49 => ⟨S1x1024, .f32⟩
  | 50 => ⟨S17408x1024, .f32⟩
  | 51 => ⟨S17408x1024, .f32⟩
  | 52 => ⟨S1x1024, .f32⟩
  | 53 => ⟨S17408x1024, .f32⟩
  | 54 => ⟨S17408x1024, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_c_1 : Ref sig .tc := ⟨.hbm, 76, rfl⟩
abbrev main_call2_c_2 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_c_3 : Ref sig .tc := ⟨.hbm, 84, rfl⟩
abbrev main_call2_v11 : Ref sig .tc := ⟨.hbm, 85, rfl⟩
abbrev main_call2_v12 : Ref sig .tc := ⟨.hbm, 86, rfl⟩
abbrev main_call2_v13 : Ref sig .tc := ⟨.hbm, 87, rfl⟩
abbrev main_call2_cst : Ref sig .tc := ⟨.hbm, 88, rfl⟩
abbrev main_call2_v14 : Ref sig .tc := ⟨.hbm, 89, rfl⟩
abbrev main_v31 : Ref sig .tc := ⟨.hbm, 90, rfl⟩
abbrev main_v32 : Ref sig .tc := ⟨.hbm, 91, rfl⟩
abbrev main_cst_2 : Ref sig .tc := ⟨.hbm, 92, rfl⟩
abbrev main_v33 : Ref sig .tc := ⟨.hbm, 93, rfl⟩
abbrev main_cst_3 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_cst_4 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_values : Ref sig .tc := ⟨.hbm, 106, rfl⟩
abbrev main_indices : Ref sig .tc := ⟨.hbm, 107, rfl⟩
abbrev main_cst_5 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_c : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst_6 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_call4_v0 : Ref sig .tc := ⟨.hbm, 134, rfl⟩
abbrev main_call4_v1 : Ref sig .tc := ⟨.hbm, 135, rfl⟩
abbrev main_call4_cst : Ref sig .tc := ⟨.hbm, 136, rfl⟩
abbrev main_call4_v2 : Ref sig .tc := ⟨.hbm, 137, rfl⟩
abbrev main_call4_v3 : Ref sig .tc := ⟨.hbm, 138, rfl⟩
abbrev main_call4_cst_0 : Ref sig .tc := ⟨.hbm, 139, rfl⟩
abbrev main_call4_v4 : Ref sig .tc := ⟨.hbm, 140, rfl⟩
abbrev main_call4_v5 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_cst_7 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_cst_8 : Ref sig .tc := ⟨.hbm, 154, rfl⟩
abbrev main_v73 : Ref sig .tc := ⟨.hbm, 155, rfl⟩
abbrev main_v74 : Ref sig .tc := ⟨.hbm, 156, rfl⟩
abbrev main_cst_9 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_cst_10 : Ref sig .tc := ⟨.hbm, 163, rfl⟩
abbrev main_v80 : Ref sig .tc := ⟨.hbm, 164, rfl⟩
abbrev main_v81 : Ref sig .tc := ⟨.hbm, 165, rfl⟩
abbrev main_cst_11 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_cst_12 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩

abbrev nD : Nat := 1
abbrev τ : Topo := Topo.v7x

variable {F : FTy → Type} [FloatOps F]
-- ==== Kernel2.lean ====
abbrev S1x16384x1024 : Shape := ⟨3, ![1, 16384, 1024]⟩
abbrev S16x1024 : Shape := ⟨2, ![16, 1024]⟩
abbrev S17408x512 : Shape := ⟨2, ![17408, 512]⟩
abbrev S1x1024x5192 : Shape := ⟨3, ![1, 1024, 5192]⟩
abbrev S1x5192 : Shape := ⟨2, ![1, 5192]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S512 : Shape := ⟨1, ![512]⟩
abbrev S16384x1024 : Shape := ⟨2, ![16384, 1024]⟩
abbrev S_ : Shape := ⟨0, ![]⟩
abbrev S1008x1024 : Shape := ⟨2, ![1008, 1024]⟩
abbrev S17408x1024 : Shape := ⟨2, ![17408, 1024]⟩
abbrev S1024x5192 : Shape := ⟨2, ![1024, 5192]⟩
abbrev S5192 : Shape := ⟨1, ![5192]⟩
abbrev S1024x512 : Shape := ⟨2, ![1024, 512]⟩
abbrev S1024x256 : Shape := ⟨2, ![1024, 256]⟩
abbrev S256 : Shape := ⟨1, ![256]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S1024x1024 : Shape := ⟨2, ![1024, 1024]⟩
abbrev S1024 : Shape := ⟨1, ![1024]⟩
abbrev S512x1 : Shape := ⟨2, ![512, 1]⟩
abbrev S1024x128 : Shape := ⟨2, ![1024, 128]⟩
abbrev S128 : Shape := ⟨1, ![128]⟩
abbrev S1x512 : Shape := ⟨2, ![1, 512]⟩
abbrev S1x256 : Shape := ⟨2, ![1, 256]⟩
abbrev S1x128 : Shape := ⟨2, ![1, 128]⟩
abbrev S3x512 : Shape := ⟨2, ![3, 512]⟩
abbrev S8x512 : Shape := ⟨2, ![8, 512]⟩
abbrev S512x1024 : Shape := ⟨2, ![512, 1024]⟩
abbrev S8x1024 : Shape := ⟨2, ![8, 1024]⟩
abbrev S512x512 : Shape := ⟨2, ![512, 512]⟩

abbrev nBuf : Space → Nat
  | .hbm => 100
  | .vmem => 26
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S17408x512, .bf16⟩
  | .hbm, ⟨3, _⟩ => ⟨S1x1024x5192, .f32⟩
  | .hbm, ⟨4, _⟩ => ⟨S1x5192, .f32⟩
  | .hbm, ⟨5, _⟩ => ⟨S1x3x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S512, .i32⟩
  | .hbm, ⟨12, _⟩ => ⟨S512, .i1⟩
  | .hbm, ⟨13, _⟩ => ⟨S512, .i1⟩
  | .hbm, ⟨14, _⟩ => ⟨S16384x1024, .f32⟩
  | .hbm, ⟨15, _⟩ => ⟨S_, .f32⟩
  | .hbm, ⟨16, _⟩ => ⟨S1008x1024, .f32⟩
  | .hbm, ⟨17, _⟩ => ⟨S17408x1024, .f32⟩
  | .hbm, ⟨18, _⟩ => ⟨S1024x5192, .f32⟩
  | .hbm, ⟨19, _⟩ => ⟨S5192, .f32⟩
  | .hbm, ⟨20, _⟩ => ⟨S1024x512, .f32⟩
  | .hbm, ⟨21, _⟩ => ⟨S512, .f32⟩
  | .hbm, ⟨22, _⟩ => ⟨S1024x256, .f32⟩
  | .hbm, ⟨23, _⟩ => ⟨S256, .f32⟩
  | .hbm, ⟨24, _⟩ => ⟨S1024x256, .f32⟩
  | .hbm, ⟨25, _⟩ => ⟨S256, .f32⟩
  | .hbm, ⟨26, _⟩ => ⟨S1024x512, .f32⟩
  | .hbm, ⟨27, _⟩ => ⟨S512, .f32⟩
  | .hbm, ⟨28, _⟩ => ⟨S1024x8, .f32⟩
  | .hbm, ⟨29, _⟩ => ⟨S8, .f32⟩
  | .hbm, ⟨30, _⟩ => ⟨S1024x64, .f32⟩
  | .hbm, ⟨31, _⟩ => ⟨S64, .f32⟩
  | .hbm, ⟨32, _⟩ => ⟨S1024x512, .f32⟩
  | .hbm, ⟨33, _⟩ => ⟨S512, .f32⟩
  | .hbm, ⟨34, _⟩ => ⟨S1024x512, .f32⟩
  | .hbm, ⟨35, _⟩ => ⟨S512, .f32⟩
  | .hbm, ⟨36, _⟩ => ⟨S1024x512, .f32⟩
  | .hbm, ⟨37, _⟩ => ⟨S512, .f32⟩
  | .hbm, ⟨38, _⟩ => ⟨S1024x1024, .f32⟩
  | .hbm, ⟨39, _⟩ => ⟨S1024, .f32⟩
  | .hbm, ⟨40, _⟩ => ⟨S1024x1024, .f32⟩
  | .hbm, ⟨41, _⟩ => ⟨S1024, .f32⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S512x1, .i32⟩
  | .hbm, ⟨47, _⟩ => ⟨S1024x512, .f32⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S512, .f32⟩
  | .hbm, ⟨54, _⟩ => ⟨S1024x128, .f32⟩
  | .hbm, ⟨55, _⟩ => ⟨S128, .f32⟩
  | .hbm, ⟨56, _⟩ => ⟨S_, .i32⟩
  | .hbm, ⟨57, _⟩ => ⟨S_, .f32⟩
  | .hbm, ⟨58, _⟩ => ⟨S1024x128, .f32⟩
  | .hbm, ⟨59, _⟩ => ⟨S_, .i32⟩
  | .hbm, ⟨60, _⟩ => ⟨S_, .f32⟩
  | .hbm, ⟨61, _⟩ => ⟨S128, .f32⟩
  | .hbm, ⟨62, _⟩ => ⟨S1024x512, .bf16⟩
  | .hbm, ⟨63, _⟩ => ⟨S1x512, .f32⟩
  | .hbm, ⟨64, _⟩ => ⟨S1024x256, .bf16⟩
  | .hbm, ⟨65, _⟩ => ⟨S1x256, .f32⟩
  | .hbm, ⟨66, _⟩ => ⟨S1024x256, .bf16⟩
  | .hbm, ⟨67, _⟩ => ⟨S1x256, .f32⟩
  | .hbm, ⟨68, _⟩ => ⟨S1024x512, .bf16⟩
  | .hbm, ⟨69, _⟩ => ⟨S1x512, .f32⟩
  | .hbm, ⟨70, _⟩ => ⟨S1024x128, .bf16⟩
  | .hbm, ⟨71, _⟩ => ⟨S1x128, .f32⟩
  | .hbm, ⟨72, _⟩ => ⟨S1024x128, .bf16⟩
  | .hbm, ⟨73, _⟩ => ⟨S1x128, .f32⟩
  | .hbm, ⟨74, _⟩ => ⟨S1024x512, .bf16⟩
  | .hbm, ⟨75, _⟩ => ⟨S1x512, .f32⟩
  | .hbm, ⟨76, _⟩ => ⟨S1024x512, .bf16⟩
  | .hbm, ⟨77, _⟩ => ⟨S1x512, .f32⟩
  | .hbm, ⟨78, _⟩ => ⟨S1024x512, .bf16⟩
  | .hbm, ⟨79, _⟩ => ⟨S1x512, .f32⟩
  | .hbm, ⟨80, _⟩ => ⟨S1024x1024, .bf16⟩
  | .hbm, ⟨81, _⟩ => ⟨S1x1024, .f32⟩
  | .hbm, ⟨82, _⟩ => ⟨S1024x1024, .bf16⟩
  | .hbm, ⟨83, _⟩ => ⟨S1x1024, .f32⟩
  | .hbm, ⟨84, _⟩ => ⟨S3x512, .f32⟩
  | .hbm, ⟨85, _⟩ => ⟨S_, .i32⟩
  | .hbm, ⟨86, _⟩ => ⟨S_, .f32⟩
  | .hbm, ⟨87, _⟩ => ⟨S8x512, .f32⟩
  | .hbm, ⟨88, _⟩ => ⟨S512x1024, .f32⟩
  | .hbm, ⟨89, _⟩ => ⟨S512x1024, .bf16⟩
  | .hbm, ⟨90, _⟩ => ⟨S512x1024, .f32⟩
  | .hbm, ⟨91, _⟩ => ⟨S512x1024, .bf16⟩
  | .hbm, ⟨92, _⟩ => ⟨S1024x1024, .f32⟩
  | .hbm, ⟨93, _⟩ => ⟨S1024x1024, .bf16⟩
  | .hbm, ⟨94, _⟩ => ⟨S1024, .f32⟩
  | .hbm, ⟨95, _⟩ => ⟨S1x1024, .f32⟩
  | .hbm, ⟨96, _⟩ => ⟨S1024, .f32⟩
  | .hbm, ⟨97, _⟩ => ⟨S1x1024, .f32⟩
  | .hbm, ⟨98, _⟩ => ⟨S17408x1024, .f32⟩
  | .hbm, ⟨99, _⟩ => ⟨S17408x512, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x512, .bf16⟩
  | .local _ .vmem, ⟨5, _⟩ => ⟨S512x512, .bf16⟩
  | .local _ .vmem, ⟨6, _⟩ => ⟨S1024x512, .bf16⟩
  | .local _ .vmem, ⟨7, _⟩ => ⟨S1x512, .f32⟩
  | .local _ .vmem, ⟨8, _⟩ => ⟨S1024x512, .bf16⟩
  | .local _ .vmem, ⟨9, _⟩ => ⟨S1x512, .f32⟩
  | .local _ .vmem, ⟨10, _⟩ => ⟨S1024x512, .bf16⟩
  | .local _ .vmem, ⟨11, _⟩ => ⟨S1x512, .f32⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S8x512, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x512, .f32⟩
  | .local _ .vmem, ⟨25, _⟩ => ⟨S512x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_call0_v0 : Ref sig .tc := ⟨.hbm, 57, rfl⟩
abbrev main_v39 : Ref sig .tc := ⟨.hbm, 58, rfl⟩
abbrev main_c_5 : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_6 : Ref sig .tc := ⟨.hbm, 85, rfl⟩
abbrev main_call2_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75_0 : Ref sig .tc := ⟨.hbm, 98, rfl⟩
abbrev main_v75_1 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S1x16384x1024 : Shape := ⟨3, ![1, 16384, 1024]⟩
abbrev S16x1024 : Shape := ⟨2, ![16, 1024]⟩
abbrev S17408x512 : Shape := ⟨2, ![17408, 512]⟩
abbrev S1x1024x5192 : Shape := ⟨3, ![1, 1024, 5192]⟩
abbrev S1x5192 : Shape := ⟨2, ![1, 5192]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S16384x1024 : Shape := ⟨2, ![16384, 1024]⟩
abbrev S_ : Shape := ⟨0, ![]⟩
abbrev S1008x1024 : Shape := ⟨2, ![1008, 1024]⟩
abbrev S17408x1024 : Shape := ⟨2, ![17408, 1024]⟩
abbrev S1024x5192 : Shape := ⟨2, ![1024, 5192]⟩
abbrev S17408x5192 : Shape := ⟨2, ![17408, 5192]⟩
abbrev S5192 : Shape := ⟨1, ![5192]⟩
abbrev S17408x256 : Shape := ⟨2, ![17408, 256]⟩
abbrev S17408x8 : Shape := ⟨2, ![17408, 8]⟩
abbrev S17408x64 : Shape := ⟨2, ![17408, 64]⟩
abbrev S3x512 : Shape := ⟨2, ![3, 512]⟩
abbrev S2x512 : Shape := ⟨2, ![2, 512]⟩
abbrev S17410x512 : Shape := ⟨2, ![17410, 512]⟩
abbrev S1x512 : Shape := ⟨2, ![1, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S17408 : Shape := ⟨1, ![17408]⟩
abbrev S17408x1 : Shape := ⟨2, ![17408, 1]⟩

abbrev nBuf : Space → Nat
  | .hbm => 119
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S17408x512, .bf16⟩
  | .hbm, ⟨3, _⟩ => ⟨S1x1024x5192, .f32⟩
  | .hbm, ⟨4, _⟩ => ⟨S1x5192, .f32⟩
  | .hbm, ⟨5, _⟩ => ⟨S1x3x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S_, .f32⟩
  | .hbm, ⟨13, _⟩ => ⟨S1008x1024, .f32⟩
  | .hbm, ⟨14, _⟩ => ⟨S17408x1024, .f32⟩
  | .hbm, ⟨15, _⟩ => ⟨S1024x5192, .f32⟩
  | .hbm, ⟨16, _⟩ => ⟨S17408x5192, .f32⟩
  | .hbm, ⟨17, _⟩ => ⟨S5192, .f32⟩
  | .hbm, ⟨18, _⟩ => ⟨S1x5192, .f32⟩
  | .hbm, ⟨19, _⟩ => ⟨S17408x5192, .f32⟩
  | .hbm, ⟨20, _⟩ => ⟨S17408x5192, .f32⟩
  | .hbm, ⟨21, _⟩ => ⟨S17408x512, .f32⟩
  | .hbm, ⟨22, _⟩ => ⟨S17408x256, .f32⟩
  | .hbm, ⟨23, _⟩ => ⟨S17408x256, .f32⟩
  | .hbm, ⟨24, _⟩ => ⟨S17408x512, .f32⟩
  | .hbm, ⟨25, _⟩ => ⟨S17408x8, .f32⟩
  | .hbm, ⟨26, _⟩ => ⟨S17408x64, .f32⟩
  | .hbm, ⟨27, _⟩ => ⟨S17408x512, .f32⟩
  | .hbm, ⟨28, _⟩ => ⟨S17408x512, .f32⟩
  | .hbm, ⟨29, _⟩ => ⟨S17408x512, .f32⟩
  | .hbm, ⟨30, _⟩ => ⟨S17408x1024, .f32⟩
  | .hbm, ⟨31, _⟩ => ⟨S17408x1024, .f32⟩
  | .hbm, ⟨32, _⟩ => ⟨S3x512, .f32⟩
  | .hbm, ⟨33, _⟩ => ⟨S_, .f32⟩
  | .hbm, ⟨34, _⟩ => ⟨S2x512, .f32⟩
  | .hbm, ⟨35, _⟩ => ⟨S17408x512, .f32⟩
  | .hbm, ⟨36, _⟩ => ⟨S17410x512, .f32⟩
  | .hbm, ⟨37, _⟩ => ⟨S1x512, .f32⟩
  | .hbm, ⟨38, _⟩ => ⟨S512, .f32⟩
  | .hbm, ⟨39, _⟩ => ⟨S17408x512, .f32⟩
  | .hbm, ⟨40, _⟩ => ⟨S1x512, .f32⟩
  | .hbm, ⟨41, _⟩ => ⟨S17408x512, .f32⟩
  | .hbm, ⟨42, _⟩ => ⟨S17408x512, .f32⟩
  | .hbm, ⟨43, _⟩ => ⟨S1x512, .f32⟩
  | .hbm, ⟨44, _⟩ => ⟨S512, .f32⟩
  | .hbm, ⟨45, _⟩ => ⟨S17408x512, .f32⟩
  | .hbm, ⟨46, _⟩ => ⟨S1x512, .f32⟩
  | .hbm, ⟨47, _⟩ => ⟨S17408x512, .f32⟩
  | .hbm, ⟨48, _⟩ => ⟨S17408x512, .f32⟩
  | .hbm, ⟨49, _⟩ => ⟨S17408x512, .f32⟩
  | .hbm, ⟨50, _⟩ => ⟨S1x512, .f32⟩
  | .hbm, ⟨51, _⟩ => ⟨S512, .f32⟩
  | .hbm, ⟨52, _⟩ => ⟨S17408x512, .f32⟩
  | .hbm, ⟨53, _⟩ => ⟨S1x512, .f32⟩
  | .hbm, ⟨54, _⟩ => ⟨S17408x512, .f32⟩
  | .hbm, ⟨55, _⟩ => ⟨S17408x512, .f32⟩
  | .hbm, ⟨56, _⟩ => ⟨S17408x512, .f32⟩
  | .hbm, ⟨57, _⟩ => ⟨S17408x512, .f32⟩
  | .hbm, ⟨58, _⟩ => ⟨S17408x512, .f32⟩
  | .hbm, ⟨59, _⟩ => ⟨S512x1024, .f32⟩
  | .hbm, ⟨60, _⟩ => ⟨S17408x1024, .f32⟩
  | .hbm, ⟨61, _⟩ => ⟨S512x1024, .f32⟩
  | .hbm, ⟨62, _⟩ => ⟨S17408x1024, .f32⟩
  | .hbm, ⟨63, _⟩ => ⟨S17408x1024, .f32⟩
  | .hbm, ⟨64, _⟩ => ⟨S17408x1024, .f32⟩
  | .hbm, ⟨65, _⟩ => ⟨S_, .f32⟩
  | .hbm, ⟨66, _⟩ => ⟨S17408x1024, .f32⟩
  | .hbm, ⟨67, _⟩ => ⟨S17408x1024, .f32⟩
  | .hbm, ⟨68, _⟩ => ⟨S_, .f32⟩
  | .hbm, ⟨69, _⟩ => ⟨S17408x1024, .f32⟩
  | .hbm, ⟨70, _⟩ => ⟨S17408x1024, .f32⟩
  | .hbm, ⟨71, _⟩ => ⟨S17408x1024, .f32⟩
  | .hbm, ⟨72, _⟩ => ⟨S17408x1024, .f32⟩
  | .hbm, ⟨73, _⟩ => ⟨S17408x1024, .f32⟩
  | .hbm, ⟨74, _⟩ => ⟨S_, .f32⟩
  | .hbm, ⟨75, _⟩ => ⟨S17408x1024, .f32⟩
  | .hbm, ⟨76, _⟩ => ⟨S17408x1024, .f32⟩
  | .hbm, ⟨77, _⟩ => ⟨S_, .f32⟩
  | .hbm, ⟨78, _⟩ => ⟨S17408x1024, .f32⟩
  | .hbm, ⟨79, _⟩ => ⟨S17408x1024, .f32⟩
  | .hbm, ⟨80, _⟩ => ⟨S17408x1024, .f32⟩
  | .hbm, ⟨81, _⟩ => ⟨S17408x1024, .f32⟩
  | .hbm, ⟨82, _⟩ => ⟨S1024x1024, .f32⟩
  | .hbm, ⟨83, _⟩ => ⟨S17408x1024, .f32⟩
  | .hbm, ⟨84, _⟩ => ⟨S_, .f32⟩
  | .hbm, ⟨85, _⟩ => ⟨S17408x1024, .f32⟩
  | .hbm, ⟨86, _⟩ => ⟨S17408x1024, .f32⟩
  | .hbm, ⟨87, _⟩ => ⟨S17408x1024, .f32⟩
  | .hbm, ⟨88, _⟩ => ⟨S1024, .f32⟩
  | .hbm, ⟨89, _⟩ => ⟨S1024, .f32⟩
  | .hbm, ⟨90, _⟩ => ⟨S_, .f32⟩
  | .hbm, ⟨91, _⟩ => ⟨S17408, .f32⟩
  | .hbm, ⟨92, _⟩ => ⟨S17408x1, .f32⟩
  | .hbm, ⟨93, _⟩ => ⟨S_, .f32⟩
  | .hbm, ⟨94, _⟩ => ⟨S17408x1, .f32⟩
  | .hbm, ⟨95, _⟩ => ⟨S17408x1, .f32⟩
  | .hbm, ⟨96, _⟩ => ⟨S17408x1024, .f32⟩
  | .hbm, ⟨97, _⟩ => ⟨S17408x1024, .f32⟩
  | .hbm, ⟨98, _⟩ => ⟨S17408x1024, .f32⟩
  | .hbm, ⟨99, _⟩ => ⟨S_, .f32⟩
  | .hbm, ⟨100, _⟩ => ⟨S17408, .f32⟩
  | .hbm, ⟨101, _⟩ => ⟨S17408x1, .f32⟩
  | .hbm, ⟨102, _⟩ => ⟨S_, .f32⟩
  | .hbm, ⟨103, _⟩ => ⟨S17408x1, .f32⟩
  | .hbm, ⟨104, _⟩ => ⟨S17408x1, .f32⟩
  | .hbm, ⟨105, _⟩ => ⟨S17408x1024, .f32⟩
  | .hbm, ⟨106, _⟩ => ⟨S17408x1024, .f32⟩
  | .hbm, ⟨107, _⟩ => ⟨S_, .f32⟩
  | .hbm, ⟨108, _⟩ => ⟨S17408x1, .f32⟩
  | .hbm, ⟨109, _⟩ => ⟨S17408x1, .f32⟩
  | .hbm, ⟨110, _⟩ => ⟨S17408x1, .f32⟩
  | .hbm, ⟨111, _⟩ => ⟨S17408x1024, .f32⟩
  | .hbm, ⟨112, _⟩ => ⟨S17408x1024, .f32⟩
  | .hbm, ⟨113, _⟩ => ⟨S1x1024, .f32⟩
  | .hbm, ⟨114, _⟩ => ⟨S17408x1024, .f32⟩
  | .hbm, ⟨115, _⟩ => ⟨S17408x1024, .f32⟩
  | .hbm, ⟨116, _⟩ => ⟨S1x1024, .f32⟩
  | .hbm, ⟨117, _⟩ => ⟨S17408x1024, .f32⟩
  | .hbm, ⟨118, _⟩ => ⟨S17408x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_cst_4 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_5 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_6 : Ref sig .tc := ⟨.hbm, 90, rfl⟩
abbrev main_v72 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_8 : Ref sig .tc := ⟨.hbm, 99, rfl⟩
abbrev main_v79 : Ref sig .tc := ⟨.hbm, 100, rfl⟩
abbrev main_v80 : Ref sig .tc := ⟨.hbm, 101, rfl⟩
abbrev main_cst_9 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_10 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩

abbrev nD : Nat := 1
abbrev τ : Topo := Topo.v7x

variable {F : FTy → Type} [FloatOps F]
-- ==== Kernel3.lean ====
abbrev S1x16384x1024 : Shape := ⟨3, ![1, 16384, 1024]⟩
abbrev S16x1024 : Shape := ⟨2, ![16, 1024]⟩
abbrev S1x1024x5192 : Shape := ⟨3, ![1, 1024, 5192]⟩
abbrev S1x5192 : Shape := ⟨2, ![1, 5192]⟩
abbrev S512 : Shape := ⟨1, ![512]⟩
abbrev S16384x1024 : Shape := ⟨2, ![16384, 1024]⟩
abbrev S_ : Shape := ⟨0, ![]⟩
abbrev S1008x1024 : Shape := ⟨2, ![1008, 1024]⟩
abbrev S17408x1024 : Shape := ⟨2, ![17408, 1024]⟩
abbrev S17408 : Shape := ⟨1, ![17408]⟩
abbrev S32 : Shape := ⟨1, ![32]⟩
abbrev S17408x1 : Shape := ⟨2, ![17408, 1]⟩
abbrev S1x32 : Shape := ⟨2, ![1, 32]⟩
abbrev S17408x32 : Shape := ⟨2, ![17408, 32]⟩
abbrev S17408x128 : Shape := ⟨2, ![17408, 128]⟩
abbrev S1024x5192 : Shape := ⟨2, ![1024, 5192]⟩
abbrev S5192 : Shape := ⟨1, ![5192]⟩
abbrev S1024x512 : Shape := ⟨2, ![1024, 512]⟩
abbrev S1024x256 : Shape := ⟨2, ![1024, 256]⟩
abbrev S256 : Shape := ⟨1, ![256]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S1024x1024 : Shape := ⟨2, ![1024, 1024]⟩
abbrev S1024 : Shape := ⟨1, ![1024]⟩
abbrev S512x1 : Shape := ⟨2, ![512, 1]⟩
abbrev S1024x128 : Shape := ⟨2, ![1024, 128]⟩
abbrev S128 : Shape := ⟨1, ![128]⟩
abbrev S1x512 : Shape := ⟨2, ![1, 512]⟩
abbrev S1x256 : Shape := ⟨2, ![1, 256]⟩
abbrev S1x128 : Shape := ⟨2, ![1, 128]⟩
abbrev S1x1024 : Shape := ⟨2, ![1, 1024]⟩
abbrev S17408x512 : Shape := ⟨2, ![17408, 512]⟩
abbrev S256x16400 : Shape := ⟨2, ![256, 16400]⟩
abbrev S17408x256 : Shape := ⟨2, ![17408, 256]⟩
abbrev S256x17408 : Shape := ⟨2, ![256, 17408]⟩
abbrev S64x16400 : Shape := ⟨2, ![64, 16400]⟩
abbrev S8x17408 : Shape := ⟨2, ![8, 17408]⟩
abbrev S256x1024 : Shape := ⟨2, ![256, 1024]⟩
abbrev S64x1024 : Shape := ⟨2, ![64, 1024]⟩
abbrev S8x1024 : Shape := ⟨2, ![8, 1024]⟩
abbrev S128x1024 : Shape := ⟨2, ![128, 1024]⟩

abbrev nBuf : Space → Nat
  | .hbm => 109
  | .vmem => 36
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024x5192, .f32⟩
  | .hbm, ⟨3, _⟩ => ⟨S1x5192, .f32⟩
  | .hbm, ⟨4, _⟩ => ⟨S512, .i32⟩
  | .hbm, ⟨5, _⟩ => ⟨S512, .i1⟩
  | .hbm, ⟨6, _⟩ => ⟨S512, .i1⟩
  | .hbm, ⟨7, _⟩ => ⟨S16384x1024, .f32⟩
  | .hbm, ⟨8, _⟩ => ⟨S_, .f32⟩
  | .hbm, ⟨9, _⟩ => ⟨S1008x1024, .f32⟩
  | .hbm, ⟨10, _⟩ => ⟨S17408x1024, .f32⟩
  | .hbm, ⟨11, _⟩ => ⟨S17408, .i32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S17408, .f32⟩
  | .hbm, ⟨24, _⟩ => ⟨S17408x1, .f32⟩
  | .hbm, ⟨25, _⟩ => ⟨S1x32, .f32⟩
  | .hbm, ⟨26, _⟩ => ⟨S17408x32, .f32⟩
  | .hbm, ⟨27, _⟩ => ⟨S17408x32, .f32⟩
  | .hbm, ⟨28, _⟩ => ⟨S17408x32, .f32⟩
  | .hbm, ⟨29, _⟩ => ⟨S17408x32, .f32⟩
  | .hbm, ⟨30, _⟩ => ⟨S17408x32, .f32⟩
  | .hbm, ⟨31, _⟩ => ⟨S17408x128, .f32⟩
  | .hbm, ⟨32, _⟩ => ⟨S17408x32, .f32⟩
  | .hbm, ⟨33, _⟩ => ⟨S17408x128, .f32⟩
  | .hbm, ⟨34, _⟩ => ⟨S1024x5192, .f32⟩
  | .hbm, ⟨35, _⟩ => ⟨S5192, .f32⟩
  | .hbm, ⟨36, _⟩ => ⟨S1024x512, .f32⟩
  | .hbm, ⟨37, _⟩ => ⟨S512, .f32⟩
  | .hbm, ⟨38, _⟩ => ⟨S1024x256, .f32⟩
  | .hbm, ⟨39, _⟩ => ⟨S256, .f32⟩
  | .hbm, ⟨40, _⟩ => ⟨S1024x256, .f32⟩
  | .hbm, ⟨41, _⟩ => ⟨S256, .f32⟩
  | .hbm, ⟨42, _⟩ => ⟨S1024x512, .f32⟩
  | .hbm, ⟨43, _⟩ => ⟨S512, .f32⟩
  | .hbm, ⟨44, _⟩ => ⟨S1024x8, .f32⟩
  | .hbm, ⟨45, _⟩ => ⟨S8, .f32⟩
  | .hbm, ⟨46, _⟩ => ⟨S1024x64, .f32⟩
  | .hbm, ⟨47, _⟩ => ⟨S64, .f32⟩
  | .hbm, ⟨48, _⟩ => ⟨S1024x512, .f32⟩
  | .hbm, ⟨49, _⟩ => ⟨S512, .f32⟩
  | .hbm, ⟨50, _⟩ => ⟨S1024x512, .f32⟩
  | .hbm, ⟨51, _⟩ => ⟨S512, .f32⟩
  | .hbm, ⟨52, _⟩ => ⟨S1024x512, .f32⟩
  | .hbm, ⟨53, _⟩ => ⟨S512, .f32⟩
  | .hbm, ⟨54, _⟩ => ⟨S1024x1024, .f32⟩
  | .hbm, ⟨55, _⟩ => ⟨S1024, .f32⟩
  | .hbm, ⟨56, _⟩ => ⟨S1024x1024, .f32⟩
  | .hbm, ⟨57, _⟩ => ⟨S1024, .f32⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S512, .i32⟩
  | .hbm, ⟨62, _⟩ => ⟨S512x1, .i32⟩
  | .hbm, ⟨63, _⟩ => ⟨S1024x512, .f32⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S512, .f32⟩
  | .hbm, ⟨70, _⟩ => ⟨S1024x128, .f32⟩
  | .hbm, ⟨71, _⟩ => ⟨S128, .f32⟩
  | .hbm, ⟨72, _⟩ => ⟨S_, .i32⟩
  | .hbm, ⟨73, _⟩ => ⟨S_, .f32⟩
  | .hbm, ⟨74, _⟩ => ⟨S1024x128, .f32⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S1024x512, .bf16⟩
  | .hbm, ⟨79, _⟩ => ⟨S1x512, .f32⟩
  | .hbm, ⟨80, _⟩ => ⟨S1024x256, .bf16⟩
  | .hbm, ⟨81, _⟩ => ⟨S1x256, .f32⟩
  | .hbm, ⟨82, _⟩ => ⟨S1024x256, .bf16⟩
  | .hbm, ⟨83, _⟩ => ⟨S1x256, .f32⟩
  | .hbm, ⟨84, _⟩ => ⟨S1024x512, .bf16⟩
  | .hbm, ⟨85, _⟩ => ⟨S1x512, .f32⟩
  | .hbm, ⟨86, _⟩ => ⟨S1024x128, .bf16⟩
  | .hbm, ⟨87, _⟩ => ⟨S1x128, .f32⟩
  | .hbm, ⟨88, _⟩ => ⟨S1024x128, .bf16⟩
  | .hbm, ⟨89, _⟩ => ⟨S1x128, .f32⟩
  | .hbm, ⟨90, _⟩ => ⟨S1024x512, .bf16⟩
  | .hbm, ⟨91, _⟩ => ⟨S1x512, .f32⟩
  | .hbm, ⟨92, _⟩ => ⟨S1024x512, .bf16⟩
  | .hbm, ⟨93, _⟩ => ⟨S1x512, .f32⟩
  | .hbm, ⟨94, _⟩ => ⟨S1024x512, .bf16⟩
  | .hbm, ⟨95, _⟩ => ⟨S1x512, .f32⟩
  | .hbm, ⟨96, _⟩ => ⟨S1024x1024, .bf16⟩
  | .hbm, ⟨97, _⟩ => ⟨S1x1024, .f32⟩
  | .hbm, ⟨98, _⟩ => ⟨S1024x1024, .bf16⟩
  | .hbm, ⟨99, _⟩ => ⟨S1x1024, .f32⟩
  | .hbm, ⟨100, _⟩ => ⟨S17408x512, .bf16⟩
  | .hbm, ⟨101, _⟩ => ⟨S256x16400, .f32⟩
  | .hbm, ⟨102, _⟩ => ⟨S17408x256, .bf16⟩
  | .hbm, ⟨103, _⟩ => ⟨S256x16400, .f32⟩
  | .hbm, ⟨104, _⟩ => ⟨S256x17408, .bf16⟩
  | .hbm, ⟨105, _⟩ => ⟨S17408x512, .bf16⟩
  | .hbm, ⟨106, _⟩ => ⟨S64x16400, .f32⟩
  | .hbm, ⟨107, _⟩ => ⟨S17408x128, .bf16⟩
  | .hbm, ⟨108, _⟩ => ⟨S8x17408, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x512, .bf16⟩
  | .local _ .vmem, ⟨7, _⟩ => ⟨S1x512, .f32⟩
  | .local _ .vmem, ⟨8, _⟩ => ⟨S1024x256, .bf16⟩
  | .local _ .vmem, ⟨9, _⟩ => ⟨S1x256, .f32⟩
  | .local _ .vmem, ⟨10, _⟩ => ⟨S1024x256, .bf16⟩
  | .local _ .vmem, ⟨11, _⟩ => ⟨S1x256, .f32⟩
  | .local _ .vmem, ⟨12, _⟩ => ⟨S1024x512, .bf16⟩
  | .local _ .vmem, ⟨13, _⟩ => ⟨S1x512, .f32⟩
  | .local _ .vmem, ⟨14, _⟩ => ⟨S1024x128, .bf16⟩
  | .local _ .vmem, ⟨15, _⟩ => ⟨S1x128, .f32⟩
  | .local _ .vmem, ⟨16, _⟩ => ⟨S1024x128, .bf16⟩
  | .local _ .vmem, ⟨17, _⟩ => ⟨S1x128, .f32⟩
  | .local _ .vmem, ⟨18, _⟩ => ⟨S1024x512, .bf16⟩
  | .local _ .vmem, ⟨19, _⟩ => ⟨S1024x512, .bf16⟩
  | .local _ .vmem, ⟨20, _⟩ => ⟨S256x1024, .f32⟩
  | .local _ .vmem, ⟨21, _⟩ => ⟨S256x1024, .f32⟩
  | .local _ .vmem, ⟨22, _⟩ => ⟨S1024x256, .bf16⟩
  | .local _ .vmem, ⟨23, _⟩ => ⟨S1024x256, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S1024x512, .bf16⟩
  | .local _ .vmem, ⟨29, _⟩ => ⟨S1024x512, .bf16⟩
  | .local _ .vmem, ⟨30, _⟩ => ⟨S64x1024, .f32⟩
  | .local _ .vmem, ⟨31, _⟩ => ⟨S64x1024, .f32⟩
  | .local _ .vmem, ⟨32, _⟩ => ⟨S1024x128, .bf16⟩
  | .local _ .vmem, ⟨33, _⟩ => ⟨S1024x128, .bf16⟩
  | .local _ .vmem, ⟨34, _⟩ => ⟨S8x1024, .f32⟩
  | .local _ .vmem, ⟨35, _⟩ => ⟨S8x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_7 : Ref sig .tc := ⟨.hbm, 72, rfl⟩
abbrev main_call0_v0 : Ref sig .tc := ⟨.hbm, 73, rfl⟩
abbrev main_v59 : Ref sig .tc := ⟨.hbm, 74, rfl⟩
abbrev main_c_8 : Ref sig .tc := ⟨.hbm, 75, rfl⟩
abbrev main_call1_v0 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83_0 : Ref sig .tc := ⟨.hbm, 100, rfl⟩
abbrev main_v83_1 : Ref sig .tc := ⟨.hbm, 101, rfl⟩
abbrev main_v83_2 : Ref sig .tc := ⟨.hbm, 102, rfl⟩
abbrev main_v83_3 : Ref sig .tc := ⟨.hbm, 103, rfl⟩
abbrev main_v83_4 : Ref sig .tc := ⟨.hbm, 104, rfl⟩
abbrev main_v83_5 : Ref sig .tc := ⟨.hbm, 105, rfl⟩
abbrev main_v83_6 : Ref sig .tc := ⟨.hbm, 106, rfl⟩
abbrev main_v83_7 : Ref sig .tc := ⟨.hbm, 107, rfl⟩
abbrev main_v83_8 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference3Ideal.lean ====
abbrev S1x16384x1024 : Shape := ⟨3, ![1, 16384, 1024]⟩
abbrev S16x1024 : Shape := ⟨2, ![16, 1024]⟩
abbrev S1x1024x5192 : Shape := ⟨3, ![1, 1024, 5192]⟩
abbrev S1x5192 : Shape := ⟨2, ![1, 5192]⟩
abbrev S16384x1024 : Shape := ⟨2, ![16384, 1024]⟩
abbrev S16400x1024 : Shape := ⟨2, ![16400, 1024]⟩
abbrev S16400 : Shape := ⟨1, ![16400]⟩
abbrev S1024x5192 : Shape := ⟨2, ![1024, 5192]⟩
abbrev S16400x5192 : Shape := ⟨2, ![16400, 5192]⟩
abbrev S5192 : Shape := ⟨1, ![5192]⟩
abbrev S16400x512 : Shape := ⟨2, ![16400, 512]⟩
abbrev S16400x256 : Shape := ⟨2, ![16400, 256]⟩
abbrev S16400x8 : Shape := ⟨2, ![16400, 8]⟩
abbrev S16400x64 : Shape := ⟨2, ![16400, 64]⟩
abbrev S16400x4x64 : Shape := ⟨3, ![16400, 4, 64]⟩
abbrev S32 : Shape := ⟨1, ![32]⟩
abbrev S_ : Shape := ⟨0, ![]⟩
abbrev S16400x1 : Shape := ⟨2, ![16400, 1]⟩
abbrev S1x32 : Shape := ⟨2, ![1, 32]⟩
abbrev S16400x32 : Shape := ⟨2, ![16400, 32]⟩
abbrev S16400x1x32 : Shape := ⟨3, ![16400, 1, 32]⟩
abbrev S16400x4x32 : Shape := ⟨3, ![16400, 4, 32]⟩
abbrev S16400x1x64 : Shape := ⟨3, ![16400, 1, 64]⟩
abbrev S256x16400 : Shape := ⟨2, ![256, 16400]⟩
abbrev S64x16400 : Shape := ⟨2, ![64, 16400]⟩

abbrev nBuf : Space → Nat
  | .hbm => 95
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024x5192, .f32⟩
  | .hbm, ⟨3, _⟩ => ⟨S1x5192, .f32⟩
  | .hbm, ⟨4, _⟩ => ⟨S16384x1024, .f32⟩
  | .hbm, ⟨5, _⟩ => ⟨S16400x1024, .f32⟩
  | .hbm, ⟨6, _⟩ => ⟨S16400, .i32⟩
  | .hbm, ⟨7, _⟩ => ⟨S1024x5192, .f32⟩
  | .hbm, ⟨8, _⟩ => ⟨S16400x5192, .f32⟩
  | .hbm, ⟨9, _⟩ => ⟨S5192, .f32⟩
  | .hbm, ⟨10, _⟩ => ⟨S1x5192, .f32⟩
  | .hbm, ⟨11, _⟩ => ⟨S16400x5192, .f32⟩
  | .hbm, ⟨12, _⟩ => ⟨S16400x5192, .f32⟩
  | .hbm, ⟨13, _⟩ => ⟨S16400x512, .f32⟩
  | .hbm, ⟨14, _⟩ => ⟨S16400x256, .f32⟩
  | .hbm, ⟨15, _⟩ => ⟨S16400x256, .f32⟩
  | .hbm, ⟨16, _⟩ => ⟨S16400x512, .f32⟩
  | .hbm, ⟨17, _⟩ => ⟨S16400x8, .f32⟩
  | .hbm, ⟨18, _⟩ => ⟨S16400x64, .f32⟩
  | .hbm, ⟨19, _⟩ => ⟨S16400x512, .f32⟩
  | .hbm, ⟨20, _⟩ => ⟨S16400x512, .f32⟩
  | .hbm, ⟨21, _⟩ => ⟨S16400x512, .f32⟩
  | .hbm, ⟨22, _⟩ => ⟨S16400x1024, .f32⟩
  | .hbm, ⟨23, _⟩ => ⟨S16400x1024, .f32⟩
  | .hbm, ⟨24, _⟩ => ⟨S16400x4x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S16400, .f32⟩
  | .hbm, ⟨37, _⟩ => ⟨S16400x1, .f32⟩
  | .hbm, ⟨38, _⟩ => ⟨S1x32, .f32⟩
  | .hbm, ⟨39, _⟩ => ⟨S16400x32, .f32⟩
  | .hbm, ⟨40, _⟩ => ⟨S16400x32, .f32⟩
  | .hbm, ⟨41, _⟩ => ⟨S16400x32, .f32⟩
  | .hbm, ⟨42, _⟩ => ⟨S16400x32, .f32⟩
  | .hbm, ⟨43, _⟩ => ⟨S16400x1x32, .f32⟩
  | .hbm, ⟨44, _⟩ => ⟨S16400x32, .f32⟩
  | .hbm, ⟨45, _⟩ => ⟨S16400x1x32, .f32⟩
  | .hbm, ⟨46, _⟩ => ⟨S16400x4x32, .f32⟩
  | .hbm, ⟨47, _⟩ => ⟨S16400x4x32, .f32⟩
  | .hbm, ⟨48, _⟩ => ⟨S16400x4x32, .f32⟩
  | .hbm, ⟨49, _⟩ => ⟨S16400x4x32, .f32⟩
  | .hbm, ⟨50, _⟩ => ⟨S16400x4x32, .f32⟩
  | .hbm, ⟨51, _⟩ => ⟨S16400x4x32, .f32⟩
  | .hbm, ⟨52, _⟩ => ⟨S16400x4x32, .f32⟩
  | .hbm, ⟨53, _⟩ => ⟨S16400x4x32, .f32⟩
  | .hbm, ⟨54, _⟩ => ⟨S16400x4x32, .f32⟩
  | .hbm, ⟨55, _⟩ => ⟨S16400x4x32, .f32⟩
  | .hbm, ⟨56, _⟩ => ⟨S16400x4x32, .f32⟩
  | .hbm, ⟨57, _⟩ => ⟨S16400x4x32, .f32⟩
  | .hbm, ⟨58, _⟩ => ⟨S16400x4x64, .f32⟩
  | .hbm, ⟨59, _⟩ => ⟨S16400x1x64, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S16400, .f32⟩
  | .hbm, ⟨72, _⟩ => ⟨S16400x1, .f32⟩
  | .hbm, ⟨73, _⟩ => ⟨S1x32, .f32⟩
  | .hbm, ⟨74, _⟩ => ⟨S16400x32, .f32⟩
  | .hbm, ⟨75, _⟩ => ⟨S16400x32, .f32⟩
  | .hbm, ⟨76, _⟩ => ⟨S16400x32, .f32⟩
  | .hbm, ⟨77, _⟩ => ⟨S16400x32, .f32⟩
  | .hbm, ⟨78, _⟩ => ⟨S16400x1x32, .f32⟩
  | .hbm, ⟨79, _⟩ => ⟨S16400x32, .f32⟩
  | .hbm, ⟨80, _⟩ => ⟨S16400x1x32, .f32⟩
  | .hbm, ⟨81, _⟩ => ⟨S16400x1x32, .f32⟩
  | .hbm, ⟨82, _⟩ => ⟨S16400x1x32, .f32⟩
  | .hbm, ⟨83, _⟩ => ⟨S16400x1x32, .f32⟩
  | .hbm, ⟨84, _⟩ => ⟨S16400x1x32, .f32⟩
  | .hbm, ⟨85, _⟩ => ⟨S16400x1x32, .f32⟩
  | .hbm, ⟨86, _⟩ => ⟨S16400x1x32, .f32⟩
  | .hbm, ⟨87, _⟩ => ⟨S16400x1x32, .f32⟩
  | .hbm, ⟨88, _⟩ => ⟨S16400x1x32, .f32⟩
  | .hbm, ⟨89, _⟩ => ⟨S16400x1x64, .f32⟩
  | .hbm, ⟨90, _⟩ => ⟨S16400x64, .f32⟩
  | .hbm, ⟨91, _⟩ => ⟨S16400x256, .f32⟩
  | .hbm, ⟨92, _⟩ => ⟨S256x16400, .f32⟩
  | .hbm, ⟨93, _⟩ => ⟨S256x16400, .f32⟩
  | .hbm, ⟨94, _⟩ => ⟨S64x16400, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_2 : Ref sig .tc := ⟨.hbm, 62, rfl⟩
abbrev main_v55 : Ref sig .tc := ⟨.hbm, 63, rfl⟩
abbrev main_v56 : Ref sig .tc := ⟨.hbm, 64, rfl⟩
abbrev main_cst_3 : Ref sig .tc := ⟨.hbm, 65, rfl⟩
abbrev main_v57 : Ref sig .tc := ⟨.hbm, 66, rfl⟩
abbrev main_v58 : Ref sig .tc := ⟨.hbm, 67, rfl⟩
abbrev main_cst_4 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩

abbrev nD : Nat := 1
abbrev τ : Topo := Topo.v7x

variable {F : FTy → Type} [FloatOps F]
-- ==== Proof.Stages.lean ====
/-
  The reference's result, in stages: each definition is the operations of some lines of the reference, over what the lines before give.
  `refrun`: the reference ends with its last stage in its result array.
-/
module

public import proofs.«01_k».proof.Defs
public import proofs.«01_k».proof.Proof.Gen.ReferenceIdeal
public import Idealize.ShloMosaic.Lib.Claim
public import Idealize.ShloMosaic.Lib.Pipeline.ValueKit

@[expose] public section

set_option maxRecDepth 16384

noncomputable section

namespace Cert.ReferenceIdeal.Stages

open Idealize.ShloMosaic Idealize.ShloMosaic.TcCoe Idealize.SL.Sem
open Cert.ReferenceIdeal Cert.ReferenceIdeal.Facts₀ Cert.ReferenceIdeal.Facts

local instance : Cert.ReferenceIdeal.Facts := Cert.ReferenceIdeal.Gen.facts

/-- The logits of the four groups. -/
def groupLogits (h : FVec Ideal S17408x1024 .f32) (wGroup : FVec Ideal S1x1024x4 .f32) (bGroup : FVec Ideal S1x4 .f32) : FVec Ideal S17408x4 .f32 :=
  addf (Host.dotGeneral dot_S17408x1024_S1024x4_S17408x4_1_0_0_1_n_n none h (shapeCast S1024x4 wGroup shapeCasts_S1x1024x4_S1024x4)) (broadcastInDim S17408x4 ![0, 1] bcast_S1x4_S17408x4_0_1 (broadcastInDim S1x4 ![1] bcast_S4_S1x4_1 (shapeCast S4 bGroup shapeCasts_S1x4_S4)))

/-- The chosen group: the argmax of the group logits. -/
def groupIndex (x_groupLogits : FVec Ideal S17408x4 .f32) : IVec S17408 32 :=
  (fun x y u v j => (Host.argReduce reducer_argmax_f32_i32 x y u v reducesTo_S17408x4_S17408_d1 h_S_ j).2) x_groupLogits (iotaInDim S17408x4 32 1) (constant S_ .f32 0xFF800000#32) (constantI S_ 32 0#32)

/-- The softmax of rows of four. -/
def softmax (x : FVec Ideal S17408x4 .f32) : FVec Ideal S17408x4 .f32 :=
  Host.divf (Host.exp (subf x (broadcastInDim S17408x4 ![0, 1] bcast_S17408x1_S17408x4_0_1 (broadcastInDim S17408x1 ![0] bcast_S17408_S17408x1_0 (maximumf (broadcastInDim S17408 ![] bcast_S_S17408 (constant S_ .f32 0xFF800000#32)) (Host.reduce FloatOps.maximumf x (constant S_ .f32 0xFF800000#32) reducesTo_S17408x4_S17408_d1 h_S_)))))) (broadcastInDim S17408x4 ![0, 1] bcast_S17408x1_S17408x4_0_1 (broadcastInDim S17408x1 ![0] bcast_S17408_S17408x1_0 (Host.reduceAdd (Host.exp (subf x (broadcastInDim S17408x4 ![0, 1] bcast_S17408x1_S17408x4_0_1 (broadcastInDim S17408x1 ![0] bcast_S17408_S17408x1_0 (maximumf (broadcastInDim S17408 ![] bcast_S_S17408 (constant S_ .f32 0xFF800000#32)) (Host.reduce FloatOps.maximumf x (constant S_ .f32 0xFF800000#32) reducesTo_S17408x4_S17408_d1 h_S_)))))) (constant S_ .f32 0x00000000#32) reducesTo_S17408x4_S17408_d1 h_S_)))

/-- The chosen group's probability, gathered. -/
def groupProb (x_groupIndex : IVec S17408 32) (x_softmax : FVec Ideal S17408x4 .f32) : FVec Ideal S17408x1 .f32 :=
  select (Host.reduce IntOp.andi (andi (cmpi .sge (shapeCast S17408x1x1 (select (cmpi .slt (broadcastInDim S17408x1 ![0] bcast_S17408_S17408x1_0 x_groupIndex) (broadcastInDim S17408x1 ![] bcast_S_S17408x1 (constantI S_ 32 0#32))) (addi (broadcastInDim S17408x1 ![0] bcast_S17408_S17408x1_0 x_groupIndex) (broadcastInDim S17408x1 ![] bcast_S_S17408x1 (constantI S_ 32 4#32))) (broadcastInDim S17408x1 ![0] bcast_S17408_S17408x1_0 x_groupIndex)) shapeCasts_S17408x1_S17408x1x1) (broadcastInDim S17408x1x1 ![] bcast_S_S17408x1x1 (constantI S_ 32 0#32))) (cmpi .sle (shapeCast S17408x1x1 (select (cmpi .slt (broadcastInDim S17408x1 ![0] bcast_S17408_S17408x1_0 x_groupIndex) (broadcastInDim S17408x1 ![] bcast_S_S17408x1 (constantI S_ 32 0#32))) (addi (broadcastInDim S17408x1 ![0] bcast_S17408_S17408x1_0 x_groupIndex) (broadcastInDim S17408x1 ![] bcast_S_S17408x1 (constantI S_ 32 4#32))) (broadcastInDim S17408x1 ![0] bcast_S17408_S17408x1_0 x_groupIndex)) shapeCasts_S17408x1_S17408x1x1) (broadcastInDim S17408x1x1 ![0, 1, 2] bcast_S1x1x1_S17408x1x1_0_1_2 (broadcastInDim S1x1x1 ![2] bcast_S1_S1x1x1_2 (constantI S1 32 3#32))))) (constantI S_ 1 1#1) reducesTo_S17408x1x1_S17408x1_d2 h_S_) (Host.gather gather_S17408x4_S17408x1x1_S17408x1_n_1_0_0_1_2_11 x_softmax (shapeCast S17408x1x1 (select (cmpi .slt (broadcastInDim S17408x1 ![0] bcast_S17408_S17408x1_0 x_groupIndex) (broadcastInDim S17408x1 ![] bcast_S_S17408x1 (constantI S_ 32 0#32))) (addi (broadcastInDim S17408x1 ![0] bcast_S17408_S17408x1_0 x_groupIndex) (broadcastInDim S17408x1 ![] bcast_S_S17408x1 (constantI S_ 32 4#32))) (broadcastInDim S17408x1 ![0] bcast_S17408_S17408x1_0 x_groupIndex)) shapeCasts_S17408x1_S17408x1x1)) (broadcastInDim S17408x1 ![] bcast_S_S17408x1 (constant S_ .f32 0x7FC00000#32))

/-- The logits of the sixteen experts, by group. -/
def expertLogits (h : FVec Ideal S17408x1024 .f32) (wExpert : FVec Ideal S1x1024x16 .f32) (bExpert : FVec Ideal S1x16 .f32) : FVec Ideal S17408x4x4 .f32 :=
  shapeCast S17408x4x4 (addf (Host.dotGeneral dot_S17408x1024_S1024x16_S17408x16_1_0_0_1_n_n none h (shapeCast S1024x16 wExpert shapeCasts_S1x1024x16_S1024x16)) (broadcastInDim S17408x16 ![0, 1] bcast_S1x16_S17408x16_0_1 (broadcastInDim S1x16 ![1] bcast_S16_S1x16_1 (shapeCast S16 bExpert shapeCasts_S1x16_S16)))) shapeCasts_S17408x16_S17408x4x4

/-- The chosen group's expert logits, gathered. -/
def chosenLogits (x_groupIndex : IVec S17408 32) (x_expertLogits : FVec Ideal S17408x4x4 .f32) : FVec Ideal S17408x4 .f32 :=
  shapeCast S17408x4 (select (broadcastInDim S17408x1x4 ![0, 1] bcast_S17408x1_S17408x1x4_0_1 (Host.reduce IntOp.andi (andi (cmpi .sge (select (cmpi .slt (broadcastInDim S17408x1x1 ![0] bcast_S17408_S17408x1x1_0 x_groupIndex) (broadcastInDim S17408x1x1 ![] bcast_S_S17408x1x1 (constantI S_ 32 0#32))) (addi (broadcastInDim S17408x1x1 ![0] bcast_S17408_S17408x1x1_0 x_groupIndex) (broadcastInDim S17408x1x1 ![] bcast_S_S17408x1x1 (constantI S_ 32 4#32))) (broadcastInDim S17408x1x1 ![0] bcast_S17408_S17408x1x1_0 x_groupIndex)) (broadcastInDim S17408x1x1 ![] bcast_S_S17408x1x1 (constantI S_ 32 0#32))) (cmpi .sle (select (cmpi .slt (broadcastInDim S17408x1x1 ![0] bcast_S17408_S17408x1x1_0 x_groupIndex) (broadcastInDim S17408x1x1 ![] bcast_S_S17408x1x1 (constantI S_ 32 0#32))) (addi (broadcastInDim S17408x1x1 ![0] bcast_S17408_S17408x1x1_0 x_groupIndex) (broadcastInDim S17408x1x1 ![] bcast_S_S17408x1x1 (constantI S_ 32 4#32))) (broadcastInDim S17408x1x1 ![0] bcast_S17408_S17408x1x1_0 x_groupIndex)) (broadcastInDim S17408x1x1 ![0, 1, 2] bcast_S1x1x1_S17408x1x1_0_1_2 (broadcastInDim S1x1x1 ![2] bcast_S1_S1x1x1_2 (constantI S1 32 3#32))))) (constantI S_ 1 1#1) reducesTo_S17408x1x1_S17408x1_d2 h_S_)) (Host.gather gather_S17408x4x4_S17408x1x1_S17408x1x4_2_1_0_0_1_2_114 x_expertLogits (select (cmpi .slt (broadcastInDim S17408x1x1 ![0] bcast_S17408_S17408x1x1_0 x_groupIndex) (broadcastInDim S17408x1x1 ![] bcast_S_S17408x1x1 (constantI S_ 32 0#32))) (addi (broadcastInDim S17408x1x1 ![0] bcast_S17408_S17408x1x1_0 x_groupIndex) (broadcastInDim S17408x1x1 ![] bcast_S_S17408x1x1 (constantI S_ 32 4#32))) (broadcastInDim S17408x1x1 ![0] bcast_S17408_S17408x1x1_0 x_groupIndex))) (broadcastInDim S17408x1x4 ![] bcast_S_S17408x1x4 (constant S_ .f32 0x7FC00000#32))) shapeCasts_S17408x1x4_S17408x4

/-- The two greatest probabilities. -/
def topValues (x_softmax2 : FVec Ideal S17408x4 .f32) : FVec Ideal S17408x2 .f32 :=
  (Host.topK S17408x2 1 (FloatOps.cmpfTotal .gt) x_softmax2 sliceFits_S17408x4_S17408x2).1

/-- Their positions in the group. -/
def topIndices (x_softmax2 : FVec Ideal S17408x4 .f32) : IVec S17408x2 32 :=
  (Host.topK S17408x2 1 (FloatOps.cmpfTotal .gt) x_softmax2 sliceFits_S17408x4_S17408x2).2

/-- The two, normalised and scaled by the group's probability. -/
def topWeights (x_topValues : FVec Ideal S17408x2 .f32) (x_groupProb : FVec Ideal S17408x1 .f32) : FVec Ideal S17408x2 .f32 :=
  mulf (Host.divf x_topValues (broadcastInDim S17408x2 ![0, 1] bcast_S17408x1_S17408x2_0_1 (broadcastInDim S17408x1 ![0] bcast_S17408_S17408x1_0 (Host.reduceAdd x_topValues (constant S_ .f32 0x00000000#32) reducesTo_S17408x2_S17408_d1 h_S_)))) (broadcastInDim S17408x2 ![0, 1] bcast_S17408x1_S17408x2_0_1 x_groupProb)

/-- Their expert numbers. -/
def expertIds (x_groupIndex : IVec S17408 32) (x_topIndices : IVec S17408x2 32) : IVec S17408x2 32 :=
  addi (broadcastInDim S17408x2 ![0, 1] bcast_S17408x1_S17408x2_0_1 (muli (broadcastInDim S17408x1 ![0] bcast_S17408_S17408x1_0 x_groupIndex) (broadcastInDim S17408x1 ![] bcast_S_S17408x1 (constantI S_ 32 4#32)))) x_topIndices

/-- Every expert's weight: the one-hot rows of the two numbers, weighted and added. -/
def combine (x_expertIds : IVec S17408x2 32) (x_topWeights : FVec Ideal S17408x2 .f32) : FVec Ideal S17408x16 .f32 :=
  Host.reduceAdd (mulf (uitofp .f32 (cmpi .eq (broadcastInDim S17408x2x16 ![0, 1, 2] bcast_S17408x2x1_S17408x2x16_0_1_2 (broadcastInDim S17408x2x1 ![0, 1] bcast_S17408x2_S17408x2x1_0_1 x_expertIds)) (broadcastInDim S17408x2x16 ![0, 1, 2] bcast_S1x1x16_S17408x2x16_0_1_2 (iotaInDim S1x1x16 32 2)))) (broadcastInDim S17408x2x16 ![0, 1, 2] bcast_S17408x2x1_S17408x2x16_0_1_2 (broadcastInDim S17408x2x1 ![0, 1] bcast_S17408x2_S17408x2x1_0_1 x_topWeights))) (constant S_ .f32 0x00000000#32) reducesTo_S17408x2x16_S17408x16_d1 h_S_

/-- The experts' gated activations, weighted. -/
def hidden (h : FVec Ideal S17408x1024 .f32) (wGate : FVec Ideal S1x16x1024x256 .f32) (wUp : FVec Ideal S1x16x1024x256 .f32) (x_combine : FVec Ideal S17408x16 .f32) : FVec Ideal S17408x16x256 .f32 :=
  mulf (mulf (mulf (Host.dotGeneral dot_S17408x1024_S16x1024x256_S17408x16x256_1_1_0_02_n_n none h (shapeCast S16x1024x256 wGate shapeCasts_S1x16x1024x256_S16x1024x256)) (Host.divf (broadcastInDim S17408x16x256 ![] bcast_S_S17408x16x256 (constant S_ .f32 0x3F800000#32)) (addf (broadcastInDim S17408x16x256 ![] bcast_S_S17408x16x256 (constant S_ .f32 0x3F800000#32)) (Host.exp (Host.negf (Host.dotGeneral dot_S17408x1024_S16x1024x256_S17408x16x256_1_1_0_02_n_n none h (shapeCast S16x1024x256 wGate shapeCasts_S1x16x1024x256_S16x1024x256))))))) (Host.dotGeneral dot_S17408x1024_S16x1024x256_S17408x16x256_1_1_0_02_n_n none h (shapeCast S16x1024x256 wUp shapeCasts_S1x16x1024x256_S16x1024x256))) (broadcastInDim S17408x16x256 ![0, 1, 2] bcast_S17408x16x1_S17408x16x256_0_1_2 (broadcastInDim S17408x16x1 ![0, 1] bcast_S17408x16_S17408x16x1_0_1 x_combine))

/-- The experts' outputs, added. -/
def experts (x_hidden : FVec Ideal S17408x16x256 .f32) (wDown : FVec Ideal S1x16x256x1024 .f32) : FVec Ideal S17408x1024 .f32 :=
  Host.dotGeneral dot_S17408x16x256_S16x256x1024_S17408x1024_12_01_0_2_n_n none x_hidden (shapeCast S16x256x1024 wDown shapeCasts_S1x16x256x1024_S16x256x1024)

/-- The scaled residual sum. -/
def residual (h : FVec Ideal S17408x1024 .f32) (x_experts : FVec Ideal S17408x1024 .f32) : FVec Ideal S17408x1024 .f32 :=
  addf (mulf (broadcastInDim S17408x1024 ![] bcast_S_S17408x1024 (constant S_ .f32 0x3F9837F0#32)) h) x_experts

/-- The mean of every row. -/
def mean (x_residual : FVec Ideal S17408x1024 .f32) : FVec Ideal S17408x1 .f32 :=
  Host.divf (broadcastInDim S17408x1 ![0] bcast_S17408_S17408x1_0 (Host.reduceAdd x_residual (constant S_ .f32 0x00000000#32) reducesTo_S17408x1024_S17408_d1 h_S_)) (broadcastInDim S17408x1 ![] bcast_S_S17408x1 (constant S_ .f32 0x44800000#32))

/-- The variance of every row. -/
def variance (x_residual : FVec Ideal S17408x1024 .f32) (x_mean : FVec Ideal S17408x1 .f32) : FVec Ideal S17408x1 .f32 :=
  Host.divf (broadcastInDim S17408x1 ![0] bcast_S17408_S17408x1_0 (Host.reduceAdd (mulf (subf x_residual (broadcastInDim S17408x1024 ![0, 1] bcast_S17408x1_S17408x1024_0_1 x_mean)) (subf x_residual (broadcastInDim S17408x1024 ![0, 1] bcast_S17408x1_S17408x1024_0_1 x_mean))) (constant S_ .f32 0x00000000#32) reducesTo_S17408x1024_S17408_d1 h_S_)) (broadcastInDim S17408x1 ![] bcast_S_S17408x1 (constant S_ .f32 0x44800000#32))

/-- The layer norm of every row. -/
def normed (x_residual : FVec Ideal S17408x1024 .f32) (x_mean : FVec Ideal S17408x1 .f32) (x_variance : FVec Ideal S17408x1 .f32) (lnG : FVec Ideal S1x1024 .f32) (lnB : FVec Ideal S1x1024 .f32) : FVec Ideal S17408x1024 .f32 :=
  addf (mulf (mulf (subf x_residual (broadcastInDim S17408x1024 ![0, 1] bcast_S17408x1_S17408x1024_0_1 x_mean)) (broadcastInDim S17408x1024 ![0, 1] bcast_S17408x1_S17408x1024_0_1 (Host.rsqrt (addf x_variance (broadcastInDim S17408x1 ![] bcast_S_S17408x1 (constant S_ .f32 0x3727C5AC#32)))))) (broadcastInDim S17408x1024 ![0, 1] bcast_S1x1024_S17408x1024_0_1 (broadcastInDim S1x1024 ![1] bcast_S1024_S1x1024_1 (shapeCast S1024 lnG shapeCasts_S1x1024_S1024)))) (broadcastInDim S17408x1024 ![0, 1] bcast_S1x1024_S17408x1024_0_1 (broadcastInDim S1x1024 ![1] bcast_S1024_S1x1024_1 (shapeCast S1024 lnB shapeCasts_S1x1024_S1024)))

/-- The weight of every expert, from the rows and the router's weights and biases. -/
def weightsOf (h : FVec Ideal S17408x1024 .f32) (wGroup : FVec Ideal S1x1024x4 .f32) (bGroup : FVec Ideal S1x4 .f32) (wExpert : FVec Ideal S1x1024x16 .f32) (bExpert : FVec Ideal S1x16 .f32) : FVec Ideal S17408x16 .f32 :=
  combine (expertIds (groupIndex (groupLogits h wGroup bGroup)) (topIndices (softmax (chosenLogits (groupIndex (groupLogits h wGroup bGroup)) (expertLogits h wExpert bExpert))))) (topWeights (topValues (softmax (chosenLogits (groupIndex (groupLogits h wGroup bGroup)) (expertLogits h wExpert bExpert)))) (groupProb (groupIndex (groupLogits h wGroup bGroup)) (softmax (groupLogits h wGroup bGroup))))

/-- The residual sum, from the arguments. -/
def sumOf (h : FVec Ideal S17408x1024 .f32) (wGroup : FVec Ideal S1x1024x4 .f32) (bGroup : FVec Ideal S1x4 .f32) (wExpert : FVec Ideal S1x1024x16 .f32) (bExpert : FVec Ideal S1x16 .f32) (wGate : FVec Ideal S1x16x1024x256 .f32) (wUp : FVec Ideal S1x16x1024x256 .f32) (wDown : FVec Ideal S1x16x256x1024 .f32) : FVec Ideal S17408x1024 .f32 :=
  residual h (experts (hidden h wGate wUp (weightsOf h wGroup bGroup wExpert bExpert)) wDown)

/-- The whole reference. -/
def result (h : FVec Ideal S17408x1024 .f32) (wGroup : FVec Ideal S1x1024x4 .f32) (bGroup : FVec Ideal S1x4 .f32) (wExpert : FVec Ideal S1x1024x16 .f32) (bExpert : FVec Ideal S1x16 .f32) (wGate : FVec Ideal S1x16x1024x256 .f32) (wUp : FVec Ideal S1x16x1024x256 .f32) (wDown : FVec Ideal S1x16x256x1024 .f32) (lnG : FVec Ideal S1x1024 .f32) (lnB : FVec Ideal S1x1024 .f32) : FVec Ideal S17408x1024 .f32 :=
  normed (sumOf h wGroup bGroup wExpert bExpert wGate wUp wDown) (mean (sumOf h wGroup bGroup wExpert bExpert wGate wUp wDown)) (variance (sumOf h wGroup bGroup wExpert bExpert wGate wUp wDown) (mean (sumOf h wGroup bGroup wExpert bExpert wGate wUp wDown))) lnG lnB

set_option maxRecDepth 100000 in
set_option maxHeartbeats 600000 in
/-- THE REFERENCE'S RUN: its result array ends with `result` of its arguments. -/
theorem refrun (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v96) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  hlo_run
  simp only [StableHlo.TRef.ofBuf_toBuf]
  simp only [StableHlo.TRef.toBuf, StableHlo.TRef.ofBuf, ValueKit.castRfl]
  delta result sumOf weightsOf normed variance mean residual experts hidden combine expertIds topWeights topIndices topValues chosenLogits expertLogits groupProb softmax groupIndex groupLogits

  rfl

end Cert.ReferenceIdeal.Stages

end
-- ==== Proof.RefFrame.lean ====
/-
  The reference runs, leaves its arguments as they were and ends quiescent.
-/
module

public import proofs.«01_k».proof.Defs
public import proofs.«01_k».proof.Proof.Gen.ReferenceIdeal
public import Idealize.ShloMosaic.Lib.Claim

@[expose] public section

noncomputable section

namespace Cert.ReferenceIdeal.Frame

open Idealize.ShloMosaic Idealize.SL.Sem

/-- What the reference's final states are: the ten arguments as they were, every semaphore counter at zero. -/
abbrev Post (m : (ℓ : Loc nD τ sig) → Buf (Elt Ideal) ℓ) (r : PUnit × MemSt nD τ sig (Elt Ideal)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0

set_option maxRecDepth 100000 in
set_option maxHeartbeats 4000000 in
/-- The reference runs from any memory: no host operation writes an argument, and no semaphore is declared. -/
theorem frame (m : (ℓ : Loc nD τ sig) → Buf (Elt Ideal) ℓ) (g : Dev nD → PrngReg) :
    θ_run (defs (F := Ideal)) (onTc (τ := τ) (main (F := Ideal))) ⟨m, fun _ => 0, g⟩ (Post m) := by
  refine θ_run_mono (StableHlo.run_hlo _ _ (by hlo_seq) (by decide) (by decide) (by simp)
      (by intro _ h; (repeat (cases h with | head => rfl | tail _ h => ?_)); exact nomatch h) _ _) ?_
  intro r hr
  refine ⟨fun c => ?_, sem_eq_zero_of_no_sems (by decide) _⟩
  refine ⟨?_, ?_, ?_, ?_, ?_, ?_, ?_, ?_, ?_, ?_⟩
  all_goals
    refine (hr c _).trans (StableHlo.after_of_forall_not_mem _ _ (List.forall_iff_forall_mem.mp ?_))
    simp only [List.Forall, StableHlo.nullary_writes, StableHlo.unary_writes, StableHlo.binary_writes, StableHlo.ternary_writes, StableHlo.quaternary_writes, StableHlo.reshape_writes, StableHlo.nary_writes, StableHlo.binaryIndexed_writes, StableHlo.unaryIndexed_writes, Finset.mem_singleton]
    repeat' apply And.intro
    all_goals exact StableHlo.devRef_ne_of_ne (by decide)

end Cert.ReferenceIdeal.Frame

end
-- ==== Proof.Row.lean ====
/-
  The routing of one row, as mathematics over the extended reals.
  The kernel chooses a group and two of its experts by masked maxima over 128 lanes and by the least lane that attains them.
  The reference chooses them by an argmax and a top-2 over vectors of four. Here: what either choice means, and that the two
  give every expert the same weight.
-/
module

public import Idealize.ShloMosaic.PureOps.Ideal
public import Idealize.ShloMosaic.Lib.SortFacts

@[expose] public section

noncomputable section

namespace Cert.Row

open Idealize.ShloMosaic

/-! ## Greatest value first, lowest position among equals -/

/-- Position `i` is chosen before position `j`: its value is greater, or equal with a lower position. -/
def Before {n : ℕ} (f : Fin n → EReal) (i j : Fin n) : Prop := f j < f i ∨ (f i = f j ∧ i < j)

/-- Position `i` is the first choice. -/
def IsFirst {n : ℕ} (f : Fin n → EReal) (i : Fin n) : Prop := ∀ j, j ≠ i → Before f i j

/-- Position `i'` is the second choice, after `i`. -/
def IsSecond {n : ℕ} (f : Fin n → EReal) (i i' : Fin n) : Prop := i' ≠ i ∧ ∀ j, j ≠ i → j ≠ i' → Before f i' j

theorem IsFirst.le {n : ℕ} {f : Fin n → EReal} {i : Fin n} (h : IsFirst f i) (j : Fin n) : f j ≤ f i := by
  by_cases hj : j = i
  · rw [hj]
  · rcases h j hj with h1 | h1
    · exact h1.le
    · exact h1.1.ge

/-- The greatest of a family, from −∞ up. -/
def rowMax {n : ℕ} (f : Fin n → EReal) : EReal := Finset.univ.fold max ⊥ f

theorem IsFirst.rowMax_eq {n : ℕ} {f : Fin n → EReal} {i : Fin n} (h : IsFirst f i) : rowMax f = f i :=
  le_antisymm (Finset.fold_max_le _ |>.mpr ⟨bot_le, fun j _ => h.le j⟩)
    ((Finset.le_fold_max _).mpr (Or.inr ⟨i, Finset.mem_univ _, le_rfl⟩))

/-! ### The stable sort by descending value -/

section Sorted
variable {n : ℕ} (f : Fin n → EReal)

theorem pairwise_insertBefore (a : Fin n) (l : List (Fin n)) (ha : ∀ b ∈ l, a < b) (hl : l.Pairwise (Before f)) :
    (insertBefore (fun x y => decide (f y < f x)) a l).Pairwise (Before f) := by
  induction l with
  | nil => simp [insertBefore]
  | cons b l ih =>
    obtain ⟨hb, hl'⟩ := List.pairwise_cons.mp hl
    unfold insertBefore
    split
    · next h =>
      have hba : f a < f b := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : f b ≤ f a := by simpa using h
      refine List.pairwise_cons.mpr ⟨fun x hx => ?_, hl⟩
      have hle : f x ≤ f a := by
        rcases List.mem_cons.mp hx with rfl | hx'
        · exact hab
        · rcases hb x hx' with h1 | ⟨h1, -⟩
          · exact h1.le.trans hab
          · exact h1.ge.trans hab
      rcases lt_or_eq_of_le hle with h1 | h1
      · exact Or.inl h1
      · exact Or.inr ⟨h1.symm, ha x hx⟩

theorem pairwise_stableSort (l : List (Fin n)) (hl : l.Pairwise (· < ·)) :
    (stableSort (fun x y => decide (f y < f x)) l).Pairwise (Before f) := by
  induction l with
  | nil => simp [stableSort]
  | cons a l ih =>
    obtain ⟨ha, hl'⟩ := List.pairwise_cons.mp hl
    unfold stableSort
    exact pairwise_insertBefore f a _ (fun b hb => ha b ((perm_stableSort _ l).mem_iff.mp hb)) (ih hl')

/-- An earlier entry of the sorted positions is chosen before a later one. -/
theorem before_sortedFrom {i j : Fin n} (h : i < j) :
    Before f (sortedFrom (fun x y => decide (f y < f x)) i) (sortedFrom (fun x y => decide (f y < f x)) j) := by
  unfold sortedFrom sortPositions
  exact List.pairwise_iff_get.mp (pairwise_stableSort f (List.finRange n) (List.pairwise_lt_finRange n)) _ _ h

/-- Every position is an entry of the sorted positions. -/
theorem exists_sortedFrom (j : Fin n) : ∃ i, sortedFrom (fun x y => decide (f y < f x)) i = j := by
  have hm : j ∈ sortPositions n (fun x y => decide (f y < f x)) := (perm_stableSort _ _).mem_iff.mpr (List.mem_finRange j)
  obtain ⟨i, hi⟩ := List.get_of_mem hm
  exact ⟨i.cast (length_sortPositions _ _), hi⟩

end Sorted

/-- The first entry of four sorted positions is the first choice. -/
theorem isFirst_sortedFrom (f : Fin 4 → EReal) : IsFirst f (sortedFrom (fun x y => decide (f y < f x)) 0) := fun j hj => by
  obtain ⟨i, rfl⟩ := exists_sortedFrom f j
  exact before_sortedFrom f (Fin.pos_iff_ne_zero.mpr fun h => hj (by rw [h]))

/-- The second entry of four sorted positions is the second choice. -/
theorem isSecond_sortedFrom (f : Fin 4 → EReal) :
    IsSecond f (sortedFrom (fun x y => decide (f y < f x)) 0) (sortedFrom (fun x y => decide (f y < f x)) 1) := by
  refine ⟨fun h => ?_, fun j h0 h1 => ?_⟩
  · have hb := before_sortedFrom f (i := 0) (j := 1) (by decide)
    rw [h] at hb
    rcases hb with h2 | h2
    · exact lt_irrefl _ h2
    · exact lt_irrefl _ h2.2
  · obtain ⟨i, rfl⟩ := exists_sortedFrom f j
    have i0 : i ≠ 0 := fun h => h0 (by rw [h])
    have i1 : i ≠ 1 := fun h => h1 (by rw [h])
    exact before_sortedFrom f (by omega)

/-! ### The least lane that attains the maximum -/

/-- A lane's number as a value. -/
def lane (l : Fin 128) : EReal := ((l.val : ℝ) : EReal)

theorem lane_lt {a b : Fin 128} : lane a < lane b ↔ a < b := by
  unfold lane; rw [EReal.coe_lt_coe_iff, Nat.cast_lt]; rfl

theorem lane_le {a b : Fin 128} : lane a ≤ lane b ↔ a ≤ b := by
  rw [← not_lt, lane_lt, not_lt]

theorem lane_inj {a b : Fin 128} : lane a = lane b ↔ a = b := by
  rw [le_antisymm_iff, lane_le, lane_le, ← le_antisymm_iff]

/-- The least lane at which `f` attains its maximum. -/
def firstLane (f : Fin 128 → EReal) : EReal :=
  Finset.univ.fold min ⊤ fun l => if f l = rowMax f then lane l else ((128 : ℝ) : EReal)

theorem IsFirst.firstLane_eq {f : Fin 128 → EReal} {i : Fin 128} (h : IsFirst f i) : firstLane f = lane i := by
  unfold firstLane
  rw [h.rowMax_eq]
  refine le_antisymm ((Finset.fold_min_le _).mpr (Or.inr ⟨i, Finset.mem_univ _, by simp⟩)) ((Finset.le_fold_min _).mpr ⟨le_top, fun j _ => ?_⟩)
  split
  · next hj =>
    rw [lane_le]
    by_cases hji : j = i
    · rw [hji]
    · rcases h j hji with h1 | h1
      · exact absurd h1 (by rw [hj]; exact lt_irrefl _)
      · exact h1.2.le
  · unfold lane
    rw [EReal.coe_le_coe_iff]
    exact_mod_cast i.isLt.le

/-! ## The kernel's row -/

/-- The four group logits, the other lanes −∞. -/
def groupRow (lg : Fin 128 → EReal) (l : Fin 128) : EReal := if l.val < 4 then lg l else ⊥

/-- The chosen group's softmax weight, its numerator being `exp 0`. -/
def groupWeight (lg : Fin 128 → EReal) : EReal :=
  Ideal.div 1 (∑ l, if l.val < 4 then Ideal.exp (groupRow lg l - rowMax (groupRow lg)) else 0)

/-- Lane `l` holds an expert of group `g`. -/
def InGroup (g : EReal) (l : Fin 128) : Prop :=
  ((4 : ℝ) : EReal) + ((4 : ℝ) : EReal) * g ≤ lane l ∧ lane l < ((4 : ℝ) : EReal) + ((4 : ℝ) : EReal) * g + ((4 : ℝ) : EReal)

open Classical in
/-- The chosen group's expert logits, the other lanes −∞. -/
def expertRow (lg : Fin 128 → EReal) (g : EReal) (l : Fin 128) : EReal := if InGroup g l then lg l else ⊥

open Classical in
/-- Their exponentials, the other lanes zero. -/
def expRow (lg : Fin 128 → EReal) (g : EReal) (l : Fin 128) : EReal :=
  if InGroup g l then Ideal.exp (expertRow lg g l - rowMax (expertRow lg g)) else 0

open Classical in
/-- Their softmax, the other lanes −1. -/
def probRow (lg : Fin 128 → EReal) (g : EReal) (l : Fin 128) : EReal :=
  if InGroup g l then Ideal.div (expRow lg g l) (∑ l', expRow lg g l') else ((-1 : ℝ) : EReal)

/-- A row with the lane numbered `i` set to −1. -/
def without (p : Fin 128 → EReal) (i : EReal) (l : Fin 128) : EReal := if lane l = i then ((-1 : ℝ) : EReal) else p l

/-- The weight of every lane, from the group weight and the row of probabilities. -/
def weights (w : EReal) (p : Fin 128 → EReal) (l : Fin 128) : EReal :=
  if lane l = firstLane p then rowMax p * Ideal.div w (rowMax p + rowMax (without p (firstLane p)))
  else if lane l = firstLane (without p (firstLane p)) then
    rowMax (without p (firstLane p)) * Ideal.div w (rowMax p + rowMax (without p (firstLane p)))
  else 0

/-- The kernel's weight of every lane, from its row of logits. -/
def laneWeight (lg : Fin 128 → EReal) : Fin 128 → EReal :=
  weights (groupWeight lg) (probRow lg (firstLane (groupRow lg)))

/-! ## The reference's row -/

/-- The softmax of four logits. -/
def softmax4 (f : Fin 4 → EReal) (j : Fin 4) : EReal :=
  Ideal.div (Ideal.exp (f j - rowMax f)) (∑ i, Ideal.exp (f i - rowMax f))

/-- Group `k`'s four expert logits. -/
def groupOf (el : Fin 16 → EReal) (k : Fin 4) (j : Fin 4) : EReal := el ⟨k.val * 4 + j.val, by omega⟩

/-- The reference's weight of expert `e`: group `k` and its experts `k1` and `k2` chosen. -/
def expertWeight (gl : Fin 4 → EReal) (el : Fin 16 → EReal) (k k1 k2 : Fin 4) (e : Fin 16) : EReal :=
  (if k.val * 4 + k1.val = e.val then 1 else 0)
      * (Ideal.div (softmax4 (groupOf el k) k1) (softmax4 (groupOf el k) k1 + softmax4 (groupOf el k) k2) * softmax4 gl k)
    + (if k.val * 4 + k2.val = e.val then 1 else 0)
      * (Ideal.div (softmax4 (groupOf el k) k2) (softmax4 (groupOf el k) k1 + softmax4 (groupOf el k) k2) * softmax4 gl k)

/-! ## Four lanes of the 128 -/

/-- Lane `s + j`. -/
def at4 (s : ℕ) (hs : s + 4 ≤ 128) (j : Fin 4) : Fin 128 := ⟨s + j.val, by omega⟩

/-- The sum over the lanes of a row that is zero outside four lanes is the sum over these. -/
theorem sum_four (s : ℕ) (hs : s + 4 ≤ 128) (F : Fin 128 → EReal) (h : ∀ l : Fin 128, ¬(s ≤ l.val ∧ l.val < s + 4) → F l = 0) :
    ∑ l, F l = ∑ j, F (at4 s hs j) := by
  have hinj : Function.Injective (at4 s hs) := fun a b hab => by
    have := congrArg Fin.val hab
    simp only [at4] at this
    exact Fin.ext (by omega)
  have e : ∑ j, F (at4 s hs j) = ∑ l ∈ Finset.univ.map ⟨at4 s hs, hinj⟩, F l := by rw [Finset.sum_map]; rfl
  rw [e]
  symm
  refine Finset.sum_subset (Finset.subset_univ _) fun l _ hl => h l fun hw => hl ?_
  rw [Finset.mem_map]
  exact ⟨⟨l.val - s, by omega⟩, Finset.mem_univ _, Fin.ext (by simp only [at4, Function.Embedding.coeFn_mk]; omega)⟩

/-- The maximum of a row that is −∞ outside four lanes is the maximum over these. -/
theorem max_four (s : ℕ) (hs : s + 4 ≤ 128) (F : Fin 128 → EReal) (h : ∀ l : Fin 128, ¬(s ≤ l.val ∧ l.val < s + 4) → F l = ⊥) :
    rowMax F = rowMax fun j => F (at4 s hs j) := by
  unfold rowMax
  refine le_antisymm ((Finset.fold_max_le _).mpr ⟨bot_le, fun l _ => ?_⟩) ((Finset.fold_max_le _).mpr ⟨bot_le, fun j _ => ?_⟩)
  · by_cases hw : s ≤ l.val ∧ l.val < s + 4
    · refine (Finset.le_fold_max _).mpr (Or.inr ⟨⟨l.val - s, by omega⟩, Finset.mem_univ _, le_of_eq (congrArg F (Fin.ext ?_))⟩)
      simp only [at4]; omega
    · rw [h l hw]; exact bot_le
  · exact (Finset.le_fold_max _).mpr (Or.inr ⟨at4 s hs j, Finset.mem_univ _, le_rfl⟩)

/-- A first choice among four lanes is one among all, the others' values being below. -/
theorem isFirst_four (s : ℕ) (hs : s + 4 ≤ 128) (F : Fin 128 → EReal) (k : Fin 4) (hk : IsFirst (fun j => F (at4 s hs j)) k)
    (h : ∀ l : Fin 128, ¬(s ≤ l.val ∧ l.val < s + 4) → F l < F (at4 s hs k)) : IsFirst F (at4 s hs k) := fun l hl => by
  by_cases hw : s ≤ l.val ∧ l.val < s + 4
  · obtain ⟨j, rfl⟩ : ∃ j, at4 s hs j = l := ⟨⟨l.val - s, by omega⟩, Fin.ext (by simp only [at4]; omega)⟩
    rcases hk j (fun e => hl (by rw [e])) with h1 | h1
    · exact Or.inl h1
    · exact Or.inr ⟨h1.1, by simp only [at4, Fin.mk_lt_mk]; have := h1.2; omega⟩
  · exact Or.inl (h l hw)

end Cert.Row
end
-- ==== Proof.RowEq.lean ====
/-
  The kernel's weight of an expert and the reference's are equal, on a row of finite logits.
-/
module

public import proofs.«01_k».proof.Proof.Row

@[expose] public section

noncomputable section

namespace Cert.Row

open Idealize.ShloMosaic

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of four reals is a real. -/
theorem rowMax_real (f : Fin 4 → ℝ) : ∃ M : ℝ, rowMax (fun j => (f j : EReal)) = (M : EReal) :=
  ⟨f (sortedFrom (fun x y => decide ((f y : EReal) < (f x : EReal))) 0), (isFirst_sortedFrom fun j => (f j : EReal)).rowMax_eq⟩

/-- The softmax of four reals is four positive reals. -/
theorem softmax4_real (f : Fin 4 → EReal) (hf : ∀ j, ∃ r : ℝ, f j = r) : ∃ q : Fin 4 → ℝ, (∀ j, softmax4 f j = (q j : EReal)) ∧ ∀ j, 0 < q j := by
  choose r hr using hf
  obtain rfl : f = fun j => (r j : EReal) := funext hr
  obtain ⟨M, hM⟩ := rowMax_real r
  have hs : 0 < ∑ i, Real.exp (r i - M) := Finset.sum_pos (fun i _ => Real.exp_pos _) Finset.univ_nonempty
  refine ⟨fun j => Real.exp (r j - M) * (1 / ∑ i, Real.exp (r i - M)), fun j => ?_, fun j => mul_pos (Real.exp_pos _) (one_div_pos.mpr hs)⟩
  unfold softmax4
  rw [hM]
  simp only [← EReal.coe_sub, Ideal.exp_coe]
  rw [← coe_sum, Ideal.div_coe hs.ne', ← EReal.coe_mul]

/-- The first choice's softmax has numerator one. -/
theorem softmax4_first (f : Fin 4 → EReal) (hf : ∀ j, ∃ r : ℝ, f j = r) (k : Fin 4) (hk : IsFirst f k) :
    softmax4 f k = Ideal.div 1 (∑ i, Ideal.exp (f i - rowMax f)) := by
  unfold softmax4
  obtain ⟨r, hr⟩ := hf k
  congr 1
  rw [hk.rowMax_eq, hr, ← EReal.coe_sub, sub_self, Ideal.exp_coe, Real.exp_zero, EReal.coe_one]

/-- Dividing the group's weight first, or an expert's probability first, is the same. -/
theorem scale_eq (a b w : ℝ) (h : a + b ≠ 0) (x : ℝ) :
    (x : EReal) * Ideal.div (w : EReal) ((a : EReal) + (b : EReal)) = Ideal.div (x : EReal) ((a : EReal) + (b : EReal)) * (w : EReal) := by
  rw [← EReal.coe_add, Ideal.div_coe h, Ideal.div_coe h, ← EReal.coe_mul, ← EReal.coe_mul, ← EReal.coe_mul, ← EReal.coe_mul]
  congr 1; ring

section
variable (lg : Fin 128 → EReal) (gl : Fin 4 → EReal) (el : Fin 16 → EReal)

theorem groupRow_four (hgl : ∀ j, lg (at4 0 (by omega) j) = gl j) : (fun j => groupRow lg (at4 0 (by omega) j)) = gl := by
  funext j
  unfold groupRow
  rw [if_pos (by simp only [at4]; omega), hgl]

theorem groupRow_out (l : Fin 128) (h : ¬(0 ≤ l.val ∧ l.val < 0 + 4)) : groupRow lg l = ⊥ := if_neg (by omega)

theorem groupWeight_eq (hgl : ∀ j, lg (at4 0 (by omega) j) = gl j) (hf : ∀ j, ∃ r : ℝ, gl j = r) (k : Fin 4) (hk : IsFirst gl k) :
    groupWeight lg = softmax4 gl k := by
  rw [softmax4_first gl hf k hk]
  unfold groupWeight
  rw [max_four 0 (by omega) (groupRow lg) (groupRow_out lg), groupRow_four lg gl hgl,
    sum_four 0 (by omega) _ (fun l h => if_neg (by omega))]
  congr 1
  refine Finset.sum_congr rfl fun j _ => ?_
  rw [if_pos (by simp only [at4]; omega)]
  rw [show groupRow lg (at4 0 (by omega) j) = gl j from congrFun (groupRow_four lg gl hgl) j]

theorem firstLane_group (hgl : ∀ j, lg (at4 0 (by omega) j) = gl j) (hf : ∀ j, ∃ r : ℝ, gl j = r) (k : Fin 4) (hk : IsFirst gl k) :
    firstLane (groupRow lg) = lane (at4 0 (by omega) k) := by
  refine IsFirst.firstLane_eq (isFirst_four 0 (by omega) _ k (by rw [groupRow_four lg gl hgl]; exact hk) fun l h => ?_)
  rw [groupRow_out lg l h, show groupRow lg (at4 0 (by omega) k) = gl k from congrFun (groupRow_four lg gl hgl) k]
  obtain ⟨r, hr⟩ := hf k
  rw [hr]; exact EReal.bot_lt_coe r

theorem inGroup_iff (k : Fin 4) (l : Fin 128) : InGroup (lane (at4 0 (by omega) k)) l ↔ 4 + k.val * 4 ≤ l.val ∧ l.val < 4 + k.val * 4 + 4 := by
  unfold InGroup lane at4
  rw [← EReal.coe_mul, ← EReal.coe_add, ← EReal.coe_add, EReal.coe_le_coe_iff, EReal.coe_lt_coe_iff]
  simp only [Nat.zero_add]
  constructor
  · rintro ⟨a, b⟩
    have a' : ((4 + 4 * k.val : ℕ) : ℝ) ≤ (l.val : ℝ) := by push_cast; exact a
    have b' : (l.val : ℝ) < ((4 + 4 * k.val + 4 : ℕ) : ℝ) := by push_cast; exact b
    rw [Nat.cast_le] at a'
    rw [Nat.cast_lt] at b'
    omega
  · rintro ⟨a, b⟩
    constructor
    · have : ((4 + 4 * k.val : ℕ) : ℝ) ≤ (l.val : ℝ) := by rw [Nat.cast_le]; omega
      push_cast at this; exact this
    · have : (l.val : ℝ) < ((4 + 4 * k.val + 4 : ℕ) : ℝ) := by rw [Nat.cast_lt]; omega
      push_cast at this; exact this

section
variable (k : Fin 4)

theorem expertRow_four (hel : ∀ e : Fin 16, lg ⟨4 + e.val, by omega⟩ = el e) :
    (fun j => expertRow lg (lane (at4 0 (by omega) k)) (at4 (4 + k.val * 4) (by omega) j)) = groupOf el k := by
  funext j
  unfold expertRow
  rw [if_pos ((inGroup_iff k _).mpr (by simp only [at4]; omega))]
  unfold groupOf
  rw [← hel]
  congr 1
  exact Fin.ext (by simp only [at4]; omega)

theorem expertRow_out (l : Fin 128) (h : ¬(4 + k.val * 4 ≤ l.val ∧ l.val < 4 + k.val * 4 + 4)) :
    expertRow lg (lane (at4 0 (by omega) k)) l = ⊥ := if_neg fun hi => h ((inGroup_iff k l).mp hi)

theorem expRow_four (hel : ∀ e : Fin 16, lg ⟨4 + e.val, by omega⟩ = el e) (j : Fin 4) :
    expRow lg (lane (at4 0 (by omega) k)) (at4 (4 + k.val * 4) (by omega) j) = Ideal.exp (groupOf el k j - rowMax (groupOf el k)) := by
  unfold expRow
  rw [if_pos ((inGroup_iff k _).mpr (by simp only [at4]; omega)), max_four (4 + k.val * 4) (by omega) _ (expertRow_out lg k),
    expertRow_four lg el k hel]
  rw [show expertRow lg (lane (at4 0 (by omega) k)) (at4 (4 + k.val * 4) (by omega) j) = groupOf el k j from congrFun (expertRow_four lg el k hel) j]

theorem probRow_four (hel : ∀ e : Fin 16, lg ⟨4 + e.val, by omega⟩ = el e) (j : Fin 4) :
    probRow lg (lane (at4 0 (by omega) k)) (at4 (4 + k.val * 4) (by omega) j) = softmax4 (groupOf el k) j := by
  unfold probRow
  rw [if_pos ((inGroup_iff k _).mpr (by simp only [at4]; omega)), expRow_four lg el k hel,
    sum_four (4 + k.val * 4) (by omega) (expRow lg _) (fun l h => if_neg fun hi => h ((inGroup_iff k l).mp hi))]
  unfold softmax4
  congr 1
  exact Finset.sum_congr rfl fun i _ => expRow_four lg el k hel i

theorem probRow_out (l : Fin 128) (h : ¬(4 + k.val * 4 ≤ l.val ∧ l.val < 4 + k.val * 4 + 4)) :
    probRow lg (lane (at4 0 (by omega) k)) l = ((-1 : ℝ) : EReal) := if_neg fun hi => h ((inGroup_iff k l).mp hi)

end

/-- THE ROW: on finite logits the kernel's weight of expert `e`, at its lane `4 + e`, is the reference's. -/
theorem laneWeight_eq (hgl : ∀ j, lg (at4 0 (by omega) j) = gl j) (hel : ∀ e : Fin 16, lg ⟨4 + e.val, by omega⟩ = el e)
    (fg : ∀ j, ∃ r : ℝ, gl j = r) (fe : ∀ e, ∃ r : ℝ, el e = r) (k k1 k2 : Fin 4) (hk : IsFirst gl k)
    (h1 : IsFirst (softmax4 (groupOf el k)) k1) (h2 : IsSecond (softmax4 (groupOf el k)) k1 k2) (e : Fin 16) :
    laneWeight lg ⟨4 + e.val, by omega⟩ = expertWeight gl el k k1 k2 e := by
  obtain ⟨q, hq, hpos⟩ := softmax4_real (groupOf el k) (fun j => fe _)
  obtain ⟨w, hw, -⟩ := softmax4_real gl fg
  unfold laneWeight
  rw [groupWeight_eq lg gl hgl fg k hk, firstLane_group lg gl hgl fg k hk]
  have hs : 4 + k.val * 4 + 4 ≤ 128 := by omega
  have hp := probRow_four lg el k hel
  have ho := probRow_out lg k
  generalize probRow lg (lane (at4 0 (by omega) k)) = p at hp ho ⊢
  have neg : ∀ j, ((-1 : ℝ) : EReal) < softmax4 (groupOf el k) j := fun j => by
    rw [hq, EReal.coe_lt_coe_iff]; linarith [hpos j]
  have f1 : IsFirst p (at4 (4 + k.val * 4) hs k1) := by
    refine isFirst_four (4 + k.val * 4) hs p k1 ?_ fun l h => ?_
    · rw [show (fun j => p (at4 (4 + k.val * 4) hs j)) = softmax4 (groupOf el k) from funext hp]; exact h1
    · rw [ho l h, hp]; exact neg _
  have inj : ∀ i j : Fin 4, at4 (4 + k.val * 4) hs i = at4 (4 + k.val * 4) hs j → i = j := fun i j h => by
    have := congrArg Fin.val h
    simp only [at4] at this
    exact Fin.ext (by omega)
  have w1 : without p (lane (at4 (4 + k.val * 4) hs k1)) (at4 (4 + k.val * 4) hs k1) = ((-1 : ℝ) : EReal) := if_pos rfl
  have w2 : ∀ j, j ≠ k1 → without p (lane (at4 (4 + k.val * 4) hs k1)) (at4 (4 + k.val * 4) hs j) = softmax4 (groupOf el k) j := fun j hj => by
    unfold without
    rw [if_neg (fun h => hj (inj _ _ (lane_inj.mp h))), hp]
  have f2 : IsFirst (without p (lane (at4 (4 + k.val * 4) hs k1))) (at4 (4 + k.val * 4) hs k2) := by
    refine isFirst_four (4 + k.val * 4) hs _ k2 (fun j hj => ?_) fun l h => ?_
    · unfold Before
      beta_reduce
      rw [w2 k2 h2.1]
      by_cases hj1 : j = k1
      · subst hj1; rw [w1]; exact Or.inl (neg _)
      · rw [w2 j hj1]; exact h2.2 j hj1 hj
    · rw [w2 k2 h2.1]
      unfold without
      split
      · exact neg _
      · rw [ho l h]; exact neg _
  unfold weights expertWeight
  rw [f1.firstLane_eq, f2.firstLane_eq, f1.rowMax_eq, f2.rowMax_eq, w2 k2 h2.1, hp, hq, hq, hw,
    scale_eq _ _ _ (by linarith [hpos k1, hpos k2]), scale_eq _ _ _ (by linarith [hpos k1, hpos k2])]
  have a1 : (lane ⟨4 + e.val, by omega⟩ = lane (at4 (4 + k.val * 4) hs k1)) ↔ k.val * 4 + k1.val = e.val := by
    rw [lane_inj, Fin.ext_iff]; simp only [at4]; omega
  have a2 : (lane ⟨4 + e.val, by omega⟩ = lane (at4 (4 + k.val * 4) hs k2)) ↔ k.val * 4 + k2.val = e.val := by
    rw [lane_inj, Fin.ext_iff]; simp only [at4]; omega
  have ne : k2.val ≠ k1.val := fun h => h2.1 (Fin.ext h)
  simp only [a1, a2]
  by_cases c1 : k.val * 4 + k1.val = e.val
  · rw [if_pos c1, if_pos c1, if_neg (by omega), one_mul, zero_mul, add_zero]
  · rw [if_neg c1, if_neg c1, zero_mul, zero_add]
    by_cases c2 : k.val * 4 + k2.val = e.val
    · rw [if_pos c2, if_pos c2, one_mul]
    · rw [if_neg c2, if_neg c2, zero_mul]

end

end Cert.Row
end
-- ==== Proof.KernelOperands.lean ====
/-
  The blocks the kernel's body reads at a grid point, read at the program's arguments: 512 rows of the rows' array, and the
  operands the program prepares before the call (the joined router weights, their remainder, the joined biases, the experts' weights,
  the layer norm's scale and shift).
-/
module

public import proofs.«01_k».proof.Proof.Gen.KernelIdeal.Frame
public import proofs.«01_k».proof.Proof.Gen.KernelIdeal.Value
public import proofs.«01_k».proof.Proof.RowEq
public import Idealize.ShloMosaic.Lib.Pipeline.ValueKit

@[expose] public section

set_option maxRecDepth 16384

noncomputable section

namespace Cert.KernelIdeal.Operands

open Idealize.ShloMosaic Idealize.ShloMosaic.TcCoe Idealize.SL.Sem
open Cert.KernelIdeal Cert.KernelIdeal.Gen Cert.Row

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![0, 0] ∧ win0_3.index t = ![0, 0]
    ∧ win0_4.index t = ![0, 0, 0] ∧ win0_5.index t = ![0, 0, 0] ∧ win0_6.index t = ![0, 0, 0] ∧ win0_7.index t = ![0, 0] ∧ win0_8.index t = ![0, 0]
    ∧ win0_9.index t = ![t.val, 0] := (by decide +kernel : ∀ t : Fin grid0.N, _)

theorem rows_at (r : Fin 512) (x : Fin 1024) (R : Fin 17408) (hR : R.val = t.val * 512 + r.val) :
    (iblk m c 0 t : FVec Ideal S512x1024 .f32) (ix2 r x) = (m ((c : Thread nD τ).loc main_arg0) : FVec Ideal S17408x1024 .f32) (ix2 R x) := by
  blk_ext [iblk, V, idx t]

theorem block1 : (iblk m c 1 t : FVec Ideal S1024x128 .bf16) = (V m c main_v4 : FVec Ideal S1024x128 .bf16) := by
  funext y; blk_ext [iblk, idx t]

theorem block2 : (iblk m c 2 t : FVec Ideal S1024x128 .bf16) = (V m c main_v10 : FVec Ideal S1024x128 .bf16) := by
  funext y; blk_ext [iblk, idx t]

theorem block3 : (iblk m c 3 t : FVec Ideal S1x128 .f32) = (V m c main_v12 : FVec Ideal S1x128 .f32) := by
  funext y; blk_ext [iblk, idx t]

theorem block4 : (iblk m c 4 t : FVec Ideal S16x1024x256 .bf16) = (V m c main_v14 : FVec Ideal S16x1024x256 .bf16) := by
  funext y; blk_ext [iblk, idx t]

theorem block5 : (iblk m c 5 t : FVec Ideal S16x1024x256 .bf16) = (V m c main_v16 : FVec Ideal S16x1024x256 .bf16) := by
  funext y; blk_ext [iblk, idx t]

theorem block6 : (iblk m c 6 t : FVec Ideal S16x256x1024 .bf16) = (V m c main_v18 : FVec Ideal S16x256x1024 .bf16) := by
  funext y; blk_ext [iblk, idx t]

theorem block7 : (iblk m c 7 t : FVec Ideal S1x1024 .f32) = (V m c main_v20 : FVec Ideal S1x1024 .f32) := by
  funext y; blk_ext [iblk, idx t]

theorem block8 : (iblk m c 8 t : FVec Ideal S1x1024 .f32) = (V m c main_v22 : FVec Ideal S1x1024 .f32) := by
  funext y; blk_ext [iblk, idx t]

theorem router_group (x : Fin 1024) (j : Fin 4) :
    (V m c main_v4 : FVec Ideal S1024x128 .bf16) (ix2 x (at4 0 (by omega) j)) = (m ((c : Thread nD τ).loc main_arg1) : FVec Ideal S1x1024x4 .f32) (ix3 0 x j) := by
  unfold V
  simp only [hostOps0, hostOps0_1, hostOps0_2, hostOps0_3, hostOps0_4, List.flatten_cons, List.flatten_nil, List.append_nil, List.cons_append, List.nil_append]
  after_results
  simp only [StableHlo.TRef.ofBuf_toBuf]
  simp only [StableHlo.TRef.toBuf, StableHlo.TRef.ofBuf, ValueKit.castRfl]
  pointwise
  rw [dif_pos (show (at4 0 (by omega) j).val < 20 by simp [at4]; omega), dif_pos (show (at4 0 (by omega) j).val < 4 by simp [at4])]
  blk_ext [at4]

theorem router_expert (x : Fin 1024) (e : Fin 16) :
    (V m c main_v4 : FVec Ideal S1024x128 .bf16) (ix2 x ⟨4 + e.val, by omega⟩) = (m ((c : Thread nD τ).loc main_arg3) : FVec Ideal S1x1024x16 .f32) (ix3 0 x e) := by
  unfold V
  simp only [hostOps0, hostOps0_1, hostOps0_2, hostOps0_3, hostOps0_4, List.flatten_cons, List.flatten_nil, List.append_nil, List.cons_append, List.nil_append]
  after_results
  simp only [StableHlo.TRef.ofBuf_toBuf]
  simp only [StableHlo.TRef.toBuf, StableHlo.TRef.ofBuf, ValueKit.castRfl]
  pointwise
  rw [dif_pos (show 4 + e.val < 20 by omega)]

theorem bias_group (j : Fin 4) :
    (V m c main_v12 : FVec Ideal S1x128 .f32) (ix2 0 (at4 0 (by omega) j)) = (m ((c : Thread nD τ).loc main_arg2) : FVec Ideal S1x4 .f32) (ix2 0 j) := by
  unfold V
  simp only [hostOps0, hostOps0_1, hostOps0_2, hostOps0_3, hostOps0_4, List.flatten_cons, List.flatten_nil, List.append_nil, List.cons_append, List.nil_append]
  after_results
  simp only [StableHlo.TRef.ofBuf_toBuf]
  simp only [StableHlo.TRef.toBuf, StableHlo.TRef.ofBuf, ValueKit.castRfl]
  pointwise
  rw [dif_pos (show (at4 0 (by omega) j).val < 20 by simp [at4]; omega), dif_pos (show (at4 0 (by omega) j).val < 4 by simp [at4])]
  blk_ext [at4]

theorem bias_expert (e : Fin 16) :
    (V m c main_v12 : FVec Ideal S1x128 .f32) (ix2 0 ⟨4 + e.val, by omega⟩) = (m ((c : Thread nD τ).loc main_arg4) : FVec Ideal S1x16 .f32) (ix2 0 e) := by
  unfold V
  simp only [hostOps0, hostOps0_1, hostOps0_2, hostOps0_3, hostOps0_4, List.flatten_cons, List.flatten_nil, List.append_nil, List.cons_append, List.nil_append]
  after_results
  simp only [StableHlo.TRef.ofBuf_toBuf]
  simp only [StableHlo.TRef.toBuf, StableHlo.TRef.ofBuf, ValueKit.castRfl]
  pointwise
  rw [dif_pos (show 4 + e.val < 20 by omega)]

/-- The remainder the program splits off the router's weights is each weight less itself. -/
theorem rest_eq (x : Fin 1024) (l : Fin 128) :
    (V m c main_v10 : FVec Ideal S1024x128 .bf16) (ix2 x l)
      = HSub.hSub (α := EReal) (β := EReal) ((V m c main_v4 : FVec Ideal S1024x128 .bf16) (ix2 x l)) ((V m c main_v4 : FVec Ideal S1024x128 .bf16) (ix2 x l)) := by
  unfold V
  simp only [hostOps0, hostOps0_1, hostOps0_2, hostOps0_3, hostOps0_4, List.flatten_cons, List.flatten_nil, List.append_nil, List.cons_append, List.nil_append]
  after_results
  rfl

theorem gate_at (e : Fin 16) (x : Fin 1024) (f : Fin 256) :
    (V m c main_v14 : FVec Ideal S16x1024x256 .bf16) (ix3 e x f) = (m ((c : Thread nD τ).loc main_arg5) : FVec Ideal S1x16x1024x256 .f32) (ix4 0 e x f) := by
  unfold V
  simp only [hostOps0, hostOps0_1, hostOps0_2, hostOps0_3, hostOps0_4, List.flatten_cons, List.flatten_nil, List.append_nil, List.cons_append, List.nil_append]
  after_results
  pointwise

theorem up_at (e : Fin 16) (x : Fin 1024) (f : Fin 256) :
    (V m c main_v16 : FVec Ideal S16x1024x256 .bf16) (ix3 e x f) = (m ((c : Thread nD τ).loc main_arg6) : FVec Ideal S1x16x1024x256 .f32) (ix4 0 e x f) := by
  unfold V
  simp only [hostOps0, hostOps0_1, hostOps0_2, hostOps0_3, hostOps0_4, List.flatten_cons, List.flatten_nil, List.append_nil, List.cons_append, List.nil_append]
  after_results
  pointwise

theorem down_at (e : Fin 16) (x : Fin 256) (f : Fin 1024) :
    (V m c main_v18 : FVec Ideal S16x256x1024 .bf16) (ix3 e x f) = (m ((c : Thread nD τ).loc main_arg7) : FVec Ideal S1x16x256x1024 .f32) (ix4 0 e x f) := by
  unfold V
  simp only [hostOps0, hostOps0_1, hostOps0_2, hostOps0_3, hostOps0_4, List.flatten_cons, List.flatten_nil, List.append_nil, List.cons_append, List.nil_append]
  after_results
  pointwise

theorem scale_at (x : Fin 1024) :
    (V m c main_v20 : FVec Ideal S1x1024 .f32) (ix2 0 x) = (m ((c : Thread nD τ).loc main_arg8) : FVec Ideal S1x1024 .f32) (ix2 0 x) := by
  unfold V
  simp only [hostOps0, hostOps0_1, hostOps0_2, hostOps0_3, hostOps0_4, List.flatten_cons, List.flatten_nil, List.append_nil, List.cons_append, List.nil_append]
  after_results
  pointwise

theorem shift_at (x : Fin 1024) :
    (V m c main_v22 : FVec Ideal S1x1024 .f32) (ix2 0 x) = (m ((c : Thread nD τ).loc main_arg9) : FVec Ideal S1x1024 .f32) (ix2 0 x) := by
  unfold V
  simp only [hostOps0, hostOps0_1, hostOps0_2, hostOps0_3, hostOps0_4, List.flatten_cons, List.flatten_nil, List.append_nil, List.cons_append, List.nil_append]
  after_results
  pointwise

theorem wide_0 (X : Vec Ideal S16x1024x256 .bf16) (x : Fin 1024) (f : Fin 256) : View.ld X r0_3 (ix3 0 x f) = X (ix3 0 x f) := by
  unfold View.ld; pointwise
theorem tall_0 (X : Vec Ideal S16x256x1024 .bf16) (f : Fin 256) (x : Fin 1024) : View.ld X r0_4 (ix3 0 f x) = X (ix3 0 f x) := by
  unfold View.ld; pointwise
theorem wide_1 (X : Vec Ideal S16x1024x256 .bf16) (x : Fin 1024) (f : Fin 256) : View.ld X r0_5 (ix3 0 x f) = X (ix3 1 x f) := by
  unfold View.ld; pointwise
theorem tall_1 (X : Vec Ideal S16x256x1024 .bf16) (f : Fin 256) (x : Fin 1024) : View.ld X r0_6 (ix3 0 f x) = X (ix3 1 f x) := by
  unfold View.ld; pointwise
theorem wide_2 (X : Vec Ideal S16x1024x256 .bf16) (x : Fin 1024) (f : Fin 256) : View.ld X r0_7 (ix3 0 x f) = X (ix3 2 x f) := by
  unfold View.ld; pointwise
theorem tall_2 (X : Vec Ideal S16x256x1024 .bf16) (f : Fin 256) (x : Fin 1024) : View.ld X r0_8 (ix3 0 f x) = X (ix3 2 f x) := by
  unfold View.ld; pointwise
theorem wide_3 (X : Vec Ideal S16x1024x256 .bf16) (x : Fin 1024) (f : Fin 256) : View.ld X r0_9 (ix3 0 x f) = X (ix3 3 x f) := by
  unfold View.ld; pointwise
theorem tall_3 (X : Vec Ideal S16x256x1024 .bf16) (f : Fin 256) (x : Fin 1024) : View.ld X r0_10 (ix3 0 f x) = X (ix3 3 f x) := by
  unfold View.ld; pointwise
theorem wide_4 (X : Vec Ideal S16x1024x256 .bf16) (x : Fin 1024) (f : Fin 256) : View.ld X r0_11 (ix3 0 x f) = X (ix3 4 x f) := by
  unfold View.ld; pointwise
theorem tall_4 (X : Vec Ideal S16x256x1024 .bf16) (f : Fin 256) (x : Fin 1024) : View.ld X r0_12 (ix3 0 f x) = X (ix3 4 f x) := by
  unfold View.ld; pointwise
theorem wide_5 (X : Vec Ideal S16x1024x256 .bf16) (x : Fin 1024) (f : Fin 256) : View.ld X r0_13 (ix3 0 x f) = X (ix3 5 x f) := by
  unfold View.ld; pointwise
theorem tall_5 (X : Vec Ideal S16x256x1024 .bf16) (f : Fin 256) (x : Fin 1024) : View.ld X r0_14 (ix3 0 f x) = X (ix3 5 f x) := by
  unfold View.ld; pointwise
theorem wide_6 (X : Vec Ideal S16x1024x256 .bf16) (x : Fin 1024) (f : Fin 256) : View.ld X r0_15 (ix3 0 x f) = X (ix3 6 x f) := by
  unfold View.ld; pointwise
theorem tall_6 (X : Vec Ideal S16x256x1024 .bf16) (f : Fin 256) (x : Fin 1024) : View.ld X r0_16 (ix3 0 f x) = X (ix3 6 f x) := by
  unfold View.ld; pointwise
theorem wide_7 (X : Vec Ideal S16x1024x256 .bf16) (x : Fin 1024) (f : Fin 256) : View.ld X r0_17 (ix3 0 x f) = X (ix3 7 x f) := by
  unfold View.ld; pointwise
theorem tall_7 (X : Vec Ideal S16x256x1024 .bf16) (f : Fin 256) (x : Fin 1024) : View.ld X r0_18 (ix3 0 f x) = X (ix3 7 f x) := by
  unfold View.ld; pointwise
theorem wide_8 (X : Vec Ideal S16x1024x256 .bf16) (x : Fin 1024) (f : Fin 256) : View.ld X r0_19 (ix3 0 x f) = X (ix3 8 x f) := by
  unfold View.ld; pointwise
theorem tall_8 (X : Vec Ideal S16x256x1024 .bf16) (f : Fin 256) (x : Fin 1024) : View.ld X r0_20 (ix3 0 f x) = X (ix3 8 f x) := by
  unfold View.ld; pointwise
theorem wide_9 (X : Vec Ideal S16x1024x256 .bf16) (x : Fin 1024) (f : Fin 256) : View.ld X r0_21 (ix3 0 x f) = X (ix3 9 x f) := by
  unfold View.ld; pointwise
theorem tall_9 (X : Vec Ideal S16x256x1024 .bf16) (f : Fin 256) (x : Fin 1024) : View.ld X r0_22 (ix3 0 f x) = X (ix3 9 f x) := by
  unfold View.ld; pointwise
theorem wide_10 (X : Vec Ideal S16x1024x256 .bf16) (x : Fin 1024) (f : Fin 256) : View.ld X r0_23 (ix3 0 x f) = X (ix3 10 x f) := by
  unfold View.ld; pointwise
theorem tall_10 (X : Vec Ideal S16x256x1024 .bf16) (f : Fin 256) (x : Fin 1024) : View.ld X r0_24 (ix3 0 f x) = X (ix3 10 f x) := by
  unfold View.ld; pointwise
theorem wide_11 (X : Vec Ideal S16x1024x256 .bf16) (x : Fin 1024) (f : Fin 256) : View.ld X r0_25 (ix3 0 x f) = X (ix3 11 x f) := by
  unfold View.ld; pointwise
theorem tall_11 (X : Vec Ideal S16x256x1024 .bf16) (f : Fin 256) (x : Fin 1024) : View.ld X r0_26 (ix3 0 f x) = X (ix3 11 f x) := by
  unfold View.ld; pointwise
theorem wide_12 (X : Vec Ideal S16x1024x256 .bf16) (x : Fin 1024) (f : Fin 256) : View.ld X r0_27 (ix3 0 x f) = X (ix3 12 x f) := by
  unfold View.ld; pointwise
theorem tall_12 (X : Vec Ideal S16x256x1024 .bf16) (f : Fin 256) (x : Fin 1024) : View.ld X r0_28 (ix3 0 f x) = X (ix3 12 f x) := by
  unfold View.ld; pointwise
theorem wide_13 (X : Vec Ideal S16x1024x256 .bf16) (x : Fin 1024) (f : Fin 256) : View.ld X r0_29 (ix3 0 x f) = X (ix3 13 x f) := by
  unfold View.ld; pointwise
theorem tall_13 (X : Vec Ideal S16x256x1024 .bf16) (f : Fin 256) (x : Fin 1024) : View.ld X r0_30 (ix3 0 f x) = X (ix3 13 f x) := by
  unfold View.ld; pointwise
theorem wide_14 (X : Vec Ideal S16x1024x256 .bf16) (x : Fin 1024) (f : Fin 256) : View.ld X r0_31 (ix3 0 x f) = X (ix3 14 x f) := by
  unfold View.ld; pointwise
theorem tall_14 (X : Vec Ideal S16x256x1024 .bf16) (f : Fin 256) (x : Fin 1024) : View.ld X r0_32 (ix3 0 f x) = X (ix3 14 f x) := by
  unfold View.ld; pointwise
theorem wide_15 (X : Vec Ideal S16x1024x256 .bf16) (x : Fin 1024) (f : Fin 256) : View.ld X r0_33 (ix3 0 x f) = X (ix3 15 x f) := by
  unfold View.ld; pointwise
theorem tall_15 (X : Vec Ideal S16x256x1024 .bf16) (f : Fin 256) (x : Fin 1024) : View.ld X r0_34 (ix3 0 f x) = X (ix3 15 f x) := by
  unfold View.ld; pointwise

end Cert.KernelIdeal.Operands

end
-- ==== Proof.KernelRouting.lean ====
/-
  The kernel's routing, read at a row: its logits, and that the weight it gives every lane is `Row.laneWeight` of the row's logits.
-/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Routing

open Idealize.ShloMosaic Idealize.ShloMosaic.TcCoe Idealize.SL.Sem
open Cert.KernelIdeal Cert.KernelIdeal.Gen Cert.Row

theorem bits_top : Ideal.ofBits .f32 2139095040#32 = ⊤ := by simp [Ideal.ofBits, Ideal.ieee]
theorem bits_bot : Ideal.ofBits .f32 4286578688#32 = ⊥ := by simp [Ideal.ofBits, Ideal.ieee]
theorem bits_128 : Ideal.ofBits .f32 1124073472#32 = ((128 : ℝ) : EReal) := by simp [Ideal.ofBits, Ideal.ieee]; norm_num [← EReal.coe_mul]
theorem bits_4 : Ideal.ofBits .f32 1082130432#32 = ((4 : ℝ) : EReal) := by simp [Ideal.ofBits, Ideal.ieee]; norm_num [← EReal.coe_mul]
theorem bits_neg1 : Ideal.ofBits .f32 3212836864#32 = ((-1 : ℝ) : EReal) := by simp [Ideal.ofBits, Ideal.ieee]; norm_num [← EReal.coe_mul]

/-- A lane's number, converted. -/
theorem lane_conv (c : Fin 128) : FloatOps.sitofp (F := Ideal) .f32 (BitVec.ofNat 32 c.val) = lane c := by
  show (((BitVec.ofNat 32 c.val).toInt : ℝ) : EReal) = lane c
  have key : ∀ c : Fin 128, (BitVec.ofNat 32 c.val).toInt = c.val := by decide
  rw [key]; rfl

/-- The test for the four group lanes. -/
theorem lane_slt (c : Fin 128) : IntOp.cmpi .slt (BitVec.ofNat 32 c.val) 4#32 = BitVec.ofBool (decide (c.val < 4)) := by
  revert c; decide

theorem select_dec {α : Type} (p : Prop) [Decidable p] (x y : α) : Scalar.select (BitVec.ofBool (decide p)) x y = if p then x else y := by
  by_cases hp : p <;> simp [Scalar.select, hp]

section Logits
variable (v0 : FVec Ideal S512x1024 .f32) (v5 v8 v12 : FVec Ideal S1024x128 .bf16) (v16 : FVec Ideal S1x128 .f32) (r : Fin 512)

/-- A row's 128 logits, as the kernel forms them. -/
def logits (c : Fin 128) : EReal := k0_pay3 (F := Ideal) v0 v5 v8 v12 v16 (ix2 r c)

theorem logits_eq (c : Fin 128) : logits v0 v5 v8 v12 v16 r c
    = (∑ x, v0 (ix2 r x) * v5 (ix2 x c)) + (∑ x, v0 (ix2 r x) * v8 (ix2 x c))
      + (∑ x, (v0 (ix2 r x) - v0 (ix2 r x)) * v12 (ix2 x c)) + v16 (ix2 0 c) := by
  unfold logits
  pointwise [k0_pay3, k0_pay2]

theorem pay4_at (c : Fin 128) : k0_pay4 (F := Ideal) (ix2 r c) = lane c := by
  pointwise [k0_pay4]
  exact lane_conv c

theorem pay6_at (c : Fin 128) : k0_pay6 (F := Ideal) v0 v5 v8 v12 v16 (ix2 r c) = groupRow (logits v0 v5 v8 v12 v16 r) c := by
  unfold groupRow logits
  pointwise [k0_pay6, k0_pay5]
  rw [lane_slt, select_dec, bits_bot]

theorem pay7_at : k0_pay7 (F := Ideal) v0 v5 v8 v12 v16 (ix2 r 0) = rowMax (groupRow (logits v0 v5 v8 v12 v16 r)) := by
  unfold rowMax
  pointwise [k0_pay7]
  rw [bits_bot]
  simp only [pay6_at]

theorem pay8_at : k0_pay8 (F := Ideal) v0 v5 v8 v12 v16 (ix2 r 0) = firstLane (groupRow (logits v0 v5 v8 v12 v16 r)) := by
  unfold firstLane
  pointwise [k0_pay8]
  rw [bits_top, bits_128]
  simp only [pay6_at, pay7_at, pay4_at]

theorem pay10_at : k0_pay10 (F := Ideal) (k0_pay9 v0 v5 v8 v12 v16) (ix2 r 0) = groupWeight (logits v0 v5 v8 v12 v16 r) := by
  pointwise [k0_pay10, k0_pay9, k0_pay5]
  simp only [pay6_at, pay7_at, lane_slt, select_dec]
  rfl

end Logits

section Choice
variable (v19 v21 : FVec Ideal S512x128 .f32) (v33 : FVec Ideal S512x1 .f32) (r : Fin 512) (lg : Fin 128 → EReal) (g : EReal)
  (h19 : ∀ c, v19 (ix2 r c) = lg c) (h21 : ∀ c, v21 (ix2 r c) = lane c) (h33 : v33 (ix2 r 0) = g)
include h19 h21 h33

theorem pay11_at (c : Fin 128) : k0_pay11 (F := Ideal) v19 v21 v33 (ix2 r c) = probRow lg g c := by
  have hin : ∀ (α : Type) (c : Fin 128) (x y : α),
      Scalar.select (IntOp.andi (BitVec.ofBool (decide (Ideal.ofBits .f32 1082130432#32 + Ideal.ofBits .f32 1082130432#32 * g ≤ lane c)))
        (BitVec.ofBool (decide (lane c < Ideal.ofBits .f32 1082130432#32 + Ideal.ofBits .f32 1082130432#32 * g + Ideal.ofBits .f32 1082130432#32)))) x y
      = open Classical in if InGroup g c then x else y := by
    intro α c x y
    unfold InGroup
    rw [bits_4]
    by_cases h1 : ((4 : ℝ) : EReal) + ((4 : ℝ) : EReal) * g ≤ lane c <;>
      by_cases h2 : lane c < ((4 : ℝ) : EReal) + ((4 : ℝ) : EReal) * g + ((4 : ℝ) : EReal) <;>
      simp [Scalar.select, IntOp.andi, h1, h2]
  unfold probRow expRow expertRow rowMax
  pointwise [k0_pay11]
  simp only [h19, h21, h33, hin]
  rw [bits_bot, bits_neg1]

theorem pay12_at : k0_pay12 (F := Ideal) v19 v21 v33 (ix2 r 0) = rowMax (probRow lg g) := by
  unfold rowMax
  pointwise [k0_pay12]
  rw [bits_bot]
  simp only [pay11_at v19 v21 v33 r lg g h19 h21 h33]

theorem pay13_at : k0_pay13 (F := Ideal) v19 v21 v33 (ix2 r 0) = firstLane (probRow lg g) := by
  unfold firstLane
  pointwise [k0_pay13]
  rw [bits_top, bits_128]
  simp only [pay11_at v19 v21 v33 r lg g h19 h21 h33, pay12_at v19 v21 v33 r lg g h19 h21 h33, h21]

theorem pay14_at (c : Fin 128) : k0_pay14 (F := Ideal) v19 v21 v33 (ix2 r c) = without (probRow lg g) (firstLane (probRow lg g)) c := by
  unfold without
  pointwise [k0_pay14]
  rw [bits_neg1]
  simp only [pay11_at v19 v21 v33 r lg g h19 h21 h33, pay13_at v19 v21 v33 r lg g h19 h21 h33, h21]

theorem pay15_at : k0_pay15 (F := Ideal) v19 v21 v33 (ix2 r 0) = rowMax (without (probRow lg g) (firstLane (probRow lg g))) := by
  unfold rowMax
  pointwise [k0_pay15]
  rw [bits_bot]
  simp only [pay14_at v19 v21 v33 r lg g h19 h21 h33]

theorem pay16_at {α : Type} (c : Fin 128) (x y : α) : Scalar.select (k0_pay16 (F := Ideal) v19 v21 v33 (ix2 r c)) x y
    = if without (probRow lg g) (firstLane (probRow lg g)) c = rowMax (without (probRow lg g) (firstLane (probRow lg g))) then x else y := by
  pointwise [k0_pay16]
  simp only [pay14_at v19 v21 v33 r lg g h19 h21 h33, pay15_at v19 v21 v33 r lg g h19 h21 h33]

theorem pay17_at (v42 : FVec Ideal S512x1 .f32) (w : EReal) (h42 : v42 (ix2 r 0) = w) (c : Fin 128) :
    k0_pay17 (F := Ideal) v21 v42 (k0_pay12 v19 v21 v33) (k0_pay13 v19 v21 v33) (k0_pay15 v19 v21 v33) (k0_pay16 v19 v21 v33) (ix2 r c)
      = weights w (probRow lg g) c := by
  have h13 := pay13_at v19 v21 v33 r lg g h19 h21 h33
  have h12 := pay12_at v19 v21 v33 r lg g h19 h21 h33
  have h15 := pay15_at v19 v21 v33 r lg g h19 h21 h33
  have h16 := fun c => pay16_at v19 v21 v33 r lg g h19 h21 h33 (α := EReal) c
  unfold weights
  rw [show firstLane (without (probRow lg g) (firstLane (probRow lg g)))
    = Finset.univ.fold min ⊤ fun l => if without (probRow lg g) (firstLane (probRow lg g)) l = rowMax (without (probRow lg g) (firstLane (probRow lg g)))
        then lane l else ((128 : ℝ) : EReal) from rfl]
  pointwise [k0_pay17]
  rw [bits_top, bits_128]
  simp only [h12, h13, h15, h16, h21, h42]

end Choice

/-- THE KERNEL'S ROUTING: the weight of lane `c` in row `r`, its logits being `lg`. -/
theorem comb_at (v0 : FVec Ideal S512x1024 .f32) (v5 v8 v12 : FVec Ideal S1024x128 .bf16) (v16 : FVec Ideal S1x128 .f32) (r : Fin 512) (c : Fin 128) :
    k0_pay17 (F := Ideal) (k0_pay4 (F := Ideal)) (k0_pay10 (F := Ideal) (k0_pay9 (F := Ideal) v0 v5 v8 v12 v16))
      (k0_pay12 (F := Ideal) (k0_pay3 (F := Ideal) v0 v5 v8 v12 v16) (k0_pay4 (F := Ideal)) (k0_pay8 (F := Ideal) v0 v5 v8 v12 v16))
      (k0_pay13 (F := Ideal) (k0_pay3 (F := Ideal) v0 v5 v8 v12 v16) (k0_pay4 (F := Ideal)) (k0_pay8 (F := Ideal) v0 v5 v8 v12 v16))
      (k0_pay15 (F := Ideal) (k0_pay3 (F := Ideal) v0 v5 v8 v12 v16) (k0_pay4 (F := Ideal)) (k0_pay8 (F := Ideal) v0 v5 v8 v12 v16))
      (k0_pay16 (F := Ideal) (k0_pay3 (F := Ideal) v0 v5 v8 v12 v16) (k0_pay4 (F := Ideal)) (k0_pay8 (F := Ideal) v0 v5 v8 v12 v16)) (ix2 r c)
      = laneWeight (logits v0 v5 v8 v12 v16 r) c :=
  pay17_at _ _ _ r (logits v0 v5 v8 v12 v16 r) _ (fun _ => rfl) (pay4_at r) (pay8_at v0 v5 v8 v12 v16 r) _ _ (pay10_at v0 v5 v8 v12 v16 r) c

end Cert.KernelIdeal.Routing

end
-- ==== Proof.HostReads.lean ====
/-
  Reading the reference's choosing operations at an index, for any number of rows:
  its argmax over rows of four (`argmax_first`), its top-2 of rows of four (`topK_two`), and its two gathers along the second axis
  (`gather_one`, `gather_row`), at an index word that is in range.
-/
module

public import proofs.«01_k».proof.Proof.Row
public import Idealize.ShloMosaic.PureOps.Reduce
public import Idealize.ShloMosaic.PureOps.Ideal.Laws
public import Idealize.ShloMosaic.Lib.Pointwise
public import Idealize.ShloMosaic.Lib.ValueIdxCore

@[expose] public section

noncomputable section

namespace Cert.HostReads

open Idealize.ShloMosaic Cert.Row

/-! ## The argmax -/

/-- Of two (value, position) pairs, the one of greater value; of equal values the one of lower position: the argmax's step. -/
def pick (a b : Ideal .f32 × BitVec 32) : Ideal .f32 × BitVec 32 :=
  let v2 := FloatOps.cmpf .ogt a.1 b.1
  let v3 := FloatOps.cmpf .une a.1 a.1
  let v4 := IntOp.ori v2 v3
  let v5 := FloatOps.cmpf .oeq a.1 b.1
  let v6 := IntOp.cmpi .slt a.2 b.2
  let v7 := IntOp.andi v5 v6
  let v8 := IntOp.ori v4 v7
  (Scalar.select v4 a.1 b.1, Scalar.select v8 a.2 b.2)

/-- `a` is at least as good as `b`. -/
def Beats (a b : Ideal .f32 × BitVec 32) : Prop :=
  (b.1 : EReal) < a.1 ∨ ((a.1 : EReal) = b.1 ∧ a.2.toInt ≤ b.2.toInt)

theorem Beats.refl (a : Ideal .f32 × BitVec 32) : Beats a a := Or.inr ⟨rfl, le_rfl⟩

theorem Beats.trans {a b c : Ideal .f32 × BitVec 32} (h : Beats a b) (h' : Beats b c) : Beats a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

theorem pick_spec (a b : Ideal .f32 × BitVec 32) : (pick a b = a ∨ pick a b = b) ∧ Beats (pick a b) a ∧ Beats (pick a b) b := by
  obtain ⟨x, i⟩ := a
  obtain ⟨y, j⟩ := b
  change EReal at x
  change EReal at y
  have key : pick (x, i) (y, j) = if y < x then (x, i) else if x = y ∧ i.toInt < j.toInt then (x, i) else (y, j) := by
    unfold pick
    rcases lt_trichotomy y x with h | h | h
    · simp [IntOp.ori, IntOp.andi, IntOp.cmpi, Scalar.select, Ideal.cmpf_def, Ideal.cmp, h, h.ne']
    · subst h
      by_cases hij : i.toInt < j.toInt <;>
        simp [IntOp.ori, IntOp.andi, IntOp.cmpi, Scalar.select, Ideal.cmpf_def, Ideal.cmp, BitVec.slt, hij]
    · simp [IntOp.ori, IntOp.andi, IntOp.cmpi, Scalar.select, Ideal.cmpf_def, Ideal.cmp, not_lt.mpr h.le, h.ne]
  rw [key]
  split
  · next h => exact ⟨Or.inl rfl, Beats.refl _, Or.inl h⟩
  · next h =>
    split
    · next h' => exact ⟨Or.inl rfl, Beats.refl _, Or.inr ⟨h'.1, h'.2.le⟩⟩
    · next h' =>
      refine ⟨Or.inr rfl, ?_, Beats.refl _⟩
      rcases (not_lt.mp h).lt_or_eq with hlt | heq
      · exact Or.inl hlt
      · exact Or.inr ⟨heq.symm, not_lt.mp fun hh => h' ⟨heq, hh⟩⟩

theorem foldl_pick (l : List (Ideal .f32 × BitVec 32)) (a : Ideal .f32 × BitVec 32) :
    (l.foldl pick a = a ∨ l.foldl pick a ∈ l) ∧ Beats (l.foldl pick a) a ∧ ∀ b ∈ l, Beats (l.foldl pick a) b := by
  induction l generalizing a with
  | nil => exact ⟨Or.inl rfl, Beats.refl _, fun b hb => absurd hb List.not_mem_nil⟩
  | cons c l ih =>
    obtain ⟨h1, h2, h3⟩ := ih (pick a c)
    obtain ⟨p1, p2, p3⟩ := pick_spec a c
    rw [List.foldl_cons]
    refine ⟨?_, h2.trans p2, ?_⟩
    · rcases h1 with h1 | h1
      · rcases p1 with p1 | p1
        · exact Or.inl (h1.trans p1)
        · exact Or.inr (by rw [h1, p1]; exact List.mem_cons_self)
      · exact Or.inr (List.mem_cons_of_mem _ h1)
    · intro b hb
      rcases List.mem_cons.mp hb with rfl | hb
      · exact h2.trans p3
      · exact h3 b hb

theorem toInt_ofNat (k : Fin 4) : (BitVec.ofNat 32 k.val).toInt = k.val := by
  revert k; decide

variable {R : ℕ}

/-- THE ARGMAX OF A ROW OF FOUR REALS: its position is the first choice. -/
theorem argmax_first {u : Shape} (x : FVec Ideal ⟨2, ![R, 4]⟩ .f32) (iy : u.Idx → BitVec 32)
    (h : (⟨2, ![R, 4]⟩ : Shape).ReducesTo [1] ⟨1, ![R]⟩) (hu : 0 < u.numel) (r : Fin R) (hx : ∀ j : Fin 4, ∃ v : ℝ, x (ix2 r j) = (v : EReal)) :
    ∃ k : Fin 4, IsFirst (fun j => x (ix2 r j)) k ∧
      (Host.argReduce pick x (iotaInDim ⟨2, ![R, 4]⟩ 32 1) (constant (F := Ideal) u .f32 0xFF800000#32) iy h hu (ix1 r)).2 = BitVec.ofNat 32 k.val := by
  rw [Ideal.argReduce_eq_reduce2, Host.reduce2_eq_foldl_fiber]
  have hmem : ∀ p, p ∈ Host.argReduceFiber x (iotaInDim ⟨2, ![R, 4]⟩ 32 1) h (ix1 r) ↔ ∃ k : Fin 4, p = (x (ix2 r k), BitVec.ofNat 32 k.val) := by
    intro p
    unfold Host.argReduceFiber
    simp only [List.mem_map, List.mem_filter, List.mem_finRange, true_and, decide_eq_true_eq]
    constructor
    · rintro ⟨n, hn, rfl⟩
      obtain ⟨k, hk⟩ := (h.fiber_r2_a1 _ _).mp hn
      exact ⟨k, by rw [← hk]; rfl⟩
    · rintro ⟨k, rfl⟩
      exact ⟨(⟨2, ![R, 4]⟩ : Shape).rowMajor (ix2 r k), by rw [Equiv.symm_apply_apply]; exact (h.fiber_r2_a1 _ _).mpr ⟨k, rfl⟩,
        by rw [Equiv.symm_apply_apply]; rfl⟩
  obtain ⟨h1, -, h3⟩ := foldl_pick (Host.argReduceFiber x (iotaInDim ⟨2, ![R, 4]⟩ 32 1) h (ix1 r))
    (constant (F := Ideal) u .f32 0xFF800000#32 (Shape.Idx.first hu), iy (Shape.Idx.first hu))
  have hbot : (constant (F := Ideal) u .f32 0xFF800000#32 (Shape.Idx.first hu) : EReal) = ⊥ := by
    show Ideal.ofBits .f32 0xFF800000#32 = ⊥
    simp [Ideal.ofBits, Ideal.ieee]
  rcases h1 with h1 | h1
  · exfalso
    have := h3 _ ((hmem _).mpr ⟨0, rfl⟩)
    obtain ⟨v, hv⟩ := hx 0
    rw [h1] at this
    rcases this with hlt | ⟨heq, -⟩
    · exact not_lt_bot (hbot ▸ hlt)
    · exact EReal.coe_ne_bot v (hv.symm.trans (heq.symm.trans hbot))
  · obtain ⟨k, hk⟩ := (hmem _).mp h1
    refine ⟨k, fun j hj => ?_, by rw [hk]⟩
    have := h3 _ ((hmem _).mpr ⟨j, rfl⟩)
    rw [hk] at this
    rcases this with hlt | ⟨heq, hle⟩
    · exact Or.inl hlt
    · simp only [toInt_ofNat] at hle
      have : k.val ≤ j.val := by exact_mod_cast hle
      exact Or.inr ⟨heq, lt_of_le_of_ne this fun hh => hj hh.symm⟩

/-! ## The top two -/

/-- THE TOP TWO OF A ROW OF FOUR: values and positions at the first and the second choice. -/
theorem topK_two (x : FVec Ideal ⟨2, ![R, 4]⟩ .f32) (h : (⟨2, ![R, 4]⟩ : Shape).Slices (fun _ => 0) ⟨2, ![R, 2]⟩) (r : Fin R) :
    ∃ k1 k2 : Fin 4, IsFirst (fun j => x (ix2 r j)) k1 ∧ IsSecond (fun j => x (ix2 r j)) k1 k2 ∧
      (Host.topK ⟨2, ![R, 2]⟩ 1 (FloatOps.cmpfTotal .gt) x h).1 (ix2 r 0) = x (ix2 r k1) ∧
      (Host.topK ⟨2, ![R, 2]⟩ 1 (FloatOps.cmpfTotal .gt) x h).1 (ix2 r 1) = x (ix2 r k2) ∧
      (Host.topK ⟨2, ![R, 2]⟩ 1 (FloatOps.cmpfTotal .gt) x h).2 (ix2 r 0) = BitVec.ofNat 32 k1.val ∧
      (Host.topK ⟨2, ![R, 2]⟩ 1 (FloatOps.cmpfTotal .gt) x h).2 (ix2 r 1) = BitVec.ofNat 32 k2.val := by
  have hal : ∀ (a k : Fin 4), (ix2 r a : (⟨2, ![R, 4]⟩ : Shape).Idx).along 1 k = ix2 r k := by
    intro a k; funext b
    match b with
    | ⟨0, _⟩ => rfl
    | ⟨1, _⟩ => rfl
  have hb : ∀ a : Fin 4, (fun k k' : Fin 4 => FloatOps.cmpfTotal (F := Ideal) .gt (x ((ix2 r a : (⟨2, ![R, 4]⟩ : Shape).Idx).along 1 k))
      (x ((ix2 r a : (⟨2, ![R, 4]⟩ : Shape).Idx).along 1 k')) == 1#1) = fun k k' : Fin 4 => decide (x (ix2 r k') < x (ix2 r k)) := by
    intro a; funext k k'
    have e := hal a k
    have e' := hal a k'
    change (BitVec.ofBool (decide ((x ((ix2 r a : (⟨2, ![R, 4]⟩ : Shape).Idx).along 1 k') : EReal) < x ((ix2 r a : (⟨2, ![R, 4]⟩ : Shape).Idx).along 1 k))) == 1#1) = _
    rw [e, e']
    by_cases hlt : x (ix2 r k') < x (ix2 r k) <;> simp [hlt]
  have hs : ∀ {α : Type} (v : (⟨2, ![R, 4]⟩ : Shape).Idx → α) (a : Fin 2),
      extractStridedSlice ⟨2, ![R, 2]⟩ (fun _ => 0) v h (ix2 r a) = v (ix2 r ⟨a.val, by omega⟩) := by
    intro α v a
    refine congrArg v (funext fun b => Fin.ext ?_)
    match b with
    | ⟨0, _⟩ => exact Nat.zero_add _
    | ⟨1, _⟩ => exact Nat.zero_add _
  have e0 : ∀ (a : Fin 2), (Host.topK ⟨2, ![R, 2]⟩ 1 (FloatOps.cmpfTotal .gt) x h).1 (ix2 r a)
      = x (ix2 r (sortedFrom (fun k k' : Fin 4 => decide (x (ix2 r k') < x (ix2 r k))) ⟨a.val, by omega⟩)) := by
    intro a
    unfold Host.topK
    dsimp only
    refine (hs _ a).trans ?_
    rw [← hb ⟨a.val, by omega⟩]
    exact congrArg x (hal _ _)
  have e1 : ∀ (a : Fin 2), (Host.topK ⟨2, ![R, 2]⟩ 1 (FloatOps.cmpfTotal .gt) x h).2 (ix2 r a)
      = BitVec.ofNat 32 (sortedFrom (fun k k' : Fin 4 => decide (x (ix2 r k') < x (ix2 r k))) ⟨a.val, by omega⟩).val := by
    intro a
    unfold Host.topK
    dsimp only
    refine (hs _ a).trans ?_
    rw [← hb ⟨a.val, by omega⟩]
    exact congrArg (fun i : (⟨2, ![R, 4]⟩ : Shape).Idx => BitVec.ofNat 32 (i 1).val) (hal _ _)
  refine ⟨_, _, isFirst_sortedFrom (fun j => x (ix2 r j)), isSecond_sortedFrom (fun j => x (ix2 r j)), e0 0, e0 1, e1 0, e1 1⟩

/-! ## The gathers along the second axis -/

section Gather
variable {α : Type}

theorem clamp_in_range (k : Fin 4) : min (BitVec.ofNat 32 k.val).toInt.toNat (4 - 1) = k.val := by
  rw [toInt_ofNat]; simp; omega

/-- One element of every row. -/
abbrev oneDims (R : ℕ) (wf : GatherDims.WF ⟨2, ![R, 4]⟩ ⟨3, ![R, 1, 1]⟩ ⟨2, ![R, 1]⟩ [] [1] [0] [1] [0] 2 ![1, 1]) :
    GatherDims ⟨2, ![R, 4]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- GATHERING ONE ELEMENT OF A ROW, at an index word in range. -/
theorem gather_one (wf : GatherDims.WF ⟨2, ![R, 4]⟩ ⟨3, ![R, 1, 1]⟩ ⟨2, ![R, 1]⟩ [] [1] [0] [1] [0] 2 ![1, 1])
    (x : (⟨2, ![R, 4]⟩ : Shape).Idx → α) (idx : IVec ⟨3, ![R, 1, 1]⟩ 32) (r : Fin R) (k : Fin 4) (hk : idx (ix3 r 0 0) = BitVec.ofNat 32 k.val) :
    Host.gather (oneDims R wf) x idx (ix2 r 0) = x (ix2 r k) := by
  unfold Host.gather
  congr 1
  funext a
  refine Fin.ext ?_
  show (oneDims R wf).start (ix2 r 0) idx a + (oneDims R wf).batchCoord (ix2 r 0) a + (oneDims R wf).offCoord (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (oneDims R wf).startIndexMap from List.mem_singleton.mpr rfl)]
    have hsi : (oneDims R wf).siIdx (ix2 r 0) ⟨List.idxOf (1 : Fin 2) (oneDims R wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, hk]
    exact clamp_in_range k

/-- One row of four of every row. -/
abbrev rowDims (R : ℕ) (wf : GatherDims.WF ⟨3, ![R, 4, 4]⟩ ⟨3, ![R, 1, 1]⟩ ⟨3, ![R, 1, 4]⟩ [2] [1] [0] [1] [0] 2 ![1, 1, 4]) :
    GatherDims ⟨3, ![R, 4, 4]⟩ ⟨3, ![R, 1, 1]⟩ ⟨3, ![R, 1, 4]⟩ where
  offsetDims := [2]
  collapsedSliceDims := [1]
  operandBatchingDims := [0]
  startIndicesBatchingDims := [0]
  startIndexMap := [1]
  indexVectorDim := 2
  sliceSizes := ![1, 1, 4]
  wf := wf

/-- GATHERING ONE ROW OF FOUR, at an index word in range. -/
theorem gather_row (wf : GatherDims.WF ⟨3, ![R, 4, 4]⟩ ⟨3, ![R, 1, 1]⟩ ⟨3, ![R, 1, 4]⟩ [2] [1] [0] [1] [0] 2 ![1, 1, 4])
    (x : (⟨3, ![R, 4, 4]⟩ : Shape).Idx → α) (idx : IVec ⟨3, ![R, 1, 1]⟩ 32) (r : Fin R) (j k : Fin 4) (hk : idx (ix3 r 0 0) = BitVec.ofNat 32 k.val) :
    Host.gather (rowDims R wf) x idx (ix3 r 0 j) = x (ix3 r k j) := by
  unfold Host.gather
  congr 1
  funext a
  refine Fin.ext ?_
  show (rowDims R wf).start (ix3 r 0 j) idx a + (rowDims R wf).batchCoord (ix3 r 0 j) a + (rowDims R wf).offCoord (ix3 r 0 j) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims R wf).startIndexMap from List.mem_singleton.mpr rfl)]
    have hsi : (rowDims R wf).siIdx (ix3 r 0 j) ⟨List.idxOf (1 : Fin 3) (rowDims R wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, hk]
    exact clamp_in_range k
  · rw [GatherDims.batchCoord_eq_zero _ _ _ (fun h => by simp at h)]
    have hs : (rowDims R wf).start (ix3 r 0 j) idx 2 = 0 := by
      unfold GatherDims.start
      rw [dif_neg (by simp)]
    rw [hs]
    simp only [Nat.zero_add]
    rfl

end Gather

end Cert.HostReads

end
-- ==== Proof.RefReads.lean ====
/-
  The reference's stages read at an index: the routing weight of every expert, the experts, and the layer norm.
-/
module

public import proofs.«01_k».proof.Proof.Stages
public import proofs.«01_k».proof.Proof.HostReads
public import Idealize.ShloMosaic.Lib.Pointwise

@[expose] public section

set_option maxRecDepth 16384

noncomputable section

namespace Cert.ReferenceIdeal.Stages

open Idealize.ShloMosaic Idealize.ShloMosaic.TcCoe Idealize.SL.Sem
open Cert.ReferenceIdeal Cert.ReferenceIdeal.Facts₀ Cert.ReferenceIdeal.Facts
open Cert.Row Cert.HostReads

local instance : Cert.ReferenceIdeal.Facts := Cert.ReferenceIdeal.Gen.facts

theorem negInf : Ideal.ofBits .f32 4286578688#32 = ⊥ := by simp [Ideal.ofBits, Ideal.ieee]

variable (h : FVec Ideal S17408x1024 .f32) (wGroup : FVec Ideal S1x1024x4 .f32) (bGroup : FVec Ideal S1x4 .f32)
  (wExpert : FVec Ideal S1x1024x16 .f32) (bExpert : FVec Ideal S1x16 .f32)
  (wGate wUp : FVec Ideal S1x16x1024x256 .f32) (wDown : FVec Ideal S1x16x256x1024 .f32) (lnG lnB : FVec Ideal S1x1024 .f32)
  (r : Fin 17408)

/-- A row's group logits. -/
def gl (j : Fin 4) : EReal := (∑ x : Fin 1024, h (ix2 r x) * wGroup (ix3 0 x j)) + bGroup (ix2 0 j)

/-- A row's expert logits. -/
def el (e : Fin 16) : EReal := (∑ x : Fin 1024, h (ix2 r x) * wExpert (ix3 0 x e)) + bExpert (ix2 0 e)

theorem groupLogits_at (j : Fin 4) : groupLogits h wGroup bGroup (ix2 r j) = gl h wGroup bGroup r j := by
  unfold gl
  pointwise [groupLogits]

theorem expertLogits_at (k j : Fin 4) :
    expertLogits h wExpert bExpert (ix3 r k j) = groupOf (el h wExpert bExpert r) k j := by
  unfold groupOf el
  pointwise [expertLogits]

theorem softmax_at (x : FVec Ideal S17408x4 .f32) (j : Fin 4) : softmax x (ix2 r j) = softmax4 (fun i => x (ix2 r i)) j := by
  unfold softmax4 rowMax
  pointwise [softmax]
  simp only [negInf, max_eq_right bot_le]

/-- A word in range is not moved by the wrap of negative positions. -/
theorem wrap_eq (k : Fin 4) :
    Scalar.select (IntOp.cmpi .slt (BitVec.ofNat 32 k.val) 0#32) (IntOp.addi (BitVec.ofNat 32 k.val) 4#32) (BitVec.ofNat 32 k.val)
      = BitVec.ofNat 32 k.val := by
  revert k; decide

/-- A word in range passes the test of the bounds. -/
theorem inBounds (k : Fin 4) : IntOp.andi (IntOp.cmpi .sge (BitVec.ofNat 32 k.val) 0#32) (IntOp.cmpi .sle (BitVec.ofNat 32 k.val) 3#32) = 1#1 := by
  revert k; decide

theorem fold_one (b : BitVec 1) : Finset.fold IntOp.andi 1#1 (fun _ : Fin 1 => b) Finset.univ = b := by
  revert b; decide

theorem groupProb_at (I : IVec S17408 32) (x : FVec Ideal S17408x4 .f32) (k : Fin 4) (hI : I (ix1 r) = BitVec.ofNat 32 k.val) :
    groupProb I x (ix2 r 0) = x (ix2 r k) := by
  pointwise [groupProb]
  rw [hI, wrap_eq, inBounds, fold_one]
  refine (if_pos rfl).trans (gather_one _ x _ r k ?_)
  pointwise []
  rw [hI, wrap_eq]

theorem chosenLogits_at (I : IVec S17408 32) (x : FVec Ideal S17408x4x4 .f32) (j k : Fin 4) (hI : I (ix1 r) = BitVec.ofNat 32 k.val) :
    chosenLogits I x (ix2 r j) = x (ix3 r k j) := by
  pointwise [chosenLogits]
  rw [hI, wrap_eq, inBounds, fold_one]
  refine (if_pos rfl).trans (gather_row _ x _ r j k ?_)
  pointwise []
  rw [hI, wrap_eq]

theorem topWeights_at (V : FVec Ideal S17408x2 .f32) (P : FVec Ideal S17408x1 .f32) (j : Fin 2) :
    topWeights V P (ix2 r j) = Ideal.div (V (ix2 r j)) (V (ix2 r 0) + V (ix2 r 1)) * P (ix2 r 0) := by
  pointwise [topWeights]
  rw [Fin.sum_univ_two]

theorem expertIds_at (I : IVec S17408 32) (T : IVec S17408x2 32) (j : Fin 2) :
    expertIds I T (ix2 r j) = IntOp.addi (IntOp.muli (I (ix1 r)) 4#32) (T (ix2 r j)) := by
  pointwise [expertIds]

theorem combine_at (I : IVec S17408x2 32) (W : FVec Ideal S17408x2 .f32) (e : Fin 16) :
    combine I W (ix2 r e) = FloatOps.uitofp (F := Ideal) .f32 (IntOp.cmpi .eq (I (ix2 r 0)) (BitVec.ofNat 32 e.val)) * W (ix2 r 0)
      + FloatOps.uitofp (F := Ideal) .f32 (IntOp.cmpi .eq (I (ix2 r 1)) (BitVec.ofNat 32 e.val)) * W (ix2 r 1) := by
  pointwise [combine]
  rw [Fin.sum_univ_two]

theorem oneHot (k j : Fin 4) (e : Fin 16) :
    FloatOps.uitofp (F := Ideal) .f32 (IntOp.cmpi .eq (IntOp.addi (IntOp.muli (BitVec.ofNat 32 k.val) 4#32) (BitVec.ofNat 32 j.val)) (BitVec.ofNat 32 e.val))
      = (if k.val * 4 + j.val = e.val then 1 else 0 : EReal) := by
  have key : ∀ (k j : Fin 4) (e : Fin 16),
      IntOp.cmpi .eq (IntOp.addi (IntOp.muli (BitVec.ofNat 32 k.val) 4#32) (BitVec.ofNat 32 j.val)) (BitVec.ofNat 32 e.val)
        = if k.val * 4 + j.val = e.val then 1#1 else 0#1 := by decide
  rw [key]
  show (((if k.val * 4 + j.val = e.val then 1#1 else 0#1 : BitVec 1).toNat : ℝ) : EReal) = _
  split <;> simp

/-- THE REFERENCE'S ROUTING: the weight of expert `e` in row `r`. -/
theorem weightsOf_at (hr : ∀ j, ∃ v : ℝ, gl h wGroup bGroup r j = v) :
    ∃ k k1 k2 : Fin 4, IsFirst (gl h wGroup bGroup r) k
      ∧ IsFirst (softmax4 (groupOf (el h wExpert bExpert r) k)) k1
      ∧ IsSecond (softmax4 (groupOf (el h wExpert bExpert r) k)) k1 k2
      ∧ ∀ e : Fin 16, weightsOf h wGroup bGroup wExpert bExpert (ix2 r e)
          = expertWeight (gl h wGroup bGroup r) (el h wExpert bExpert r) k k1 k2 e := by
  have hgl : (fun j => groupLogits h wGroup bGroup (ix2 r j)) = gl h wGroup bGroup r := funext fun j => groupLogits_at h wGroup bGroup r j
  obtain ⟨k, hk, hI⟩ := argmax_first (groupLogits h wGroup bGroup) (constantI S_ 32 0#32) reducesTo_S17408x4_S17408_d1 h_S_ r
    (fun j => by obtain ⟨v, hv⟩ := hr j; exact ⟨v, (groupLogits_at h wGroup bGroup r j).trans hv⟩)
  rw [hgl] at hk
  change groupIndex (groupLogits h wGroup bGroup) (ix1 r) = BitVec.ofNat 32 k.val at hI
  have hs : (fun j => softmax (chosenLogits (groupIndex (groupLogits h wGroup bGroup)) (expertLogits h wExpert bExpert)) (ix2 r j))
      = softmax4 (groupOf (el h wExpert bExpert r) k) := by
    funext j
    rw [softmax_at]
    exact congrArg (fun f => softmax4 f j) (funext fun i => (chosenLogits_at r _ _ i k hI).trans (expertLogits_at h wExpert bExpert r k i))
  obtain ⟨k1, k2, h1, h2, v1, v2, i1, i2⟩ :=
    topK_two (softmax (chosenLogits (groupIndex (groupLogits h wGroup bGroup)) (expertLogits h wExpert bExpert))) sliceFits_S17408x4_S17408x2 r
  rw [hs] at h1 h2
  rw [congrFun hs k1] at v1
  rw [congrFun hs k2] at v2
  refine ⟨k, k1, k2, hk, h1, h2, fun e => ?_⟩
  have hp : groupProb (groupIndex (groupLogits h wGroup bGroup)) (softmax (groupLogits h wGroup bGroup)) (ix2 r 0)
      = softmax4 (gl h wGroup bGroup r) k := by
    rw [groupProb_at r _ _ k hI, softmax_at, hgl]
  unfold weightsOf
  rw [combine_at, topWeights_at, topWeights_at, expertIds_at, expertIds_at, hI, hp]
  unfold topValues topIndices
  rw [v1, v2, i1, i2, oneHot, oneHot]
  rfl

theorem hidden_at (C : FVec Ideal S17408x16 .f32) (e : Fin 16) (f : Fin 256) :
    hidden h wGate wUp C (ix3 r e f) = ((∑ x : Fin 1024, h (ix2 r x) * wGate (ix4 0 e x f)) * Ideal.logistic (∑ x : Fin 1024, h (ix2 r x) * wGate (ix4 0 e x f))
      * ∑ x : Fin 1024, h (ix2 r x) * wUp (ix4 0 e x f)) * C (ix2 r e) := by
  unfold Ideal.logistic
  pointwise [hidden]

/-- What one expert adds to a row. -/
def expertOut (w : EReal) (e : Fin 16) (c : Fin 1024) : EReal :=
  ∑ f : Fin 256, ((∑ x : Fin 1024, h (ix2 r x) * wGate (ix4 0 e x f)) * Ideal.logistic (∑ x : Fin 1024, h (ix2 r x) * wGate (ix4 0 e x f))
      * ∑ x : Fin 1024, h (ix2 r x) * wUp (ix4 0 e x f)) * w * wDown (ix4 0 e f c)

/-- THE REFERENCE'S EXPERTS AND RESIDUAL at an index. -/
theorem sumOf_at (c : Fin 1024) : sumOf h wGroup bGroup wExpert bExpert wGate wUp wDown (ix2 r c)
    = Ideal.ofBits .f32 0x3F9837F0#32 * h (ix2 r c)
      + ∑ e : Fin 16, expertOut h wGate wUp wDown r (weightsOf h wGroup bGroup wExpert bExpert (ix2 r e)) e c := by
  have he : experts (hidden h wGate wUp (weightsOf h wGroup bGroup wExpert bExpert)) wDown (ix2 r c)
      = ∑ e : Fin 16, ∑ f : Fin 256, hidden h wGate wUp (weightsOf h wGroup bGroup wExpert bExpert) (ix3 r e f) * wDown (ix4 0 e f c) := by
    pointwise [experts]
  unfold sumOf expertOut
  simp only [hidden_at] at he
  rw [← he]
  pointwise [residual]

/-- The layer norm of a row at a column. -/
def rowNorm (x : Fin 1024 → EReal) (g b : EReal) (c : Fin 1024) : EReal :=
  (x c - Ideal.div (∑ i, x i) (Ideal.ofBits .f32 0x44800000#32))
      * Ideal.rsqrt (Ideal.div (∑ i, (x i - Ideal.div (∑ i, x i) (Ideal.ofBits .f32 0x44800000#32)) * (x i - Ideal.div (∑ i, x i) (Ideal.ofBits .f32 0x44800000#32)))
          (Ideal.ofBits .f32 0x44800000#32) + Ideal.ofBits .f32 0x3727C5AC#32) * g + b

/-- THE REFERENCE at an index: the layer norm of the residual sum's row. -/
theorem result_at (c : Fin 1024) : result h wGroup bGroup wExpert bExpert wGate wUp wDown lnG lnB (ix2 r c)
    = rowNorm (fun i => sumOf h wGroup bGroup wExpert bExpert wGate wUp wDown (ix2 r i)) (lnG (ix2 0 c)) (lnB (ix2 0 c)) c := by
  unfold result
  generalize sumOf h wGroup bGroup wExpert bExpert wGate wUp wDown = x
  unfold rowNorm
  pointwise [normed, mean, variance]

end Cert.ReferenceIdeal.Stages

end
-- ==== Proof.KernelExperts.lean ====
/-
  The kernel's experts, read at a row: what one expert adds, what two of the sixteen add to the running sum, and the closing layer norm.
-/
module

public import proofs.«01_k».proof.Proof.Gen.KernelIdeal.Skeleton
public import proofs.«01_k».proof.Proof.RefReads
public import Idealize.ShloMosaic.Lib.Pointwise

@[expose] public section

set_option maxRecDepth 16384

noncomputable section

namespace Cert.KernelIdeal.Experts

open Idealize.ShloMosaic Idealize.ShloMosaic.TcCoe Idealize.SL.Sem
open Cert.KernelIdeal Cert.KernelIdeal.Gen

/-- What one expert, its weights `wg`, `wu`, `wd`, adds to column `c` of row `r`, the row's weight for it being `w`. -/
def one (h : FVec Ideal S512x1024 .bf16) (wg wu : FVec Ideal S1x1024x256 .bf16) (wd : FVec Ideal S1x256x1024 .bf16) (r : Fin 512) (w : EReal) (c : Fin 1024) : EReal :=
  ∑ f : Fin 256, ((∑ x, h (ix2 r x) * wg (ix3 0 x f)) * Ideal.logistic (∑ x, h (ix2 r x) * wg (ix3 0 x f)) * ∑ x, h (ix2 r x) * wu (ix3 0 x f)) * w * wd (ix3 0 f c)

variable (h : FVec Ideal S512x1024 .bf16) (comb : FVec Ideal S512x128 .f32) (acc : FVec Ideal S512x1024 .f32)
  (wg wu wg' wu' : FVec Ideal S1x1024x256 .bf16) (wd wd' : FVec Ideal S1x256x1024 .bf16) (r : Fin 512) (c : Fin 1024)

theorem first_at (v21 : FVec Ideal S512x128 .f32) (v42 v70 v76 v82 : FVec Ideal S512x1 .f32) (v84 : IVec S512x128 1) :
    k0_pay18 (F := Ideal) h v21 v42 v70 v76 v82 v84 wg wu wd (ix2 r c)
      = one h wg wu wd r (k0_pay17 (F := Ideal) v21 v42 v70 v76 v82 v84 (ix2 r 4)) c := by
  unfold one
  pointwise [k0_pay18]

theorem acc_5_6 : k0_pay20 (F := Ideal) h comb acc (k0_pay19 h wg) wu wd wg' wu' wd' (ix2 r c)
    = acc (ix2 r c) + one h wg wu wd r (comb (ix2 r 5)) c + one h wg' wu' wd' r (comb (ix2 r 6)) c := by
  unfold one
  pointwise [k0_pay20, k0_pay19]
  try rfl

theorem acc_7_8 : k0_pay22 (F := Ideal) h comb acc (k0_pay21 h wg) wu wd wg' wu' wd' (ix2 r c)
    = acc (ix2 r c) + one h wg wu wd r (comb (ix2 r 7)) c + one h wg' wu' wd' r (comb (ix2 r 8)) c := by
  unfold one
  pointwise [k0_pay22, k0_pay21]
  try rfl

theorem acc_9_10 : k0_pay24 (F := Ideal) h comb acc (k0_pay23 h wg) wu wd wg' wu' wd' (ix2 r c)
    = acc (ix2 r c) + one h wg wu wd r (comb (ix2 r 9)) c + one h wg' wu' wd' r (comb (ix2 r 10)) c := by
  unfold one
  pointwise [k0_pay24, k0_pay23]
  try rfl

theorem acc_11_12 : k0_pay27 (F := Ideal) h comb acc (k0_pay25 h wg) (k0_pay26 wu) (constant S512x256 .f32 0x00000000#32) wd wg' wu' wd' (ix2 r c)
    = acc (ix2 r c) + one h wg wu wd r (comb (ix2 r 11)) c + one h wg' wu' wd' r (comb (ix2 r 12)) c := by
  unfold one
  pointwise [k0_pay27, k0_pay25, k0_pay26]
  try rfl

theorem acc_13_14 : k0_pay31 (F := Ideal) h comb acc (k0_pay28 h wg) (k0_pay29 h wu) (k0_pay30 comb) wd wg' wu' wd' (ix2 r c)
    = acc (ix2 r c) + one h wg wu wd r (comb (ix2 r 13)) c + one h wg' wu' wd' r (comb (ix2 r 14)) c := by
  unfold one
  pointwise [k0_pay31, k0_pay28, k0_pay29, k0_pay30]
  try rfl

theorem acc_15_16 : k0_pay35 (F := Ideal) h comb acc (k0_pay32 h wu) (k0_pay33 comb) (k0_pay34 h wg) wd wg' wu' wd' (ix2 r c)
    = acc (ix2 r c) + one h wg wu wd r (comb (ix2 r 15)) c + one h wg' wu' wd' r (comb (ix2 r 16)) c := by
  unfold one
  pointwise [k0_pay35, k0_pay32, k0_pay33, k0_pay34]
  try rfl

theorem acc_17_18 : k0_pay38 (F := Ideal) h comb acc (k0_pay36 h wg wu) (k0_pay37 comb) wd wg' wu' wd' (ix2 r c)
    = acc (ix2 r c) + one h wg wu wd r (comb (ix2 r 17)) c + one h wg' wu' wd' r (comb (ix2 r 18)) c := by
  unfold one
  pointwise [k0_pay38, k0_pay36, k0_pay37]
  try rfl

/-- The last expert is added, the residual taken and the row normed. -/
theorem last_at (v0 : FVec Ideal S512x1024 .f32) (g b : FVec Ideal S1x1024 .f32) :
    k0_pay1 (F := Ideal) v0 acc (k0_pay39 h comb wg wu) wd g b (ix2 r c)
      = Cert.ReferenceIdeal.Stages.rowNorm (fun i => Ideal.ofBits .f32 0x3F9837F0#32 * v0 (ix2 r i) + (acc (ix2 r i) + one h wg wu wd r (comb (ix2 r 19)) i))
          (g (ix2 0 c)) (b (ix2 0 c)) c := by
  unfold Cert.ReferenceIdeal.Stages.rowNorm one
  pointwise [k0_pay1, k0_pay39]

end Cert.KernelIdeal.Experts

end
-- ==== Proof.KernelBody.lean ====
/-
  The kernel's body at one entry of its block: the layer norm of the residual and the sum of the sixteen experts.
-/
module

public import proofs.«01_k».proof.Proof.KernelRouting
public import proofs.«01_k».proof.Proof.KernelExperts

@[expose] public section

set_option maxRecDepth 16384

noncomputable section

namespace Cert.KernelIdeal.Body

open Idealize.ShloMosaic Idealize.ShloMosaic.TcCoe Idealize.SL.Sem
open Cert.KernelIdeal Cert.KernelIdeal.Gen Cert.Row Cert.KernelIdeal.Routing Cert.KernelIdeal.Experts Cert.ReferenceIdeal.Stages

/-- The weights the routing gives the lanes, a row of the block each. -/
def comb (h : FVec Ideal S512x1024 .f32) (hi lo hi' : FVec Ideal S1024x128 .bf16) (br : FVec Ideal S1x128 .f32) : FVec Ideal S512x128 .f32 :=
  k0_pay17 (F := Ideal) (k0_pay4 (F := Ideal)) (k0_pay10 (F := Ideal) (k0_pay9 (F := Ideal) h hi lo hi' br))
      (k0_pay12 (F := Ideal) (k0_pay3 (F := Ideal) h hi lo hi' br) (k0_pay4 (F := Ideal)) (k0_pay8 (F := Ideal) h hi lo hi' br))
      (k0_pay13 (F := Ideal) (k0_pay3 (F := Ideal) h hi lo hi' br) (k0_pay4 (F := Ideal)) (k0_pay8 (F := Ideal) h hi lo hi' br))
      (k0_pay15 (F := Ideal) (k0_pay3 (F := Ideal) h hi lo hi' br) (k0_pay4 (F := Ideal)) (k0_pay8 (F := Ideal) h hi lo hi' br))
      (k0_pay16 (F := Ideal) (k0_pay3 (F := Ideal) h hi lo hi' br) (k0_pay4 (F := Ideal)) (k0_pay8 (F := Ideal) h hi lo hi' br))

theorem body_at (h : FVec Ideal S512x1024 .f32) (hi lo hi' : FVec Ideal S1024x128 .bf16) (br : FVec Ideal S1x128 .f32)
    (A0 A1 A2 A3 A4 A5 A6 A7 A8 A9 A10 A11 A12 A13 A14 A15 : FVec Ideal S1x1024x256 .bf16)
    (B0 B1 B2 B3 B4 B5 B6 B7 B8 B9 B10 B11 B12 B13 B14 B15 : FVec Ideal S1x1024x256 .bf16)
    (D0 D1 D2 D3 D4 D5 D6 D7 D8 D9 D10 D11 D12 D13 D14 D15 : FVec Ideal S1x256x1024 .bf16)
    (g b : FVec Ideal S1x1024 .f32) (r : Fin 512) (c : Fin 1024) :
    k0_pay1 (F := Ideal) h (k0_pay38 (F := Ideal) (k0_pay2 (F := Ideal) h) (comb h hi lo hi' br) (k0_pay35 (F := Ideal) (k0_pay2 (F := Ideal) h) (comb h hi lo hi' br) (k0_pay31 (F := Ideal) (k0_pay2 (F := Ideal) h) (comb h hi lo hi' br) (k0_pay27 (F := Ideal) (k0_pay2 (F := Ideal) h) (comb h hi lo hi' br) (k0_pay24 (F := Ideal) (k0_pay2 (F := Ideal) h) (comb h hi lo hi' br) (k0_pay22 (F := Ideal) (k0_pay2 (F := Ideal) h) (comb h hi lo hi' br) (k0_pay20 (F := Ideal) (k0_pay2 (F := Ideal) h) (comb h hi lo hi' br) (k0_pay18 (F := Ideal) (k0_pay2 (F := Ideal) h) (k0_pay4 (F := Ideal)) (k0_pay10 (F := Ideal) (k0_pay9 (F := Ideal) h hi lo hi' br)) (k0_pay12 (F := Ideal) (k0_pay3 (F := Ideal) h hi lo hi' br) (k0_pay4 (F := Ideal)) (k0_pay8 (F := Ideal) h hi lo hi' br)) (k0_pay13 (F := Ideal) (k0_pay3 (F := Ideal) h hi lo hi' br) (k0_pay4 (F := Ideal)) (k0_pay8 (F := Ideal) h hi lo hi' br)) (k0_pay15 (F := Ideal) (k0_pay3 (F := Ideal) h hi lo hi' br) (k0_pay4 (F := Ideal)) (k0_pay8 (F := Ideal) h hi lo hi' br)) (k0_pay16 (F := Ideal) (k0_pay3 (F := Ideal) h hi lo hi' br) (k0_pay4 (F := Ideal)) (k0_pay8 (F := Ideal) h hi lo hi' br)) A0 B0 D0) (k0_pay19 (F := Ideal) (k0_pay2 (F := Ideal) h) A1) B1 D1 A2 B2 D2) (k0_pay21 (F := Ideal) (k0_pay2 (F := Ideal) h) A3) B3 D3 A4 B4 D4) (k0_pay23 (F := Ideal) (k0_pay2 (F := Ideal) h) A5) B5 D5 A6 B6 D6) (k0_pay25 (F := Ideal) (k0_pay2 (F := Ideal) h) A7) (k0_pay26 (F := Ideal) B7) (constant S512x256 .f32 0x00000000#32) D7 A8 B8 D8) (k0_pay28 (F := Ideal) (k0_pay2 (F := Ideal) h) A9) (k0_pay29 (F := Ideal) (k0_pay2 (F := Ideal) h) B9) (k0_pay30 (F := Ideal) (comb h hi lo hi' br)) D9 A10 B10 D10) (k0_pay32 (F := Ideal) (k0_pay2 (F := Ideal) h) B11) (k0_pay33 (F := Ideal) (comb h hi lo hi' br)) (k0_pay34 (F := Ideal) (k0_pay2 (F := Ideal) h) A11) D11 A12 B12 D12) (k0_pay36 (F := Ideal) (k0_pay2 (F := Ideal) h) A13 B13) (k0_pay37 (F := Ideal) (comb h hi lo hi' br)) D13 A14 B14 D14) (k0_pay39 (F := Ideal) (k0_pay2 (F := Ideal) h) (comb h hi lo hi' br) A15 B15) D15 g b (ix2 r c)
      = rowNorm (fun i => Ideal.ofBits .f32 0x3F9837F0#32 * h (ix2 r i) + (one (k0_pay2 (F := Ideal) h) A0 B0 D0 r (laneWeight (logits h hi lo hi' br r) 4) i + one (k0_pay2 (F := Ideal) h) A1 B1 D1 r (laneWeight (logits h hi lo hi' br r) 5) i + one (k0_pay2 (F := Ideal) h) A2 B2 D2 r (laneWeight (logits h hi lo hi' br r) 6) i + one (k0_pay2 (F := Ideal) h) A3 B3 D3 r (laneWeight (logits h hi lo hi' br r) 7) i + one (k0_pay2 (F := Ideal) h) A4 B4 D4 r (laneWeight (logits h hi lo hi' br r) 8) i + one (k0_pay2 (F := Ideal) h) A5 B5 D5 r (laneWeight (logits h hi lo hi' br r) 9) i + one (k0_pay2 (F := Ideal) h) A6 B6 D6 r (laneWeight (logits h hi lo hi' br r) 10) i + one (k0_pay2 (F := Ideal) h) A7 B7 D7 r (laneWeight (logits h hi lo hi' br r) 11) i + one (k0_pay2 (F := Ideal) h) A8 B8 D8 r (laneWeight (logits h hi lo hi' br r) 12) i + one (k0_pay2 (F := Ideal) h) A9 B9 D9 r (laneWeight (logits h hi lo hi' br r) 13) i + one (k0_pay2 (F := Ideal) h) A10 B10 D10 r (laneWeight (logits h hi lo hi' br r) 14) i + one (k0_pay2 (F := Ideal) h) A11 B11 D11 r (laneWeight (logits h hi lo hi' br r) 15) i + one (k0_pay2 (F := Ideal) h) A12 B12 D12 r (laneWeight (logits h hi lo hi' br r) 16) i + one (k0_pay2 (F := Ideal) h) A13 B13 D13 r (laneWeight (logits h hi lo hi' br r) 17) i + one (k0_pay2 (F := Ideal) h) A14 B14 D14 r (laneWeight (logits h hi lo hi' br r) 18) i + one (k0_pay2 (F := Ideal) h) A15 B15 D15 r (laneWeight (logits h hi lo hi' br r) 19) i))
          (g (ix2 0 c)) (b (ix2 0 c)) c := by
  have hc : ∀ l, comb h hi lo hi' br (ix2 r l) = laneWeight (logits h hi lo hi' br r) l := fun l => comb_at h hi lo hi' br r l
  rw [last_at]
  refine congrArg (fun f => rowNorm f _ _ c) (funext fun i => ?_)
  simp only [acc_17_18, acc_15_16, acc_13_14, acc_11_12, acc_9_10, acc_7_8, acc_5_6, first_at, hc]
  rw [show ∀ l, k0_pay17 (F := Ideal) (k0_pay4 (F := Ideal)) (k0_pay10 (F := Ideal) (k0_pay9 (F := Ideal) h hi lo hi' br))
      (k0_pay12 (F := Ideal) (k0_pay3 (F := Ideal) h hi lo hi' br) (k0_pay4 (F := Ideal)) (k0_pay8 (F := Ideal) h hi lo hi' br))
      (k0_pay13 (F := Ideal) (k0_pay3 (F := Ideal) h hi lo hi' br) (k0_pay4 (F := Ideal)) (k0_pay8 (F := Ideal) h hi lo hi' br))
      (k0_pay15 (F := Ideal) (k0_pay3 (F := Ideal) h hi lo hi' br) (k0_pay4 (F := Ideal)) (k0_pay8 (F := Ideal) h hi lo hi' br))
      (k0_pay16 (F := Ideal) (k0_pay3 (F := Ideal) h hi lo hi' br) (k0_pay4 (F := Ideal)) (k0_pay8 (F := Ideal) h hi lo hi' br)) (ix2 r l) = laneWeight (logits h hi lo hi' br r) l from hc]

theorem sum_sixteen (f : Fin 16 → EReal) : ∑ e, f e = f 0 + f 1 + f 2 + f 3 + f 4 + f 5 + f 6 + f 7 + f 8 + f 9 + f 10 + f 11 + f 12 + f 13 + f 14 + f 15 := by
  simp [Fin.sum_univ_castSucc]

/-- One expert's part, over the reference's arrays: row `r` of the block is row `R`, and the expert's weights are those of expert `e`. -/
theorem one_eq (h : FVec Ideal S512x1024 .f32) (A B : FVec Ideal S1x1024x256 .bf16) (D : FVec Ideal S1x256x1024 .bf16)
    (X : FVec Ideal S17408x1024 .f32) (wG wU : FVec Ideal S1x16x1024x256 .f32) (wD : FVec Ideal S1x16x256x1024 .f32)
    (r : Fin 512) (R : Fin 17408) (e : Fin 16) (w : EReal) (i : Fin 1024)
    (hX : ∀ x, h (ix2 r x) = X (ix2 R x)) (hA : ∀ x f, A (ix3 0 x f) = wG (ix4 0 e x f)) (hB : ∀ x f, B (ix3 0 x f) = wU (ix4 0 e x f))
    (hD : ∀ f, D (ix3 0 f i) = wD (ix4 0 e f i)) :
    one (k0_pay2 (F := Ideal) h) A B D r w i = expertOut X wG wU wD R w e i := by
  unfold one expertOut
  rw [show k0_pay2 (F := Ideal) h = h from rfl]
  simp only [hX, hA, hB, hD]

end Cert.KernelIdeal.Body

end
-- ==== Proof.Finite.lean ====
/-
  What the precondition says, entry by entry: an array whose entries' absolute values lie under plus infinity holds real numbers; and the router's
  logits over real numbers: the remainders vanish and each logit is real.
-/
module

public import proofs.«01_k».proof.Defs
public import proofs.«01_k».proof.Proof.KernelRouting
public import proofs.«01_k».proof.Proof.RefReads
public import Idealize.ShloMosaic.Lib.Pointwise

@[expose] public section

set_option maxRecDepth 16384

noncomputable section

namespace Cert.Finite

open Idealize.ShloMosaic Idealize.ShloMosaic.TcCoe Idealize.SL.Sem

theorem preFacts : Cert.Pre_finite_routing.Facts := by constructor <;> decide

theorem real_of_under {x : EReal} (h : BitVec.ofBool (decide (FloatOps.absf (F := Ideal) (φ := .f32) x < Ideal.ofBits .f32 2139095040#32)) = 1#1) : ∃ v : ℝ, x = v := by
  rw [Cert.KernelIdeal.Routing.bits_top] at h
  induction x using EReal.rec with
  | bot => exfalso; revert h; simp [FloatOps.absf]
  | coe v => exact ⟨v, rfl⟩
  | top => exfalso; revert h; simp [FloatOps.absf]

theorem real_add {x y : EReal} (hx : ∃ v : ℝ, x = v) (hy : ∃ v : ℝ, y = v) : ∃ v : ℝ, x + y = v := by
  obtain ⟨v, rfl⟩ := hx
  obtain ⟨w, rfl⟩ := hy
  exact ⟨v + w, (EReal.coe_add v w).symm⟩

theorem real_mul {x y : EReal} (hx : ∃ v : ℝ, x = v) (hy : ∃ v : ℝ, y = v) : ∃ v : ℝ, x * y = v := by
  obtain ⟨v, rfl⟩ := hx
  obtain ⟨w, rfl⟩ := hy
  exact ⟨v * w, (EReal.coe_mul v w).symm⟩

theorem real_sum {ι : Type} [Fintype ι] {f : ι → EReal} (hf : ∀ i, ∃ v : ℝ, f i = v) : ∃ v : ℝ, ∑ i, f i = v := by
  choose g hg using hf
  refine ⟨∑ i, g i, ?_⟩
  simp only [hg]
  induction (Finset.univ : Finset ι) using Finset.cons_induction with
  | empty => simp
  | cons a s ha ih => rw [Finset.sum_cons, Finset.sum_cons, ih, EReal.coe_add]

theorem sub_self {x : EReal} (hx : ∃ v : ℝ, x = v) : x - x = 0 := by
  obtain ⟨v, rfl⟩ := hx
  rw [← EReal.coe_sub, _root_.sub_self, EReal.coe_zero]

open Cert.KernelIdeal Cert.KernelIdeal.Routing in
/-- Over real rows and weights the kernel's logit is the plain product: both remainders are zero. -/
theorem logits_plain (h : FVec Ideal S512x1024 .f32) (hi lo : FVec Ideal S1024x128 .bf16) (br : FVec Ideal S1x128 .f32) (r : Fin 512) (l : Fin 128)
    (hh : ∀ x, ∃ v : ℝ, h (ix2 r x) = v) (hlo : ∀ x, lo (ix2 x l) = (0 : EReal)) :
    logits h hi lo hi br r l = (∑ x, h (ix2 r x) * hi (ix2 x l)) + br (ix2 0 l) := by
  have hz : ∀ x, h (ix2 r x) - h (ix2 r x) = 0 := fun x => sub_self (hh x)
  rw [logits_eq]
  simp only [hz, hlo, mul_zero, zero_mul, Finset.sum_const_zero, add_zero]

open Cert.ReferenceIdeal.Stages in
theorem gl_real (h : FVec Ideal Cert.ReferenceIdeal.S17408x1024 .f32) (wGroup : FVec Ideal Cert.ReferenceIdeal.S1x1024x4 .f32) (bGroup : FVec Ideal Cert.ReferenceIdeal.S1x4 .f32)
    (hh : ∀ i, ∃ v : ℝ, h i = v) (hw : ∀ i, ∃ v : ℝ, wGroup i = v) (hb : ∀ i, ∃ v : ℝ, bGroup i = v) (r : Fin 17408) (j : Fin 4) :
    ∃ v : ℝ, gl h wGroup bGroup r j = v :=
  real_add (real_sum fun _ => real_mul (hh _) (hw _)) (hb _)

open Cert.ReferenceIdeal.Stages in
theorem el_real (h : FVec Ideal Cert.ReferenceIdeal.S17408x1024 .f32) (wExpert : FVec Ideal Cert.ReferenceIdeal.S1x1024x16 .f32) (bExpert : FVec Ideal Cert.ReferenceIdeal.S1x16 .f32)
    (hh : ∀ i, ∃ v : ℝ, h i = v) (hw : ∀ i, ∃ v : ℝ, wExpert i = v) (hb : ∀ i, ∃ v : ℝ, bExpert i = v) (r : Fin 17408) (e : Fin 16) :
    ∃ v : ℝ, el h wExpert bExpert r e = v :=
  real_add (real_sum fun _ => real_mul (hh _) (hw _)) (hb _)

/-- The arrays the precondition names hold real numbers. -/
structure Real5 (m : (ℓ : Loc Cert.KernelIdeal.nD Cert.KernelIdeal.τ Cert.KernelIdeal.sig) → Buf (Elt Ideal) ℓ) (c : Dev Cert.KernelIdeal.nD) : Prop where
  rows : ∀ i, ∃ v : ℝ, (m (c.tc.loc Cert.KernelIdeal.main_arg0) : FVec Ideal Cert.KernelIdeal.S17408x1024 .f32) i = (v : EReal)
  wGroup : ∀ i, ∃ v : ℝ, (m (c.tc.loc Cert.KernelIdeal.main_arg1) : FVec Ideal Cert.KernelIdeal.S1x1024x4 .f32) i = (v : EReal)
  bGroup : ∀ i, ∃ v : ℝ, (m (c.tc.loc Cert.KernelIdeal.main_arg2) : FVec Ideal Cert.KernelIdeal.S1x4 .f32) i = (v : EReal)
  wExpert : ∀ i, ∃ v : ℝ, (m (c.tc.loc Cert.KernelIdeal.main_arg3) : FVec Ideal Cert.KernelIdeal.S1x1024x16 .f32) i = (v : EReal)
  bExpert : ∀ i, ∃ v : ℝ, (m (c.tc.loc Cert.KernelIdeal.main_arg4) : FVec Ideal Cert.KernelIdeal.S1x16 .f32) i = (v : EReal)

theorem real5 (m : (ℓ : Loc Cert.KernelIdeal.nD Cert.KernelIdeal.τ Cert.KernelIdeal.sig) → Buf (Elt Ideal) ℓ)
    (h : @Cert.Pre_KernelIdeal_finite_routing preFacts m) (c : Dev Cert.KernelIdeal.nD) : Real5 m c := by
  letI := preFacts
  obtain ⟨h0, h1, h2, h3, h4⟩ := h c
  exact ⟨fun i => real_of_under (congrFun h0 i), fun i => real_of_under (congrFun h1 i), fun i => real_of_under (congrFun h2 i),
    fun i => real_of_under (congrFun h3 i), fun i => real_of_under (congrFun h4 i)⟩

end Cert.Finite

end
-- ==== Proof.KernelValue.lean ====
/-
  The kernel's result is the reference's, over real rows and router.
-/
module

public import proofs.«01_k».proof.Proof.KernelOperands
public import proofs.«01_k».proof.Proof.KernelBody
public import proofs.«01_k».proof.Proof.Finite

@[expose] public section

set_option maxRecDepth 16384

noncomputable section

namespace Cert.KernelIdeal.Value

open Idealize.ShloMosaic Idealize.ShloMosaic.TcCoe Idealize.SL.Sem
open Cert.KernelIdeal Cert.KernelIdeal.Gen Cert.Row Cert.KernelIdeal.Routing Cert.KernelIdeal.Experts Cert.KernelIdeal.Body
open Cert.KernelIdeal.Operands Cert.ReferenceIdeal.Stages Cert.Finite

variable (m : (ℓ : Loc nD τ sig) → Buf (Elt Ideal) ℓ) (c : Dev nD) (t : Fin cfg0.N)

/-- The result the reference computes of the arguments `m` holds. -/
abbrev goal : FVec Ideal S17408x1024 .f32 :=
  Cert.ReferenceIdeal.Stages.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The logits of row `r` of block `t`. -/
abbrev lg (r : Fin 512) : Fin 128 → EReal :=
  logits (iblk m c 0 t : FVec Ideal S512x1024 .f32) (iblk m c 1 t : FVec Ideal S1024x128 .bf16) (iblk m c 2 t : FVec Ideal S1024x128 .bf16)
    (iblk m c 1 t : FVec Ideal S1024x128 .bf16) (iblk m c 3 t : FVec Ideal S1x128 .f32) r

section
variable (hf : Real5 m c) (r : Fin 512) (R : Fin 17408) (hR : R.val = t.val * 512 + r.val)
include hf hR

theorem lg_plain (l : Fin 128) (hl : ∀ x, ∃ v : ℝ, (V m c main_v4 : FVec Ideal S1024x128 .bf16) (ix2 x l) = (v : EReal)) :
    lg m c t r l = HAdd.hAdd (α := EReal) (β := EReal) (∑ x : Fin 1024, HMul.hMul (α := EReal) (β := EReal) ((m ((c : Thread nD τ).loc main_arg0) : FVec Ideal S17408x1024 .f32) (ix2 R x))
      ((V m c main_v4 : FVec Ideal S1024x128 .bf16) (ix2 x l))) ((V m c main_v12 : FVec Ideal S1x128 .f32) (ix2 0 l)) := by
  have hx : ∀ x, (iblk m c 0 t : FVec Ideal S512x1024 .f32) (ix2 r x) = (m ((c : Thread nD τ).loc main_arg0) : FVec Ideal S17408x1024 .f32) (ix2 R x) :=
    fun x => rows_at m c t r x R hR
  unfold lg
  rw [logits_plain _ _ _ _ r l (fun x => by rw [hx x]; exact hf.rows _) (fun x => by rw [block2, rest_eq]; exact Finite.sub_self (hl x))]
  rw [block1, block3]
  simp only [hx]

theorem lg_group (j : Fin 4) : lg m c t r (at4 0 (by omega) j) = gl (m ((c : Thread nD τ).loc main_arg0)) (m ((c : Thread nD τ).loc main_arg1)) (m ((c : Thread nD τ).loc main_arg2)) R j := by
  refine (lg_plain m c t hf r R hR _ (fun x => by rw [router_group]; exact hf.wGroup _)).trans ?_
  exact congrArg₂ (fun a b : EReal => a + b) (Finset.sum_congr rfl fun x _ => congrArg (fun w : EReal => (show EReal from (m ((c : Thread nD τ).loc main_arg0)) (ix2 R x)) * w) (router_group m c x j)) (bias_group m c j)

theorem lg_expert (e : Fin 16) : lg m c t r ⟨4 + e.val, by omega⟩ = el (m ((c : Thread nD τ).loc main_arg0)) (m ((c : Thread nD τ).loc main_arg3)) (m ((c : Thread nD τ).loc main_arg4)) R e := by
  refine (lg_plain m c t hf r R hR _ (fun x => by rw [router_expert]; exact hf.wExpert _)).trans ?_
  exact congrArg₂ (fun a b : EReal => a + b) (Finset.sum_congr rfl fun x _ => congrArg (fun w : EReal => (show EReal from (m ((c : Thread nD τ).loc main_arg0)) (ix2 R x)) * w) (router_expert m c x e)) (bias_expert m c e)

/-- The weight the kernel gives an expert in a row is the reference's. -/
theorem weight_eq (e : Fin 16) : laneWeight (lg m c t r) ⟨4 + e.val, by omega⟩ = weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R e) := by
  have hg := gl_real (m ((c : Thread nD τ).loc main_arg0)) (m ((c : Thread nD τ).loc main_arg1)) (m ((c : Thread nD τ).loc main_arg2)) hf.rows hf.wGroup hf.bGroup R
  have he := el_real (m ((c : Thread nD τ).loc main_arg0)) (m ((c : Thread nD τ).loc main_arg3)) (m ((c : Thread nD τ).loc main_arg4)) hf.rows hf.wExpert hf.bExpert R
  obtain ⟨k, k1, k2, hk, h1, h2, hw⟩ := weightsOf_at (m ((c : Thread nD τ).loc main_arg0)) (m ((c : Thread nD τ).loc main_arg1)) (m ((c : Thread nD τ).loc main_arg2)) (m ((c : Thread nD τ).loc main_arg3)) (m ((c : Thread nD τ).loc main_arg4)) R hg
  rw [hw e]
  exact laneWeight_eq _ _ _ (lg_group m c t hf r R hR) (lg_expert m c t hf r R hR) hg he k k1 k2 hk h1 h2 e

end

theorem expert_0 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_3) (View.ld (iblk m c 5 t : Vec Ideal S16x1024x256 .bf16) r0_3)
        (View.ld (iblk m c 6 t : Vec Ideal S16x256x1024 .bf16) r0_4) r (laneWeight (lg m c t r) 4) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 0)) 0 i :=
  (one_eq _ _ _ _ _ _ _ _ r R 0 _ i (fun x => rows_at m c t r x R hR)
    (fun x f => (wide_0 _ x f).trans ((congrFun (block4 m c t) _).trans (gate_at m c 0 x f)))
    (fun x f => (wide_0 _ x f).trans ((congrFun (block5 m c t) _).trans (up_at m c 0 x f)))
    (fun f => (tall_0 _ f i).trans ((congrFun (block6 m c t) _).trans (down_at m c 0 f i)))).trans
  (congrArg (fun w => expertOut (m ((c : Thread nD τ).loc main_arg0)) (m ((c : Thread nD τ).loc main_arg5)) (m ((c : Thread nD τ).loc main_arg6)) (m ((c : Thread nD τ).loc main_arg7)) R w 0 i) (weight_eq m c t hf r R hR 0))

theorem expert_1 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_5) (View.ld (iblk m c 5 t : Vec Ideal S16x1024x256 .bf16) r0_5)
        (View.ld (iblk m c 6 t : Vec Ideal S16x256x1024 .bf16) r0_6) r (laneWeight (lg m c t r) 5) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 1)) 1 i :=
  (one_eq _ _ _ _ _ _ _ _ r R 1 _ i (fun x => rows_at m c t r x R hR)
    (fun x f => (wide_1 _ x f).trans ((congrFun (block4 m c t) _).trans (gate_at m c 1 x f)))
    (fun x f => (wide_1 _ x f).trans ((congrFun (block5 m c t) _).trans (up_at m c 1 x f)))
    (fun f => (tall_1 _ f i).trans ((congrFun (block6 m c t) _).trans (down_at m c 1 f i)))).trans
  (congrArg (fun w => expertOut (m ((c : Thread nD τ).loc main_arg0)) (m ((c : Thread nD τ).loc main_arg5)) (m ((c : Thread nD τ).loc main_arg6)) (m ((c : Thread nD τ).loc main_arg7)) R w 1 i) (weight_eq m c t hf r R hR 1))

theorem expert_2 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_7) (View.ld (iblk m c 5 t : Vec Ideal S16x1024x256 .bf16) r0_7)
        (View.ld (iblk m c 6 t : Vec Ideal S16x256x1024 .bf16) r0_8) r (laneWeight (lg m c t r) 6) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 2)) 2 i :=
  (one_eq _ _ _ _ _ _ _ _ r R 2 _ i (fun x => rows_at m c t r x R hR)
    (fun x f => (wide_2 _ x f).trans ((congrFun (block4 m c t) _).trans (gate_at m c 2 x f)))
    (fun x f => (wide_2 _ x f).trans ((congrFun (block5 m c t) _).trans (up_at m c 2 x f)))
    (fun f => (tall_2 _ f i).trans ((congrFun (block6 m c t) _).trans (down_at m c 2 f i)))).trans
  (congrArg (fun w => expertOut (m ((c : Thread nD τ).loc main_arg0)) (m ((c : Thread nD τ).loc main_arg5)) (m ((c : Thread nD τ).loc main_arg6)) (m ((c : Thread nD τ).loc main_arg7)) R w 2 i) (weight_eq m c t hf r R hR 2))

theorem expert_3 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_9) (View.ld (iblk m c 5 t : Vec Ideal S16x1024x256 .bf16) r0_9)
        (View.ld (iblk m c 6 t : Vec Ideal S16x256x1024 .bf16) r0_10) r (laneWeight (lg m c t r) 7) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 3)) 3 i :=
  (one_eq _ _ _ _ _ _ _ _ r R 3 _ i (fun x => rows_at m c t r x R hR)
    (fun x f => (wide_3 _ x f).trans ((congrFun (block4 m c t) _).trans (gate_at m c 3 x f)))
    (fun x f => (wide_3 _ x f).trans ((congrFun (block5 m c t) _).trans (up_at m c 3 x f)))
    (fun f => (tall_3 _ f i).trans ((congrFun (block6 m c t) _).trans (down_at m c 3 f i)))).trans
  (congrArg (fun w => expertOut (m ((c : Thread nD τ).loc main_arg0)) (m ((c : Thread nD τ).loc main_arg5)) (m ((c : Thread nD τ).loc main_arg6)) (m ((c : Thread nD τ).loc main_arg7)) R w 3 i) (weight_eq m c t hf r R hR 3))

theorem expert_4 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_11) (View.ld (iblk m c 5 t : Vec Ideal S16x1024x256 .bf16) r0_11)
        (View.ld (iblk m c 6 t : Vec Ideal S16x256x1024 .bf16) r0_12) r (laneWeight (lg m c t r) 8) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 4)) 4 i :=
  (one_eq _ _ _ _ _ _ _ _ r R 4 _ i (fun x => rows_at m c t r x R hR)
    (fun x f => (wide_4 _ x f).trans ((congrFun (block4 m c t) _).trans (gate_at m c 4 x f)))
    (fun x f => (wide_4 _ x f).trans ((congrFun (block5 m c t) _).trans (up_at m c 4 x f)))
    (fun f => (tall_4 _ f i).trans ((congrFun (block6 m c t) _).trans (down_at m c 4 f i)))).trans
  (congrArg (fun w => expertOut (m ((c : Thread nD τ).loc main_arg0)) (m ((c : Thread nD τ).loc main_arg5)) (m ((c : Thread nD τ).loc main_arg6)) (m ((c : Thread nD τ).loc main_arg7)) R w 4 i) (weight_eq m c t hf r R hR 4))

theorem expert_5 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_13) (View.ld (iblk m c 5 t : Vec Ideal S16x1024x256 .bf16) r0_13)
        (View.ld (iblk m c 6 t : Vec Ideal S16x256x1024 .bf16) r0_14) r (laneWeight (lg m c t r) 9) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 5)) 5 i :=
  (one_eq _ _ _ _ _ _ _ _ r R 5 _ i (fun x => rows_at m c t r x R hR)
    (fun x f => (wide_5 _ x f).trans ((congrFun (block4 m c t) _).trans (gate_at m c 5 x f)))
    (fun x f => (wide_5 _ x f).trans ((congrFun (block5 m c t) _).trans (up_at m c 5 x f)))
    (fun f => (tall_5 _ f i).trans ((congrFun (block6 m c t) _).trans (down_at m c 5 f i)))).trans
  (congrArg (fun w => expertOut (m ((c : Thread nD τ).loc main_arg0)) (m ((c : Thread nD τ).loc main_arg5)) (m ((c : Thread nD τ).loc main_arg6)) (m ((c : Thread nD τ).loc main_arg7)) R w 5 i) (weight_eq m c t hf r R hR 5))

theorem expert_6 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_15) (View.ld (iblk m c 5 t : Vec Ideal S16x1024x256 .bf16) r0_15)
        (View.ld (iblk m c 6 t : Vec Ideal S16x256x1024 .bf16) r0_16) r (laneWeight (lg m c t r) 10) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 6)) 6 i :=
  (one_eq _ _ _ _ _ _ _ _ r R 6 _ i (fun x => rows_at m c t r x R hR)
    (fun x f => (wide_6 _ x f).trans ((congrFun (block4 m c t) _).trans (gate_at m c 6 x f)))
    (fun x f => (wide_6 _ x f).trans ((congrFun (block5 m c t) _).trans (up_at m c 6 x f)))
    (fun f => (tall_6 _ f i).trans ((congrFun (block6 m c t) _).trans (down_at m c 6 f i)))).trans
  (congrArg (fun w => expertOut (m ((c : Thread nD τ).loc main_arg0)) (m ((c : Thread nD τ).loc main_arg5)) (m ((c : Thread nD τ).loc main_arg6)) (m ((c : Thread nD τ).loc main_arg7)) R w 6 i) (weight_eq m c t hf r R hR 6))

theorem expert_7 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_17) (View.ld (iblk m c 5 t : Vec Ideal S16x1024x256 .bf16) r0_17)
        (View.ld (iblk m c 6 t : Vec Ideal S16x256x1024 .bf16) r0_18) r (laneWeight (lg m c t r) 11) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 7)) 7 i :=
  (one_eq _ _ _ _ _ _ _ _ r R 7 _ i (fun x => rows_at m c t r x R hR)
    (fun x f => (wide_7 _ x f).trans ((congrFun (block4 m c t) _).trans (gate_at m c 7 x f)))
    (fun x f => (wide_7 _ x f).trans ((congrFun (block5 m c t) _).trans (up_at m c 7 x f)))
    (fun f => (tall_7 _ f i).trans ((congrFun (block6 m c t) _).trans (down_at m c 7 f i)))).trans
  (congrArg (fun w => expertOut (m ((c : Thread nD τ).loc main_arg0)) (m ((c : Thread nD τ).loc main_arg5)) (m ((c : Thread nD τ).loc main_arg6)) (m ((c : Thread nD τ).loc main_arg7)) R w 7 i) (weight_eq m c t hf r R hR 7))

theorem expert_8 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_19) (View.ld (iblk m c 5 t : Vec Ideal S16x1024x256 .bf16) r0_19)
        (View.ld (iblk m c 6 t : Vec Ideal S16x256x1024 .bf16) r0_20) r (laneWeight (lg m c t r) 12) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 8)) 8 i :=
  (one_eq _ _ _ _ _ _ _ _ r R 8 _ i (fun x => rows_at m c t r x R hR)
    (fun x f => (wide_8 _ x f).trans ((congrFun (block4 m c t) _).trans (gate_at m c 8 x f)))
    (fun x f => (wide_8 _ x f).trans ((congrFun (block5 m c t) _).trans (up_at m c 8 x f)))
    (fun f => (tall_8 _ f i).trans ((congrFun (block6 m c t) _).trans (down_at m c 8 f i)))).trans
  (congrArg (fun w => expertOut (m ((c : Thread nD τ).loc main_arg0)) (m ((c : Thread nD τ).loc main_arg5)) (m ((c : Thread nD τ).loc main_arg6)) (m ((c : Thread nD τ).loc main_arg7)) R w 8 i) (weight_eq m c t hf r R hR 8))

theorem expert_9 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_21) (View.ld (iblk m c 5 t : Vec Ideal S16x1024x256 .bf16) r0_21)
        (View.ld (iblk m c 6 t : Vec Ideal S16x256x1024 .bf16) r0_22) r (laneWeight (lg m c t r) 13) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 9)) 9 i :=
  (one_eq _ _ _ _ _ _ _ _ r R 9 _ i (fun x => rows_at m c t r x R hR)
    (fun x f => (wide_9 _ x f).trans ((congrFun (block4 m c t) _).trans (gate_at m c 9 x f)))
    (fun x f => (wide_9 _ x f).trans ((congrFun (block5 m c t) _).trans (up_at m c 9 x f)))
    (fun f => (tall_9 _ f i).trans ((congrFun (block6 m c t) _).trans (down_at m c 9 f i)))).trans
  (congrArg (fun w => expertOut (m ((c : Thread nD τ).loc main_arg0)) (m ((c : Thread nD τ).loc main_arg5)) (m ((c : Thread nD τ).loc main_arg6)) (m ((c : Thread nD τ).loc main_arg7)) R w 9 i) (weight_eq m c t hf r R hR 9))

theorem expert_10 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_23) (View.ld (iblk m c 5 t : Vec Ideal S16x1024x256 .bf16) r0_23)
        (View.ld (iblk m c 6 t : Vec Ideal S16x256x1024 .bf16) r0_24) r (laneWeight (lg m c t r) 14) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 10)) 10 i :=
  (one_eq _ _ _ _ _ _ _ _ r R 10 _ i (fun x => rows_at m c t r x R hR)
    (fun x f => (wide_10 _ x f).trans ((congrFun (block4 m c t) _).trans (gate_at m c 10 x f)))
    (fun x f => (wide_10 _ x f).trans ((congrFun (block5 m c t) _).trans (up_at m c 10 x f)))
    (fun f => (tall_10 _ f i).trans ((congrFun (block6 m c t) _).trans (down_at m c 10 f i)))).trans
  (congrArg (fun w => expertOut (m ((c : Thread nD τ).loc main_arg0)) (m ((c : Thread nD τ).loc main_arg5)) (m ((c : Thread nD τ).loc main_arg6)) (m ((c : Thread nD τ).loc main_arg7)) R w 10 i) (weight_eq m c t hf r R hR 10))

theorem expert_11 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_25) (View.ld (iblk m c 5 t : Vec Ideal S16x1024x256 .bf16) r0_25)
        (View.ld (iblk m c 6 t : Vec Ideal S16x256x1024 .bf16) r0_26) r (laneWeight (lg m c t r) 15) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 11)) 11 i :=
  (one_eq _ _ _ _ _ _ _ _ r R 11 _ i (fun x => rows_at m c t r x R hR)
    (fun x f => (wide_11 _ x f).trans ((congrFun (block4 m c t) _).trans (gate_at m c 11 x f)))
    (fun x f => (wide_11 _ x f).trans ((congrFun (block5 m c t) _).trans (up_at m c 11 x f)))
    (fun f => (tall_11 _ f i).trans ((congrFun (block6 m c t) _).trans (down_at m c 11 f i)))).trans
  (congrArg (fun w => expertOut (m ((c : Thread nD τ).loc main_arg0)) (m ((c : Thread nD τ).loc main_arg5)) (m ((c : Thread nD τ).loc main_arg6)) (m ((c : Thread nD τ).loc main_arg7)) R w 11 i) (weight_eq m c t hf r R hR 11))

theorem expert_12 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_27) (View.ld (iblk m c 5 t : Vec Ideal S16x1024x256 .bf16) r0_27)
        (View.ld (iblk m c 6 t : Vec Ideal S16x256x1024 .bf16) r0_28) r (laneWeight (lg m c t r) 16) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 12)) 12 i :=
  (one_eq _ _ _ _ _ _ _ _ r R 12 _ i (fun x => rows_at m c t r x R hR)
    (fun x f => (wide_12 _ x f).trans ((congrFun (block4 m c t) _).trans (gate_at m c 12 x f)))
    (fun x f => (wide_12 _ x f).trans ((congrFun (block5 m c t) _).trans (up_at m c 12 x f)))
    (fun f => (tall_12 _ f i).trans ((congrFun (block6 m c t) _).trans (down_at m c 12 f i)))).trans
  (congrArg (fun w => expertOut (m ((c : Thread nD τ).loc main_arg0)) (m ((c : Thread nD τ).loc main_arg5)) (m ((c : Thread nD τ).loc main_arg6)) (m ((c : Thread nD τ).loc main_arg7)) R w 12 i) (weight_eq m c t hf r R hR 12))

theorem expert_13 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_29) (View.ld (iblk m c 5 t : Vec Ideal S16x1024x256 .bf16) r0_29)
        (View.ld (iblk m c 6 t : Vec Ideal S16x256x1024 .bf16) r0_30) r (laneWeight (lg m c t r) 17) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 13)) 13 i :=
  (one_eq _ _ _ _ _ _ _ _ r R 13 _ i (fun x => rows_at m c t r x R hR)
    (fun x f => (wide_13 _ x f).trans ((congrFun (block4 m c t) _).trans (gate_at m c 13 x f)))
    (fun x f => (wide_13 _ x f).trans ((congrFun (block5 m c t) _).trans (up_at m c 13 x f)))
    (fun f => (tall_13 _ f i).trans ((congrFun (block6 m c t) _).trans (down_at m c 13 f i)))).trans
  (congrArg (fun w => expertOut (m ((c : Thread nD τ).loc main_arg0)) (m ((c : Thread nD τ).loc main_arg5)) (m ((c : Thread nD τ).loc main_arg6)) (m ((c : Thread nD τ).loc main_arg7)) R w 13 i) (weight_eq m c t hf r R hR 13))

theorem expert_14 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_31) (View.ld (iblk m c 5 t : Vec Ideal S16x1024x256 .bf16) r0_31)
        (View.ld (iblk m c 6 t : Vec Ideal S16x256x1024 .bf16) r0_32) r (laneWeight (lg m c t r) 18) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 14)) 14 i :=
  (one_eq _ _ _ _ _ _ _ _ r R 14 _ i (fun x => rows_at m c t r x R hR)
    (fun x f => (wide_14 _ x f).trans ((congrFun (block4 m c t) _).trans (gate_at m c 14 x f)))
    (fun x f => (wide_14 _ x f).trans ((congrFun (block5 m c t) _).trans (up_at m c 14 x f)))
    (fun f => (tall_14 _ f i).trans ((congrFun (block6 m c t) _).trans (down_at m c 14 f i)))).trans
  (congrArg (fun w => expertOut (m ((c : Thread nD τ).loc main_arg0)) (m ((c : Thread nD τ).loc main_arg5)) (m ((c : Thread nD τ).loc main_arg6)) (m ((c : Thread nD τ).loc main_arg7)) R w 14 i) (weight_eq m c t hf r R hR 14))

theorem expert_15 (hf : Real5 m c) (r : Fin 512) (R : Fin 17408) (hR : R.val = t.val * 512 + r.val) (i : Fin 1024) :
    one (k0_pay2 (F := Ideal) (iblk m c 0 t)) (View.ld (iblk m c 4 t : Vec Ideal S16x1024x256 .bf16) r0_33) (View.ld (iblk m c 5 t : Vec Ideal S16x1024x256 .bf16) r0_33)
        (View.ld (iblk m c 6 t : Vec Ideal S16x256x1024 .bf16) r0_34) r (laneWeight (lg m c t r) 19) i
      = expertOut (m ((c : Thread nD τ).loc main_arg0)) (m ((c : Thread nD τ).loc main_arg5)) (m ((c : Thread nD τ).loc main_arg6)) (m ((c : Thread nD τ).loc main_arg7)) R (weightsOf (m ((c : Thread nD τ).loc main_arg0)) (m ((c : Thread nD τ).loc main_arg1)) (m ((c : Thread nD τ).loc main_arg2)) (m ((c : Thread nD τ).loc main_arg3)) (m ((c : Thread nD τ).loc main_arg4)) (ix2 R 15)) 15 i :=
  (one_eq _ _ _ _ _ _ _ _ r R 15 _ i (fun x => rows_at m c t r x R hR)
    (fun x f => (wide_15 _ x f).trans ((congrFun (block4 m c t) _).trans (gate_at m c 15 x f)))
    (fun x f => (wide_15 _ x f).trans ((congrFun (block5 m c t) _).trans (up_at m c 15 x f)))
    (fun f => (tall_15 _ f i).trans ((congrFun (block6 m c t) _).trans (down_at m c 15 f i)))).trans
  (congrArg (fun w => expertOut (m ((c : Thread nD τ).loc main_arg0)) (m ((c : Thread nD τ).loc main_arg5)) (m ((c : Thread nD τ).loc main_arg6)) (m ((c : Thread nD τ).loc main_arg7)) R w 15 i) (weight_eq m c t hf r R hR 15))

set_option maxHeartbeats 1600000 in
theorem final (hf : Real5 m c) : (dats m 0 c).arrAt 9 (cfgs 0).N = goal m c := by
  refine (dats m 0 c).arrAt_eq_of_covers 9 _ (by decide +kernel) fun t _ y => ?_
  blk_simp; rw [after0_9]; unfold_out out0_9; frame_out
  idx_vars y
  have ht : t.val < 34 := t.isLt
  have he : (((View.whole main_v23).slice (win0_9.rect t)).emb (ix2 y0 y1)) = (ix2 (⟨t.val * 512 + y0.val, by omega⟩ : Fin 17408) y1 : S17408x1024.Idx) := by
    blk_ext [idx t]
  refine Eq.trans ?_ (congrArg (goal m c) he.symm)
  generalize hR' : (⟨t.val * 512 + y0.val, by omega⟩ : Fin 17408) = R
  have hR : R.val = t.val * 512 + y0.val := by rw [← hR']
  refine (body_at _ _ _ _ _ _ _ _ _ _ _ _ _ _ _ _ _ _ _ _ _ _ _ _ _ _ _ _ _ _ _ _ _ _ _ _ _ _ _ _ _ _ _ _ _ _ _ _ _ _ _ _ _ _ _ y0 y1).trans ?_
  refine Eq.trans ?_ (result_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) R y1).symm
  have hg : (iblk m c 7 t : FVec Ideal S1x1024 .f32) (ix2 0 y1) = (m ((c : Thread nD τ).loc main_arg8)) (ix2 0 y1) := (congrFun (block7 m c t) _).trans (scale_at m c y1)
  have hb : (iblk m c 8 t : FVec Ideal S1x1024 .f32) (ix2 0 y1) = (m ((c : Thread nD τ).loc main_arg9)) (ix2 0 y1) := (congrFun (block8 m c t) _).trans (shift_at m c y1)
  refine Eq.trans (congrArg₂ (fun a b => rowNorm _ a b y1) hg hb) (congrArg (fun f => rowNorm f _ _ y1) (funext fun i' => ?_))
  rw [sumOf_at, sum_sixteen]
  exact congrArg₂ (fun a b : EReal => Ideal.ofBits .f32 0x3F9837F0#32 * a + b) (rows_at m c t y0 i' R hR)
    (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (expert_0 m c t hf y0 R hR i') (expert_1 m c t hf y0 R hR i')) (expert_2 m c t hf y0 R hR i')) (expert_3 m c t hf y0 R hR i')) (expert_4 m c t hf y0 R hR i')) (expert_5 m c t hf y0 R hR i')) (expert_6 m c t hf y0 R hR i')) (expert_7 m c t hf y0 R hR i')) (expert_8 m c t hf y0 R hR i')) (expert_9 m c t hf y0 R hR i')) (expert_10 m c t hf y0 R hR i')) (expert_11 m c t hf y0 R hR i')) (expert_12 m c t hf y0 R hR i')) (expert_13 m c t hf y0 R hR i')) (expert_14 m c t hf y0 R hR i')) (expert_15 m c t hf y0 R hR i'))

end Cert.KernelIdeal.Value

end
-- ==== Proof.MergeRef.lean ====
/-
  The second program's reference: its two results in stages, each definition the operations of some lines of the reference,
  and each read at an index; last, that its run ends with the two stages.
-/
module

public import proofs.«01_k».proof.Defs
public import proofs.«01_k».proof.Proof.RefReads
public import proofs.«01_k».proof.Proof.Gen.Reference2Ideal
public import proofs.«01_k».proof.Proof.Gen.Reference2Ideal.Run
public import Idealize.ShloMosaic.Lib.Claim
public import Idealize.ShloMosaic.Lib.Pointwise

@[expose] public section

set_option maxRecDepth 16384

noncomputable section

namespace Cert.Reference2Ideal.Stages

open Idealize.ShloMosaic Idealize.ShloMosaic.TcCoe Idealize.SL.Sem
open Cert.Reference2Ideal Cert.Reference2Ideal.Facts₀ Cert.Reference2Ideal.Facts

local instance : Cert.Reference2Ideal.Facts := Cert.Reference2Ideal.Gen.facts

/-- The rows of the batch: the meta tokens, the prompt, and rows of zeros. -/
def rows (x : FVec Ideal S1x16384x1024 .f32) (metaRows : FVec Ideal S16x1024 .f32) : FVec Ideal S17408x1024 .f32 :=
  concatenate S17408x1024 0 [⟨S16x1024, metaRows⟩, ⟨S16384x1024, shapeCast S16384x1024 x shapeCasts_S1x16384x1024_S16384x1024⟩, ⟨S1008x1024, broadcastInDim S1008x1024 ![] bcast_S_S1008x1024 (constant S_ .f32 0x00000000#32)⟩] concatenates_S16x1024_S16384x1024_S1008x1024_S17408x1024_d0

/-- The projection of every row. -/
def projected (h : FVec Ideal S17408x1024 .f32) (w : FVec Ideal S1x1024x5192 .f32) (b : FVec Ideal S1x5192 .f32) : FVec Ideal S17408x5192 .f32 :=
  addf (Host.dotGeneral dot_S17408x1024_S1024x5192_S17408x5192_1_0_0_1_n_n none h (shapeCast S1024x5192 w shapeCasts_S1x1024x5192_S1024x5192)) (broadcastInDim S17408x5192 ![0, 1] bcast_S1x5192_S17408x5192_0_1 (broadcastInDim S1x5192 ![1] bcast_S5192_S1x5192_1 (shapeCast S5192 b shapeCasts_S1x5192_S5192)))

/-- The convolution's input. -/
def convIn (p : FVec Ideal S17408x5192 .f32) : FVec Ideal S17408x512 .f32 :=
  mulf (extractStridedSlice S17408x512 ![0, 2632] p slices_S17408x5192_S17408x512_0_2632) (extractStridedSlice S17408x512 ![0, 1608] p slices_S17408x5192_S17408x512_0_1608)

/-- The convolution's input with two rows of zeros before it. -/
def padded (z : FVec Ideal S17408x512 .f32) : FVec Ideal S17410x512 .f32 :=
  concatenate S17410x512 0 [⟨S2x512, broadcastInDim S2x512 ![] bcast_S_S2x512 (constant S_ .f32 0x00000000#32)⟩, ⟨S17408x512, z⟩] concatenates_S2x512_S17408x512_S17410x512_d0

/-- The convolution of the padded rows with three taps. -/
def convolved (zp : FVec Ideal S17410x512 .f32) (wc : FVec Ideal S1x3x512 .f32) : FVec Ideal S17408x512 .f32 :=
  addf (addf (mulf (broadcastInDim S17408x512 ![0, 1] bcast_S1x512_S17408x512_0_1 (broadcastInDim S1x512 ![1] bcast_S512_S1x512_1 (shapeCast S512 (extractStridedSlice S1x512 ![0, 0] (shapeCast S3x512 wc shapeCasts_S1x3x512_S3x512) slices_S3x512_S1x512_0_0) shapeCasts_S1x512_S512))) (extractStridedSlice S17408x512 ![0, 0] zp slices_S17410x512_S17408x512_0_0))
    (mulf (broadcastInDim S17408x512 ![0, 1] bcast_S1x512_S17408x512_0_1 (broadcastInDim S1x512 ![1] bcast_S512_S1x512_1 (shapeCast S512 (extractStridedSlice S1x512 ![1, 0] (shapeCast S3x512 wc shapeCasts_S1x3x512_S3x512) slices_S3x512_S1x512_1_0) shapeCasts_S1x512_S512))) (extractStridedSlice S17408x512 ![1, 0] zp slices_S17410x512_S17408x512_1_0)))
    (mulf (broadcastInDim S17408x512 ![0, 1] bcast_S1x512_S17408x512_0_1 (broadcastInDim S1x512 ![1] bcast_S512_S1x512_1 (shapeCast S512 (extractStridedSlice S1x512 ![2, 0] (shapeCast S3x512 wc shapeCasts_S1x3x512_S3x512) slices_S3x512_S1x512_2_0) shapeCasts_S1x512_S512))) (extractStridedSlice S17408x512 ![2, 0] zp slices_S17410x512_S17408x512_2_0))

/-- One over one plus the exponential of the negation. -/
def gate (x : FVec Ideal S17408x1024 .f32) : FVec Ideal S17408x1024 .f32 :=
  Host.divf (broadcastInDim S17408x1024 ![] bcast_S_S17408x1024 (constant S_ .f32 0x3F800000#32)) (addf (broadcastInDim S17408x1024 ![] bcast_S_S17408x1024 (constant S_ .f32 0x3F800000#32)) (Host.exp (Host.negf x)))

/-- The attention's rows projected up. -/
def attnUp (attn : FVec Ideal S17408x512 .bf16) (wA : FVec Ideal S1x512x1024 .f32) : FVec Ideal S17408x1024 .f32 :=
  Host.dotGeneral dot_S17408x512_S512x1024_S17408x1024_1_0_0_1_n_n none (extf .f32 attn bitsLt_bf16_f32) (shapeCast S512x1024 wA shapeCasts_S1x512x1024_S512x1024)

/-- The convolution's rows, gated and projected. -/
def convUp (p : FVec Ideal S17408x5192 .f32) (y : FVec Ideal S17408x512 .f32) (wC : FVec Ideal S1x512x1024 .f32) : FVec Ideal S17408x1024 .f32 :=
  Host.dotGeneral dot_S17408x512_S512x1024_S17408x1024_1_0_0_1_n_n none (mulf (extractStridedSlice S17408x512 ![0, 2120] p slices_S17408x5192_S17408x512_0_2120) y) (shapeCast S512x1024 wC shapeCasts_S1x512x1024_S512x1024)

/-- The two branches, gated and added. -/
def branches (p : FVec Ideal S17408x5192 .f32) (u v : FVec Ideal S17408x1024 .f32) : FVec Ideal S17408x1024 .f32 :=
  addf (mulf (gate (extractStridedSlice S17408x1024 ![0, 3144] p slices_S17408x5192_S17408x1024_0_3144)) u) (mulf (gate (extractStridedSlice S17408x1024 ![0, 4168] p slices_S17408x5192_S17408x1024_0_4168)) v)

/-- The scaled residual sum. -/
def residual (h q : FVec Ideal S17408x1024 .f32) (wO : FVec Ideal S1x1024x1024 .f32) : FVec Ideal S17408x1024 .f32 :=
  addf (mulf (broadcastInDim S17408x1024 ![] bcast_S_S17408x1024 (constant S_ .f32 0x3F9837F0#32)) h) (Host.dotGeneral dot_S17408x1024_S1024x1024_S17408x1024_1_0_0_1_n_n none q (shapeCast S1024x1024 wO shapeCasts_S1x1024x1024_S1024x1024))

/-- The mean of every row. -/
def mean (x : FVec Ideal S17408x1024 .f32) : FVec Ideal S17408x1 .f32 :=
  Host.divf (broadcastInDim S17408x1 ![0] bcast_S17408_S17408x1_0 (Host.reduceAdd x (constant S_ .f32 0x00000000#32) reducesTo_S17408x1024_S17408_d1 h_S_)) (broadcastInDim S17408x1 ![] bcast_S_S17408x1 (constant S_ .f32 0x44800000#32))

/-- The layer norm of every row. -/
def normed (x : FVec Ideal S17408x1024 .f32) (g b : FVec Ideal S1x1024 .f32) : FVec Ideal S17408x1024 .f32 :=
  addf (mulf (mulf (subf x (broadcastInDim S17408x1024 ![0, 1] bcast_S17408x1_S17408x1024_0_1 (mean x))) (broadcastInDim S17408x1024 ![0, 1] bcast_S17408x1_S17408x1024_0_1 (Host.rsqrt (addf (mean (mulf (subf x (broadcastInDim S17408x1024 ![0, 1] bcast_S17408x1_S17408x1024_0_1 (mean x))) (subf x (broadcastInDim S17408x1024 ![0, 1] bcast_S17408x1_S17408x1024_0_1 (mean x))))) (broadcastInDim S17408x1 ![] bcast_S_S17408x1 (constant S_ .f32 0x3727C5AC#32)))))) (broadcastInDim S17408x1024 ![0, 1] bcast_S1x1024_S17408x1024_0_1 (broadcastInDim S1x1024 ![1] bcast_S1024_S1x1024_1 (shapeCast S1024 g shapeCasts_S1x1024_S1024)))) (broadcastInDim S17408x1024 ![0, 1] bcast_S1x1024_S17408x1024_0_1 (broadcastInDim S1x1024 ![1] bcast_S1024_S1x1024_1 (shapeCast S1024 b shapeCasts_S1x1024_S1024)))

/-- The reference's second result, from the arguments: the convolution's input. -/
def resultZ (h : FVec Ideal S17408x1024 .f32) (w : FVec Ideal S1x1024x5192 .f32) (b : FVec Ideal S1x5192 .f32) : FVec Ideal S17408x512 .f32 :=
  convIn (projected h w b)

/-- The residual sum, from the arguments. -/
def sumOf (h : FVec Ideal S17408x1024 .f32) (attn : FVec Ideal S17408x512 .bf16) (w : FVec Ideal S1x1024x5192 .f32) (b : FVec Ideal S1x5192 .f32)
    (wc : FVec Ideal S1x3x512 .f32) (wA wC : FVec Ideal S1x512x1024 .f32) (wO : FVec Ideal S1x1024x1024 .f32) : FVec Ideal S17408x1024 .f32 :=
  residual h (branches (projected h w b) (attnUp attn wA) (convUp (projected h w b) (convolved (padded (convIn (projected h w b))) wc) wC)) wO

/-- The reference's first result, from the arguments. -/
def resultH (h : FVec Ideal S17408x1024 .f32) (attn : FVec Ideal S17408x512 .bf16) (w : FVec Ideal S1x1024x5192 .f32) (b : FVec Ideal S1x5192 .f32)
    (wc : FVec Ideal S1x3x512 .f32) (wA wC : FVec Ideal S1x512x1024 .f32) (wO : FVec Ideal S1x1024x1024 .f32) (g b' : FVec Ideal S1x1024 .f32) : FVec Ideal S17408x1024 .f32 :=
  normed (sumOf h attn w b wc wA wC wO) g b'

/-! ## The stages at an index -/

variable (h : FVec Ideal S17408x1024 .f32) (attn : FVec Ideal S17408x512 .bf16) (w : FVec Ideal S1x1024x5192 .f32) (b : FVec Ideal S1x5192 .f32)
  (wc : FVec Ideal S1x3x512 .f32) (wA wC : FVec Ideal S1x512x1024 .f32) (wO : FVec Ideal S1x1024x1024 .f32) (g b' : FVec Ideal S1x1024 .f32)
  (r : Fin 17408)

/-- A row's projection at a column. -/
def proj (j : Fin 5192) : EReal := (∑ x : Fin 1024, h (ix2 r x) * w (ix3 0 x j)) + b (ix2 0 j)

/-- The convolution's input at a row and a column. -/
def zAt (j : Fin 512) : EReal := proj h w b r ⟨2632 + j.val, by omega⟩ * proj h w b r ⟨1608 + j.val, by omega⟩

/-- The convolution's input `d` rows before: zero where there is no such row. -/
def zBack (d : Nat) (j : Fin 512) : EReal := if d ≤ r.val then zAt h w b ⟨r.val - d, by omega⟩ j else 0

/-- The convolution at a row and a column. -/
def convAt (j : Fin 512) : EReal := wc (ix3 0 0 j) * zBack h w b r 2 j + wc (ix3 0 1 j) * zBack h w b r 1 j + wc (ix3 0 2 j) * zAt h w b r j

/-- The two gated branches at a row and a column. -/
def mixAt (k : Fin 1024) : EReal :=
  Ideal.logistic (proj h w b r ⟨3144 + k.val, by omega⟩) * (∑ j : Fin 512, attn (ix2 r j) * wA (ix3 0 j k))
    + Ideal.logistic (proj h w b r ⟨4168 + k.val, by omega⟩) * (∑ j : Fin 512, proj h w b r ⟨2120 + j.val, by omega⟩ * convAt h w b wc r j * wC (ix3 0 j k))

/-- The scaled residual sum at a row and a column. -/
def sumAt (i : Fin 1024) : EReal := Ideal.ofBits .f32 0x3F9837F0#32 * h (ix2 r i) + ∑ k : Fin 1024, mixAt h attn w b wc wA wC r k * wO (ix3 0 k i)

theorem projected_at (j : Fin 5192) : projected h w b (ix2 r j) = proj h w b r j := by
  unfold proj
  pointwise [projected]

theorem resultZ_at (j : Fin 512) : resultZ h w b (ix2 r j) = zAt h w b r j := by
  unfold zAt
  rw [← projected_at, ← projected_at]
  pointwise [resultZ, convIn]

theorem padded_at (d : Fin 3) (j : Fin 512) (q : Fin 17410) (hq : q.val + d.val = r.val + 2) :
    padded (convIn (projected h w b)) (ix2 q j) = zBack h w b r d.val j := by
  unfold zBack
  simp only [← resultZ_at]
  unfold resultZ
  pointwise [padded]
  by_cases hd : d.val ≤ r.val
  · rw [if_pos hd, dif_neg (by omega)]
    exact congrArg (fun q : Fin 17408 => convIn (projected h w b) (ix2 q j)) (Fin.ext (by simp; omega))
  · rw [if_neg hd, dif_pos (by omega)]

theorem convolved_at (zp : FVec Ideal S17410x512 .f32) (j : Fin 512) : convolved zp wc (ix2 r j)
    = wc (ix3 0 0 j) * zp (ix2 ⟨r.val, by omega⟩ j) + wc (ix3 0 1 j) * zp (ix2 ⟨1 + r.val, by omega⟩ j) + wc (ix3 0 2 j) * zp (ix2 ⟨2 + r.val, by omega⟩ j) := by
  pointwise [convolved]

theorem gate_at (x : FVec Ideal S17408x1024 .f32) (k : Fin 1024) : gate x (ix2 r k) = Ideal.logistic (x (ix2 r k)) := by
  unfold Ideal.logistic
  pointwise [gate]

theorem sumOf_at (i : Fin 1024) : sumOf h attn w b wc wA wC wO (ix2 r i) = sumAt h attn w b wc wA wC wO r i := by
  have hc : ∀ j, convolved (padded (convIn (projected h w b))) wc (ix2 r j) = convAt h w b wc r j := fun j => by
    rw [convolved_at, padded_at h w b r 2 j _ (by simp), padded_at h w b r 1 j _ (by simp; omega), padded_at h w b r 0 j _ (by simp; omega)]
    unfold convAt zBack
    simp
  unfold sumAt mixAt
  simp only [← hc, ← projected_at]
  unfold sumOf
  generalize convolved (padded (convIn (projected h w b))) wc = y
  generalize projected h w b = p
  pointwise [residual, branches, attnUp, convUp, gate_at]

/-- THE REFERENCE'S FIRST RESULT at an index: the layer norm of the residual sum's row. -/
theorem resultH_at (i : Fin 1024) : resultH h attn w b wc wA wC wO g b' (ix2 r i)
    = Cert.ReferenceIdeal.Stages.rowNorm (sumAt h attn w b wc wA wC wO r) (g (ix2 0 i)) (b' (ix2 0 i)) i := by
  rw [show sumAt h attn w b wc wA wC wO r = fun i => sumOf h attn w b wc wA wC wO (ix2 r i) from funext fun i => (sumOf_at h attn w b wc wA wC wO r i).symm]
  unfold resultH
  generalize sumOf h attn w b wc wA wC wO = x
  unfold Cert.ReferenceIdeal.Stages.rowNorm
  pointwise [normed, mean]

/-! ## The run -/

variable (m : (ℓ : Loc nD τ sig) → Buf (Elt Ideal) ℓ) (ρ : Dev nD → PrngReg)

/-- The reference's run ends with its two results in its result arrays, and the arguments as they were. -/
theorem refrun : θ_run defs (onTc (τ := τ) (main (F := Ideal))) ⟨m, fun _ => 0, ρ⟩ fun r => ∀ c : Dev nD,
    r.2.mem ((c.tc : Thread nD τ).loc main_v95) = resultH (rows (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ r.2.mem ((c.tc : Thread nD τ).loc main_v22) = resultZ (rows (m ((c.tc : Thread nD τ).loc main_arg0)) (m ((c.tc : Thread nD τ).loc main_arg1))) (m ((c.tc : Thread nD τ).loc main_arg3)) (m ((c.tc : Thread nD τ).loc main_arg4)) :=
  θ_run_mono (Cert.Reference2Ideal.Value.run m ρ) fun r hr c => ⟨(hr c).1, (hr c).2.1⟩

end Cert.Reference2Ideal.Stages

end
-- ==== Proof.MergeFrame.lean ====
/-
  The second program's reference runs from any memory: it leaves its arguments as they were and every semaphore counter at zero.
-/
module

public import proofs.«01_k».proof.Defs
public import proofs.«01_k».proof.Proof.Gen.Reference2Ideal
public import proofs.«01_k».proof.Proof.Gen.Reference2Ideal.Run
public import Idealize.ShloMosaic.Lib.Claim

@[expose] public section

set_option maxRecDepth 16384

noncomputable section

namespace Cert.Reference2Ideal.Frame

open Idealize.ShloMosaic Idealize.ShloMosaic.TcCoe Idealize.SL.Sem
open Cert.Reference2Ideal

local instance : Cert.Reference2Ideal.Facts := Cert.Reference2Ideal.Gen.facts

theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0 :=
  θ_run_mono (Cert.Reference2Ideal.Value.run m g) fun _ hr => ⟨fun c => (hr c).2.2, sem_eq_zero_of_no_sems (by decide) _⟩

end Cert.Reference2Ideal.Frame

end
-- ==== Proof.MergeBody.lean ====
/-
  The second program's body at one entry of its blocks: the convolution's input, the convolution with the rows before the block,
  the gated branches, the residual sum and the layer norm.
-/
module

public import proofs.«01_k».proof.Proof.Gen.Kernel2Ideal.Skeleton
public import proofs.«01_k».proof.Proof.MergeRef
public import Idealize.ShloMosaic.Lib.Pointwise

@[expose] public section

set_option maxRecDepth 16384

noncomputable section

namespace Cert.Kernel2Ideal.Body

open Idealize.ShloMosaic Idealize.ShloMosaic.TcCoe Idealize.SL.Sem
open Cert.Kernel2Ideal Cert.Kernel2Ideal.Gen

/-- A row of the block times a column of the weights, and the bias. -/
def lin {n k : Nat} (X : FVec Ideal ⟨2, ![n, 1024]⟩ .f32) (w : FVec Ideal ⟨2, ![1024, k]⟩ .bf16) (b : FVec Ideal ⟨2, ![1, k]⟩ .f32) (r : Fin n) (j : Fin k) : EReal :=
  (∑ x : Fin 1024, X (ix2 r x) * w (ix2 x j)) + b (ix2 0 j)

theorem z_at (X : FVec Ideal S512x1024 .f32) (wcc : FVec Ideal S1024x512 .bf16) (bcc : FVec Ideal S1x512 .f32) (wcu : FVec Ideal S1024x512 .bf16) (bcu : FVec Ideal S1x512 .f32)
    (r : Fin 512) (j : Fin 512) : k0_pay4 (F := Ideal) X wcc bcc wcu bcu (ix2 r j) = lin X wcc bcc r j * lin X wcu bcu r j := by
  unfold lin
  pointwise [k0_pay4, k0_pay3, k0_pay2]

theorem z1_at (X : FVec Ideal S512x1024 .f32) (wcc : FVec Ideal S1024x512 .bf16) (bcc : FVec Ideal S1x512 .f32) (wcu : FVec Ideal S1024x512 .bf16) (bcu : FVec Ideal S1x512 .f32)
    (r q : Fin 512) (hq : q.val + 1 = r.val) (j : Fin 512) : k0_pay5 (F := Ideal) X wcc bcc wcu bcu (ix2 r j) = lin X wcc bcc q j * lin X wcu bcu q j := by
  rw [← z_at]
  unfold k0_pay5
  generalize k0_pay4 (F := Ideal) X wcc bcc wcu bcu = z
  pointwise []
  exact congrArg (fun q : Fin 512 => z (ix2 q j)) (Fin.ext (by simp; omega))

theorem z2_at (X : FVec Ideal S512x1024 .f32) (wcc : FVec Ideal S1024x512 .bf16) (bcc : FVec Ideal S1x512 .f32) (wcu : FVec Ideal S1024x512 .bf16) (bcu : FVec Ideal S1x512 .f32)
    (r q : Fin 512) (hq : q.val + 2 = r.val) (j : Fin 512) : k0_pay6 (F := Ideal) X wcc bcc wcu bcu (ix2 r j) = lin X wcc bcc q j * lin X wcu bcu q j := by
  rw [← z_at]
  unfold k0_pay6
  generalize k0_pay4 (F := Ideal) X wcc bcc wcu bcu = z
  pointwise []
  exact congrArg (fun q : Fin 512 => z (ix2 q j)) (Fin.ext (by simp; omega))

/-- The convolution's input at a row before the block: zero for the first block. -/
def before (a : BitVec 32) (X1 : FVec Ideal S8x1024 .f32) (wcc : FVec Ideal S1024x512 .bf16) (bcc : FVec Ideal S1x512 .f32) (wcu : FVec Ideal S1024x512 .bf16) (bcu : FVec Ideal S1x512 .f32)
    (q : Fin 8) (j : Fin 512) : EReal := if a = 0#32 then 0 else lin X1 wcc bcc q j * lin X1 wcu bcu q j

theorem select_eq (p q : BitVec 32) (x y : EReal) : Scalar.select (IntOp.cmpi CmpIPredicate.eq p q) x y = if p = q then x else y := by
  by_cases h : p = q
  · simp [Scalar.select, IntOp.cmpi, h]
  · have hb : (p == q) = false := by simpa using h
    simp [Scalar.select, IntOp.cmpi, h, hb]

theorem word_eq (r : Fin 512) (k : Nat) (hk : k < 512) : (BitVec.ofNat 32 r.val = BitVec.ofNat 32 k) = (r.val = k) := by
  refine propext ⟨fun h => ?_, fun h => by rw [h]⟩
  have h' := congrArg BitVec.toNat h
  simp only [BitVec.toNat_ofNat] at h'
  omega

theorem conv_at (a : BitVec 32) (z z1 z2 : FVec Ideal S512x512 .f32) (X1 : FVec Ideal S8x1024 .f32) (wcc : FVec Ideal S1024x512 .bf16) (bcc : FVec Ideal S1x512 .f32) (wcu : FVec Ideal S1024x512 .bf16) (bcu : FVec Ideal S1x512 .f32)
    (wv : FVec Ideal S8x512 .f32) (r : Fin 512) (j : Fin 512) :
    k0_pay9 (F := Ideal) a z (iota .tc S512x512 32 [0] iota_S512x512_d0_w32) z1 z2 (k0_pay7 (F := Ideal) X1) (k0_pay8 (F := Ideal) X1 wcc bcc) wcu bcu wv (ix2 r j)
      = wv (ix2 0 j) * (if r.val = 0 then before a X1 wcc bcc wcu bcu 6 j else if r.val = 1 then before a X1 wcc bcc wcu bcu 7 j else z2 (ix2 r j))
        + wv (ix2 1 j) * (if r.val = 0 then before a X1 wcc bcc wcu bcu 7 j else z1 (ix2 r j)) + wv (ix2 2 j) * z (ix2 r j) := by
  unfold before lin
  pointwise [k0_pay9, k0_pay8, k0_pay7]
  rw [select_eq, select_eq, select_eq]
  simp only [word_eq r 0 (by omega), word_eq r 1 (by omega)]
  rw [show ∀ x y : EReal, Scalar.select (Scalar.cmpi CmpIPredicate.eq a 0#32) x y = if a = 0#32 then x else y from fun x y => select_eq a 0#32 x y]
  rw [show ∀ x y : EReal, Scalar.select (Scalar.cmpi CmpIPredicate.eq a 0#32) x y = if a = 0#32 then x else y from fun x y => select_eq a 0#32 x y]

/-- What the residual sum is at an entry. -/
theorem sum_at (X : FVec Ideal S512x1024 .f32) (y : FVec Ideal S512x512 .f32) (wcb : FVec Ideal S1024x512 .bf16) (bcb : FVec Ideal S1x512 .f32)
    (A : FVec Ideal S512x512 .bf16) (wA wC : FVec Ideal S512x1024 .bf16) (wga : FVec Ideal S1024x1024 .bf16) (bga : FVec Ideal S1x1024 .f32)
    (wgb : FVec Ideal S1024x1024 .bf16) (bgb : FVec Ideal S1x1024 .f32) (wO : FVec Ideal S1024x1024 .bf16) (r : Fin 512) (i : Fin 1024) :
    k0_pay12 (F := Ideal) (k0_pay2 (F := Ideal) X) (k0_pay3 (F := Ideal) X) y (k0_pay10 (F := Ideal) (k0_pay3 (F := Ideal) X) wcb) (k0_pay11 (F := Ideal) bcb) A wA wC wga bga wgb bgb wO (ix2 r i)
      = Ideal.ofBits .f32 0x3F9837F0#32 * X (ix2 r i) + ∑ k : Fin 1024, (Ideal.logistic (lin X wga bga r k) * (∑ j : Fin 512, A (ix2 r j) * wA (ix2 j k))
          + Ideal.logistic (lin X wgb bgb r k) * (∑ j : Fin 512, lin X wcb bcb r j * y (ix2 r j) * wC (ix2 j k))) * wO (ix2 k i) := by
  unfold lin
  pointwise [k0_pay12, k0_pay2, k0_pay3, k0_pay10, k0_pay11]

theorem norm_at (x : FVec Ideal S512x1024 .f32) (g b : FVec Ideal S1x1024 .f32) (r : Fin 512) (i : Fin 1024) :
    k0_pay1 (F := Ideal) x g b (ix2 r i) = Cert.ReferenceIdeal.Stages.rowNorm (fun i => x (ix2 r i)) (g (ix2 0 i)) (b (ix2 0 i)) i := by
  unfold Cert.ReferenceIdeal.Stages.rowNorm
  pointwise [k0_pay1]

end Cert.Kernel2Ideal.Body

end
-- ==== Proof.MergeOperands.lean ====
/-
  The second program's blocks at a grid point, read at its arguments: 512 rows of the rows' array, the eight rows before them, 512 rows
  of the attention's array, and the operands the program prepares before the call (the projection's columns, the convolution's taps,
  the weights of the branches and of the output, the layer norm's scale and shift).
-/
module

public import proofs.«01_k».proof.Proof.Gen.Kernel2Ideal.Frame
public import proofs.«01_k».proof.Proof.Gen.Kernel2Ideal.Value
public import proofs.«01_k».proof.Proof.MergeRef
public import Idealize.ShloMosaic.Lib.Pipeline.ValueKit

@[expose] public section

set_option maxRecDepth 16384

noncomputable section

namespace Cert.Kernel2Ideal.Operands

open Idealize.ShloMosaic Idealize.ShloMosaic.TcCoe Idealize.SL.Sem
open Cert.Kernel2Ideal Cert.Kernel2Ideal.Gen Cert.Reference2Ideal.Stages

variable (m : (ℓ : Loc nD τ sig) → Buf (Elt Ideal) ℓ) (c : Dev nD) (t : Fin cfg0.N)

theorem idx : ∀ t : Fin cfg0.N, win0_0.index t = ![t.val, 0] ∧ win0_1.index t = ![t.val * 64 - 1, 0] ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![t.val, 0] ∧ win0_20.index t = ![t.val, 0] ∧ (grid0.coords t 0).val = t.val := (by decide +kernel : ∀ t : Fin grid0.N, _)

/-- The rows' array the program builds is the reference's. -/
theorem rows_eq : (V m c main_v2 : FVec Ideal S17408x1024 .f32) = rows (m ((c : Thread nD τ).loc main_arg0)) (m ((c : Thread nD τ).loc main_arg1)) := by
  unfold V
  simp only [hostOps0, hostOps0_1, hostOps0_2, hostOps0_3, hostOps0_4, hostOps0_5, hostOps0_6, List.flatten_cons, List.flatten_nil, List.append_nil, List.cons_append, List.nil_append]
  after_results
  rfl

theorem block0_at (r : Fin 512) (x : Fin 1024) (R : Fin 17408) (hR : R.val = t.val * 512 + r.val) :
    (iblk m c 0 t : FVec Ideal S512x1024 .f32) (ix2 r x) = (V m c main_v2 : FVec Ideal S17408x1024 .f32) (ix2 R x) := by
  blk_ext [iblk, idx t]

theorem block1_at (ht : 0 < t.val) (q : Fin 8) (x : Fin 1024) (R : Fin 17408) (hR : R.val + 8 = t.val * 512 + q.val) :
    (iblk m c 1 t : FVec Ideal S8x1024 .f32) (ix2 q x) = (V m c main_v2 : FVec Ideal S17408x1024 .f32) (ix2 R x) := by
  blk_ext [iblk, idx t]

theorem block2_at (r : Fin 512) (x : Fin 512) (R : Fin 17408) (hR : R.val = t.val * 512 + r.val) :
    (iblk m c 2 t : FVec Ideal S512x512 .bf16) (ix2 r x) = (m ((c : Thread nD τ).loc main_arg2) : FVec Ideal S17408x512 .bf16) (ix2 R x) := by
  blk_ext [iblk, V, idx t]

theorem block3 : (iblk m c 3 t : FVec Ideal S1024x512 .bf16) = (V m c main_v53 : FVec Ideal S1024x512 .bf16) := by
  funext y; blk_ext [iblk, idx t]

theorem block4 : (iblk m c 4 t : FVec Ideal S1x512 .f32) = (V m c main_v54 : FVec Ideal S1x512 .f32) := by
  funext y; blk_ext [iblk, idx t]

theorem block5 : (iblk m c 5 t : FVec Ideal S1024x512 .bf16) = (V m c main_v55 : FVec Ideal S1024x512 .bf16) := by
  funext y; blk_ext [iblk, idx t]

theorem block6 : (iblk m c 6 t : FVec Ideal S1x512 .f32) = (V m c main_v56 : FVec Ideal S1x512 .f32) := by
  funext y; blk_ext [iblk, idx t]

theorem block7 : (iblk m c 7 t : FVec Ideal S1024x512 .bf16) = (V m c main_v57 : FVec Ideal S1024x512 .bf16) := by
  funext y; blk_ext [iblk, idx t]

theorem block8 : (iblk m c 8 t : FVec Ideal S1x512 .f32) = (V m c main_v58 : FVec Ideal S1x512 .f32) := by
  funext y; blk_ext [iblk, idx t]

theorem block9 : (iblk m c 9 t : FVec Ideal S1024x1024 .bf16) = (V m c main_v59 : FVec Ideal S1024x1024 .bf16) := by
  funext y; blk_ext [iblk, idx t]

theorem block10 : (iblk m c 10 t : FVec Ideal S1x1024 .f32) = (V m c main_v60 : FVec Ideal S1x1024 .f32) := by
  funext y; blk_ext [iblk, idx t]

theorem block11 : (iblk m c 11 t : FVec Ideal S1024x1024 .bf16) = (V m c main_v61 : FVec Ideal S1024x1024 .bf16) := by
  funext y; blk_ext [iblk, idx t]

theorem block12 : (iblk m c 12 t : FVec Ideal S1x1024 .f32) = (V m c main_v62 : FVec Ideal S1x1024 .f32) := by
  funext y; blk_ext [iblk, idx t]

theorem block13 : (iblk m c 13 t : FVec Ideal S8x512 .f32) = (V m c main_v64 : FVec Ideal S8x512 .f32) := by
  funext y; blk_ext [iblk, idx t]

theorem block14 : (iblk m c 14 t : FVec Ideal S512x1024 .bf16) = (V m c main_v66 : FVec Ideal S512x1024 .bf16) := by
  funext y; blk_ext [iblk, idx t]

theorem block15 : (iblk m c 15 t : FVec Ideal S512x1024 .bf16) = (V m c main_v68 : FVec Ideal S512x1024 .bf16) := by
  funext y; blk_ext [iblk, idx t]

theorem block16 : (iblk m c 16 t : FVec Ideal S1024x1024 .bf16) = (V m c main_v70 : FVec Ideal S1024x1024 .bf16) := by
  funext y; blk_ext [iblk, idx t]

theorem block17 : (iblk m c 17 t : FVec Ideal S1x1024 .f32) = (V m c main_v72 : FVec Ideal S1x1024 .f32) := by
  funext y; blk_ext [iblk, idx t]

theorem block18 : (iblk m c 18 t : FVec Ideal S1x1024 .f32) = (V m c main_v74 : FVec Ideal S1x1024 .f32) := by
  funext y; blk_ext [iblk, idx t]

theorem weight3_at (x : Fin 1024) (j : Fin 512) : (V m c main_v53 : FVec Ideal S1024x512 .bf16) (ix2 x j) = (m ((c : Thread nD τ).loc main_arg3) : FVec Ideal S1x1024x5192 .f32) (ix3 0 x ⟨1608 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem bias4_at (j : Fin 512) : (V m c main_v54 : FVec Ideal S1x512 .f32) (ix2 0 j) = (m ((c : Thread nD τ).loc main_arg4) : FVec Ideal S1x5192 .f32) (ix2 0 ⟨1608 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem weight5_at (x : Fin 1024) (j : Fin 512) : (V m c main_v55 : FVec Ideal S1024x512 .bf16) (ix2 x j) = (m ((c : Thread nD τ).loc main_arg3) : FVec Ideal S1x1024x5192 .f32) (ix3 0 x ⟨2120 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem bias6_at (j : Fin 512) : (V m c main_v56 : FVec Ideal S1x512 .f32) (ix2 0 j) = (m ((c : Thread nD τ).loc main_arg4) : FVec Ideal S1x5192 .f32) (ix2 0 ⟨2120 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem weight7_at (x : Fin 1024) (j : Fin 512) : (V m c main_v57 : FVec Ideal S1024x512 .bf16) (ix2 x j) = (m ((c : Thread nD τ).loc main_arg3) : FVec Ideal S1x1024x5192 .f32) (ix3 0 x ⟨2632 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem bias8_at (j : Fin 512) : (V m c main_v58 : FVec Ideal S1x512 .f32) (ix2 0 j) = (m ((c : Thread nD τ).loc main_arg4) : FVec Ideal S1x5192 .f32) (ix2 0 ⟨2632 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem weight9_at (x : Fin 1024) (j : Fin 1024) : (V m c main_v59 : FVec Ideal S1024x1024 .bf16) (ix2 x j) = (m ((c : Thread nD τ).loc main_arg3) : FVec Ideal S1x1024x5192 .f32) (ix3 0 x ⟨3144 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem bias10_at (j : Fin 1024) : (V m c main_v60 : FVec Ideal S1x1024 .f32) (ix2 0 j) = (m ((c : Thread nD τ).loc main_arg4) : FVec Ideal S1x5192 .f32) (ix2 0 ⟨3144 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem weight11_at (x : Fin 1024) (j : Fin 1024) : (V m c main_v61 : FVec Ideal S1024x1024 .bf16) (ix2 x j) = (m ((c : Thread nD τ).loc main_arg3) : FVec Ideal S1x1024x5192 .f32) (ix3 0 x ⟨4168 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem bias12_at (j : Fin 1024) : (V m c main_v62 : FVec Ideal S1x1024 .f32) (ix2 0 j) = (m ((c : Thread nD τ).loc main_arg4) : FVec Ideal S1x5192 .f32) (ix2 0 ⟨4168 + j.val, by omega⟩) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem taps_at (q : Fin 3) (j : Fin 512) : (V m c main_v64 : FVec Ideal S8x512 .f32) (ix2 ⟨q.val, by omega⟩ j) = (m ((c : Thread nD τ).loc main_arg5) : FVec Ideal S1x3x512 .f32) (ix3 0 q j) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem weight14_at (x : Fin 512) (j : Fin 1024) : (V m c main_v66 : FVec Ideal S512x1024 .bf16) (ix2 x j) = (m ((c : Thread nD τ).loc main_arg6) : FVec Ideal S1x512x1024 .f32) (ix3 0 x j) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem weight15_at (x : Fin 512) (j : Fin 1024) : (V m c main_v68 : FVec Ideal S512x1024 .bf16) (ix2 x j) = (m ((c : Thread nD τ).loc main_arg7) : FVec Ideal S1x512x1024 .f32) (ix3 0 x j) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem weight16_at (x : Fin 1024) (j : Fin 1024) : (V m c main_v70 : FVec Ideal S1024x1024 .bf16) (ix2 x j) = (m ((c : Thread nD τ).loc main_arg8) : FVec Ideal S1x1024x1024 .f32) (ix3 0 x j) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem scale_at (j : Fin 1024) : (V m c main_v72 : FVec Ideal S1x1024 .f32) (ix2 0 j) = (m ((c : Thread nD τ).loc main_arg9) : FVec Ideal S1x1024 .f32) (ix2 0 j) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem shift_at (j : Fin 1024) : (V m c main_v74 : FVec Ideal S1x1024 .f32) (ix2 0 j) = (m ((c : Thread nD τ).loc main_arg10) : FVec Ideal S1x1024 .f32) (ix2 0 j) := by
  unfold V
  simp only [hostOps0, hostOps0_1, hostOps0_2, hostOps0_3, hostOps0_4, hostOps0_5, hostOps0_6, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

end Cert.Kernel2Ideal.Operands

end
-- ==== Proof.MergeValue.lean ====
/-
  The second program's two result arrays are the reference's.
-/
module

public import proofs.«01_k».proof.Proof.MergeBody
public import proofs.«01_k».proof.Proof.MergeOperands

@[expose] public section

set_option maxRecDepth 16384

noncomputable section

namespace Cert.Kernel2Ideal.Value2

open Idealize.ShloMosaic Idealize.ShloMosaic.TcCoe Idealize.SL.Sem
open Cert.Kernel2Ideal Cert.Kernel2Ideal.Gen Cert.Kernel2Ideal.Operands Cert.Kernel2Ideal.Body Cert.Reference2Ideal.Stages

variable (m : (ℓ : Loc nD τ sig) → Buf (Elt Ideal) ℓ) (c : Dev nD) (t : Fin cfg0.N)

/-! ## The projections a block computes -/

theorem proj3_eq (r : Fin 512) (R : Fin 17408) (hR : R.val = t.val * 512 + r.val) (j : Fin 512) :
    lin (iblk m c 0 t : FVec Ideal S512x1024 .f32) (iblk m c 3 t : FVec Ideal S1024x512 .bf16) (iblk m c 4 t : FVec Ideal S1x512 .f32) r j = proj (rows (m ((c : Thread nD τ).loc main_arg0)) (m ((c : Thread nD τ).loc main_arg1))) (m ((c : Thread nD τ).loc main_arg3)) (m ((c : Thread nD τ).loc main_arg4)) R ⟨1608 + j.val, by omega⟩ :=
  congrArg₂ (fun a b : EReal => a + b)
    (Finset.sum_congr rfl fun x _ => congrArg₂ (fun a b : EReal => a * b) ((block0_at m c t r x R hR).trans (congrFun (rows_eq m c) _)) ((congrFun (block3 m c t) _).trans (weight3_at m c x j)))
    ((congrFun (block4 m c t) _).trans (bias4_at m c j))

theorem proj5_eq (r : Fin 512) (R : Fin 17408) (hR : R.val = t.val * 512 + r.val) (j : Fin 512) :
    lin (iblk m c 0 t : FVec Ideal S512x1024 .f32) (iblk m c 5 t : FVec Ideal S1024x512 .bf16) (iblk m c 6 t : FVec Ideal S1x512 .f32) r j = proj (rows (m ((c : Thread nD τ).loc main_arg0)) (m ((c : Thread nD τ).loc main_arg1))) (m ((c : Thread nD τ).loc main_arg3)) (m ((c : Thread nD τ).loc main_arg4)) R ⟨2120 + j.val, by omega⟩ :=
  congrArg₂ (fun a b : EReal => a + b)
    (Finset.sum_congr rfl fun x _ => congrArg₂ (fun a b : EReal => a * b) ((block0_at m c t r x R hR).trans (congrFun (rows_eq m c) _)) ((congrFun (block5 m c t) _).trans (weight5_at m c x j)))
    ((congrFun (block6 m c t) _).trans (bias6_at m c j))

theorem proj7_eq (r : Fin 512) (R : Fin 17408) (hR : R.val = t.val * 512 + r.val) (j : Fin 512) :
    lin (iblk m c 0 t : FVec Ideal S512x1024 .f32) (iblk m c 7 t : FVec Ideal S1024x512 .bf16) (iblk m c 8 t : FVec Ideal S1x512 .f32) r j = proj (rows (m ((c : Thread nD τ).loc main_arg0)) (m ((c : Thread nD τ).loc main_arg1))) (m ((c : Thread nD τ).loc main_arg3)) (m ((c : Thread nD τ).loc main_arg4)) R ⟨2632 + j.val, by omega⟩ :=
  congrArg₂ (fun a b : EReal => a + b)
    (Finset.sum_congr rfl fun x _ => congrArg₂ (fun a b : EReal => a * b) ((block0_at m c t r x R hR).trans (congrFun (rows_eq m c) _)) ((congrFun (block7 m c t) _).trans (weight7_at m c x j)))
    ((congrFun (block8 m c t) _).trans (bias8_at m c j))

theorem proj9_eq (r : Fin 512) (R : Fin 17408) (hR : R.val = t.val * 512 + r.val) (j : Fin 1024) :
    lin (iblk m c 0 t : FVec Ideal S512x1024 .f32) (iblk m c 9 t : FVec Ideal S1024x1024 .bf16) (iblk m c 10 t : FVec Ideal S1x1024 .f32) r j = proj (rows (m ((c : Thread nD τ).loc main_arg0)) (m ((c : Thread nD τ).loc main_arg1))) (m ((c : Thread nD τ).loc main_arg3)) (m ((c : Thread nD τ).loc main_arg4)) R ⟨3144 + j.val, by omega⟩ :=
  congrArg₂ (fun a b : EReal => a + b)
    (Finset.sum_congr rfl fun x _ => congrArg₂ (fun a b : EReal => a * b) ((block0_at m c t r x R hR).trans (congrFun (rows_eq m c) _)) ((congrFun (block9 m c t) _).trans (weight9_at m c x j)))
    ((congrFun (block10 m c t) _).trans (bias10_at m c j))

theorem proj11_eq (r : Fin 512) (R : Fin 17408) (hR : R.val = t.val * 512 + r.val) (j : Fin 1024) :
    lin (iblk m c 0 t : FVec Ideal S512x1024 .f32) (iblk m c 11 t : FVec Ideal S1024x1024 .bf16) (iblk m c 12 t : FVec Ideal S1x1024 .f32) r j = proj (rows (m ((c : Thread nD τ).loc main_arg0)) (m ((c : Thread nD τ).loc main_arg1))) (m ((c : Thread nD τ).loc main_arg3)) (m ((c : Thread nD τ).loc main_arg4)) R ⟨4168 + j.val, by omega⟩ :=
  congrArg₂ (fun a b : EReal => a + b)
    (Finset.sum_congr rfl fun x _ => congrArg₂ (fun a b : EReal => a * b) ((block0_at m c t r x R hR).trans (congrFun (rows_eq m c) _)) ((congrFun (block11 m c t) _).trans (weight11_at m c x j)))
    ((congrFun (block12 m c t) _).trans (bias12_at m c j))

theorem halo3_eq (ht : 0 < t.val) (q : Fin 8) (R : Fin 17408) (hR : R.val + 8 = t.val * 512 + q.val) (j : Fin 512) :
    lin (iblk m c 1 t : FVec Ideal S8x1024 .f32) (iblk m c 3 t : FVec Ideal S1024x512 .bf16) (iblk m c 4 t : FVec Ideal S1x512 .f32) q j = proj (rows (m ((c : Thread nD τ).loc main_arg0)) (m ((c : Thread nD τ).loc main_arg1))) (m ((c : Thread nD τ).loc main_arg3)) (m ((c : Thread nD τ).loc main_arg4)) R ⟨1608 + j.val, by omega⟩ :=
  congrArg₂ (fun a b : EReal => a + b)
    (Finset.sum_congr rfl fun x _ => congrArg₂ (fun a b : EReal => a * b) ((block1_at m c t ht q x R hR).trans (congrFun (rows_eq m c) _)) ((congrFun (block3 m c t) _).trans (weight3_at m c x j)))
    ((congrFun (block4 m c t) _).trans (bias4_at m c j))

theorem halo7_eq (ht : 0 < t.val) (q : Fin 8) (R : Fin 17408) (hR : R.val + 8 = t.val * 512 + q.val) (j : Fin 512) :
    lin (iblk m c 1 t : FVec Ideal S8x1024 .f32) (iblk m c 7 t : FVec Ideal S1024x512 .bf16) (iblk m c 8 t : FVec Ideal S1x512 .f32) q j = proj (rows (m ((c : Thread nD τ).loc main_arg0)) (m ((c : Thread nD τ).loc main_arg1))) (m ((c : Thread nD τ).loc main_arg3)) (m ((c : Thread nD τ).loc main_arg4)) R ⟨2632 + j.val, by omega⟩ :=
  congrArg₂ (fun a b : EReal => a + b)
    (Finset.sum_congr rfl fun x _ => congrArg₂ (fun a b : EReal => a * b) ((block1_at m c t ht q x R hR).trans (congrFun (rows_eq m c) _)) ((congrFun (block7 m c t) _).trans (weight7_at m c x j)))
    ((congrFun (block8 m c t) _).trans (bias8_at m c j))

/-! ## The convolution's input and the convolution -/

theorem zlin_eq (r : Fin 512) (R : Fin 17408) (hR : R.val = t.val * 512 + r.val) (j : Fin 512) :
    lin (iblk m c 0 t : FVec Ideal S512x1024 .f32) (iblk m c 7 t : FVec Ideal S1024x512 .bf16) (iblk m c 8 t : FVec Ideal S1x512 .f32) r j * lin (iblk m c 0 t : FVec Ideal S512x1024 .f32) (iblk m c 3 t : FVec Ideal S1024x512 .bf16) (iblk m c 4 t : FVec Ideal S1x512 .f32) r j = zAt (rows (m ((c : Thread nD τ).loc main_arg0)) (m ((c : Thread nD τ).loc main_arg1))) (m ((c : Thread nD τ).loc main_arg3)) (m ((c : Thread nD τ).loc main_arg4)) R j :=
  congrArg₂ (fun a b : EReal => a * b) (proj7_eq m c t r R hR j) (proj3_eq m c t r R hR j)

/-- A row before the block: the row `d` before row `r` of the block is row `q` of the eight. -/
theorem before_eq (r : Fin 512) (R : Fin 17408) (hR : R.val = t.val * 512 + r.val) (q : Fin 8) (d : Nat) (hd : d ≤ 2) (hr : r.val < d) (hq : q.val + d = 8 + r.val) (j : Fin 512) :
    before (BitVec.ofNat 32 (grid0.coords t 0).val) (iblk m c 1 t : FVec Ideal S8x1024 .f32) (iblk m c 7 t : FVec Ideal S1024x512 .bf16) (iblk m c 8 t : FVec Ideal S1x512 .f32) (iblk m c 3 t : FVec Ideal S1024x512 .bf16) (iblk m c 4 t : FVec Ideal S1x512 .f32) q j = zBack (rows (m ((c : Thread nD τ).loc main_arg0)) (m ((c : Thread nD τ).loc main_arg1))) (m ((c : Thread nD τ).loc main_arg3)) (m ((c : Thread nD τ).loc main_arg4)) R d j := by
  have ht34 : t.val < 34 := t.isLt
  have hg : (grid0.coords t 0).val = t.val := by obtain ⟨-, -, -, -, -, -, -, -, -, -, -, -, -, -, -, -, -, -, -, -, -, h⟩ := idx t; exact h
  have ha : (BitVec.ofNat 32 (grid0.coords t 0).val = 0#32) = (t.val = 0) := by
    rw [hg]
    exact word_eq ⟨t.val, by omega⟩ 0 (by omega)
  unfold before zBack
  by_cases h0 : t.val = 0
  · rw [if_pos (by rw [ha]; exact h0), if_neg (by omega)]
  · rw [if_neg (by rw [ha]; exact h0), if_pos (by omega)]
    have hR' : (⟨R.val - d, by omega⟩ : Fin 17408).val + 8 = t.val * 512 + q.val := by simp; omega
    exact congrArg₂ (fun a b : EReal => a * b) (halo7_eq m c t (by omega) q _ hR' j) (halo3_eq m c t (by omega) q _ hR' j)

theorem zBack_eq (r q : Fin 512) (R : Fin 17408) (hR : R.val = t.val * 512 + r.val) (d : Nat) (hq : q.val + d = r.val) (j : Fin 512) :
    zAt (rows (m ((c : Thread nD τ).loc main_arg0)) (m ((c : Thread nD τ).loc main_arg1))) (m ((c : Thread nD τ).loc main_arg3)) (m ((c : Thread nD τ).loc main_arg4)) ⟨t.val * 512 + q.val, by have := t.isLt; omega⟩ j = zBack (rows (m ((c : Thread nD τ).loc main_arg0)) (m ((c : Thread nD τ).loc main_arg1))) (m ((c : Thread nD τ).loc main_arg3)) (m ((c : Thread nD τ).loc main_arg4)) R d j := by
  unfold zBack
  rw [if_pos (by omega)]
  exact congrArg (fun R => zAt (rows (m ((c : Thread nD τ).loc main_arg0)) (m ((c : Thread nD τ).loc main_arg1))) (m ((c : Thread nD τ).loc main_arg3)) (m ((c : Thread nD τ).loc main_arg4)) R j) (Fin.ext (by simp; omega))

theorem conv_eq (r : Fin 512) (R : Fin 17408) (hR : R.val = t.val * 512 + r.val) (j : Fin 512) :
    k0_pay9 (F := Ideal) (BitVec.ofNat 32 (grid0.coords t 0).val) (k0_pay4 (F := Ideal) (iblk m c 0 t : FVec Ideal S512x1024 .f32) (iblk m c 7 t : FVec Ideal S1024x512 .bf16) (iblk m c 8 t : FVec Ideal S1x512 .f32) (iblk m c 3 t : FVec Ideal S1024x512 .bf16) (iblk m c 4 t : FVec Ideal S1x512 .f32)) (iota .tc S512x512 32 [0] iota_S512x512_d0_w32) (k0_pay5 (F := Ideal) (iblk m c 0 t : FVec Ideal S512x1024 .f32) (iblk m c 7 t : FVec Ideal S1024x512 .bf16) (iblk m c 8 t : FVec Ideal S1x512 .f32) (iblk m c 3 t : FVec Ideal S1024x512 .bf16) (iblk m c 4 t : FVec Ideal S1x512 .f32)) (k0_pay6 (F := Ideal) (iblk m c 0 t : FVec Ideal S512x1024 .f32) (iblk m c 7 t : FVec Ideal S1024x512 .bf16) (iblk m c 8 t : FVec Ideal S1x512 .f32) (iblk m c 3 t : FVec Ideal S1024x512 .bf16) (iblk m c 4 t : FVec Ideal S1x512 .f32))
        (k0_pay7 (F := Ideal) (iblk m c 1 t : FVec Ideal S8x1024 .f32)) (k0_pay8 (F := Ideal) (iblk m c 1 t : FVec Ideal S8x1024 .f32) (iblk m c 7 t : FVec Ideal S1024x512 .bf16) (iblk m c 8 t : FVec Ideal S1x512 .f32)) (iblk m c 3 t : FVec Ideal S1024x512 .bf16) (iblk m c 4 t : FVec Ideal S1x512 .f32) (iblk m c 13 t : FVec Ideal S8x512 .f32) (ix2 r j)
      = convAt (rows (m ((c : Thread nD τ).loc main_arg0)) (m ((c : Thread nD τ).loc main_arg1))) (m ((c : Thread nD τ).loc main_arg3)) (m ((c : Thread nD τ).loc main_arg4)) (m ((c : Thread nD τ).loc main_arg5)) R j := by
  have ht34 : t.val < 34 := t.isLt
  have tap : ∀ q : Fin 3, (iblk m c 13 t : FVec Ideal S8x512 .f32) (ix2 ⟨q.val, by omega⟩ j) = (m ((c : Thread nD τ).loc main_arg5) : FVec Ideal S1x3x512 .f32) (ix3 0 q j) := fun q =>
    (congrFun (block13 m c t) _).trans (taps_at m c q j)
  rw [conv_at]
  refine congrArg₂ (fun a b : EReal => a + b) (congrArg₂ (fun a b : EReal => a + b) (congrArg₂ (fun a b : EReal => a * b) (tap 0) ?_) (congrArg₂ (fun a b : EReal => a * b) (tap 1) ?_)) (congrArg₂ (fun a b : EReal => a * b) (tap 2) ?_)
  · by_cases h0 : r.val = 0
    · rw [if_pos h0]
      exact before_eq m c t r R hR 6 2 (by omega) (by omega) (by rw [h0]; rfl) j
    · rw [if_neg h0]
      by_cases h1 : r.val = 1
      · rw [if_pos h1]
        exact before_eq m c t r R hR 7 2 (by omega) (by omega) (by rw [h1]; rfl) j
      · rw [if_neg h1, z2_at _ _ _ _ _ r ⟨r.val - 2, by omega⟩ (by simp; omega)]
        exact (zlin_eq m c t ⟨r.val - 2, by omega⟩ ⟨t.val * 512 + (r.val - 2), by omega⟩ rfl j).trans (zBack_eq m c t r ⟨r.val - 2, by omega⟩ R hR 2 (by simp; omega) j)
  · by_cases h0 : r.val = 0
    · rw [if_pos h0]
      exact before_eq m c t r R hR 7 1 (by omega) (by omega) (by rw [h0]; rfl) j
    · rw [if_neg h0, z1_at _ _ _ _ _ r ⟨r.val - 1, by omega⟩ (by simp; omega)]
      exact (zlin_eq m c t ⟨r.val - 1, by omega⟩ ⟨t.val * 512 + (r.val - 1), by omega⟩ rfl j).trans (zBack_eq m c t r ⟨r.val - 1, by omega⟩ R hR 1 (by simp; omega) j)
  · rw [z_at]
    exact zlin_eq m c t r R hR j

/-! ## The arrays -/

theorem final20 : (dats m 0 c).arrAt 20 (cfgs 0).N = resultZ (rows (m ((c : Thread nD τ).loc main_arg0)) (m ((c : Thread nD τ).loc main_arg1))) (m ((c : Thread nD τ).loc main_arg3)) (m ((c : Thread nD τ).loc main_arg4)) := by
  refine (dats m 0 c).arrAt_eq_of_covers 20 _ (by decide +kernel) fun t _ y => ?_
  blk_simp; rw [after0_20]; unfold_out out0_20; frame_out
  idx_vars y
  have ht : t.val < 34 := t.isLt
  have he : (((View.whole main_v75_1).slice (win0_20.rect t)).emb (ix2 y0 y1)) = (ix2 (⟨t.val * 512 + y0.val, by omega⟩ : Fin 17408) y1 : S17408x512.Idx) := by
    blk_ext [idx t]
  refine Eq.trans ?_ (congrArg (resultZ (rows (m ((c : Thread nD τ).loc main_arg0)) (m ((c : Thread nD τ).loc main_arg1))) (m ((c : Thread nD τ).loc main_arg3)) (m ((c : Thread nD τ).loc main_arg4))) he.symm)
  exact (z_at _ _ _ _ _ y0 y1).trans ((zlin_eq m c t y0 _ rfl y1).trans (resultZ_at (rows (m ((c : Thread nD τ).loc main_arg0)) (m ((c : Thread nD τ).loc main_arg1))) (m ((c : Thread nD τ).loc main_arg3)) (m ((c : Thread nD τ).loc main_arg4)) _ y1).symm)

set_option maxHeartbeats 1600000 in
theorem final19 : (dats m 0 c).arrAt 19 (cfgs 0).N = resultH (rows (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 19 _ (by decide +kernel) fun t _ y => ?_
  blk_simp; rw [after0_19]; unfold_out out0_19; frame_out
  idx_vars y
  have ht : t.val < 34 := t.isLt
  have he : (((View.whole main_v75_0).slice (win0_19.rect t)).emb (ix2 y0 y1)) = (ix2 (⟨t.val * 512 + y0.val, by omega⟩ : Fin 17408) y1 : S17408x1024.Idx) := by
    blk_ext [idx t]
  refine Eq.trans ?_ (congrArg (resultH (rows (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) he.symm)
  generalize hR' : (⟨t.val * 512 + y0.val, by omega⟩ : Fin 17408) = R
  have hR : R.val = t.val * 512 + y0.val := by rw [← hR']
  refine (norm_at _ _ _ y0 y1).trans (Eq.trans ?_ (resultH_at (rows (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) R y1).symm)
  have hg : (iblk m c 17 t : FVec Ideal S1x1024 .f32) (ix2 0 y1) = (m ((c : Thread nD τ).loc main_arg9) : FVec Ideal S1x1024 .f32) (ix2 0 y1) := (congrFun (block17 m c t) _).trans (scale_at m c y1)
  have hb : (iblk m c 18 t : FVec Ideal S1x1024 .f32) (ix2 0 y1) = (m ((c : Thread nD τ).loc main_arg10) : FVec Ideal S1x1024 .f32) (ix2 0 y1) := (congrFun (block18 m c t) _).trans (shift_at m c y1)
  refine Eq.trans (congrArg₂ (fun a b => Cert.ReferenceIdeal.Stages.rowNorm _ a b y1) hg hb) (congrArg (fun f => Cert.ReferenceIdeal.Stages.rowNorm f _ _ y1) (funext fun i => ?_))
  refine (sum_at _ _ _ _ _ _ _ _ _ _ _ _ y0 i).trans ?_
  refine congrArg₂ (fun a b : EReal => Ideal.ofBits .f32 0x3F9837F0#32 * a + b) ((block0_at m c t y0 i R hR).trans (congrFun (rows_eq m c) _)) (Finset.sum_congr rfl fun k _ => ?_)
  refine congrArg₂ (fun a b : EReal => a * b) ?_ ((congrFun (block16 m c t) _).trans (weight16_at m c k i))
  refine congrArg₂ (fun a b : EReal => a + b) (congrArg₂ (fun a b : EReal => a * b) (congrArg Ideal.logistic (proj9_eq m c t y0 R hR k)) (Finset.sum_congr rfl fun j _ => ?_))
    (congrArg₂ (fun a b : EReal => a * b) (congrArg Ideal.logistic (proj11_eq m c t y0 R hR k)) (Finset.sum_congr rfl fun j _ => ?_))
  · exact congrArg₂ (fun a b : EReal => a * b) (block2_at m c t y0 j R hR) ((congrFun (block14 m c t) _).trans (weight14_at m c j k))
  · exact congrArg₂ (fun a b : EReal => a * b) (congrArg₂ (fun a b : EReal => a * b) (proj5_eq m c t y0 R hR j) (conv_eq m c t y0 R hR j)) ((congrFun (block15 m c t) _).trans (weight15_at m c j k))

end Cert.Kernel2Ideal.Value2

end
-- ==== Proof.ProjBody.lean ====
/-
  The third program's body at one entry of its blocks: a row's projections, and the rotation of a key's and an indexer key's entries by
  the rolled row and the tables.
-/
module

public import proofs.«01_k».proof.Defs
public import proofs.«01_k».proof.Proof.Gen.Kernel3Ideal.Skeleton
public import Idealize.ShloMosaic.Lib.Pointwise

@[expose] public section

set_option maxRecDepth 16384

noncomputable section

namespace Cert.Kernel3Ideal.Body

open Idealize.ShloMosaic Idealize.ShloMosaic.TcCoe Idealize.SL.Sem
open Cert.Kernel3Ideal Cert.Kernel3Ideal.Gen

/-- A row of the block times a column of the weights, and the bias. -/
def lin {n k : Nat} (X : FVec Ideal ⟨2, ![n, 1024]⟩ .f32) (w : FVec Ideal ⟨2, ![1024, k]⟩ .bf16) (b : FVec Ideal ⟨2, ![1, k]⟩ .f32) (r : Fin n) (j : Fin k) : EReal :=
  (∑ x : Fin 1024, X (ix2 r x) * w (ix2 x j)) + b (ix2 0 j)

/-- A row's entries turned by the tables: every entry times the cosine, and its partner, 32 entries on or back, times the signed sine. -/
def spin (x C S : FVec Ideal S1024x128 .f32) : FVec Ideal S1024x128 .f32 :=
  addf (mulf x C) (mulf (select k0_pay6 (dynamicRotate 1 96#32 none x rotates_S1024x128_d1) (dynamicRotate 1 32#32 none x rotates_S1024x128_d1)) S)

/-- The lanes whose partner is 32 entries on: the first half of every head. -/
theorem mask_at (r : Fin 1024) (j : Fin 128) : (k0_pay6 : IVec S1024x128 1) (ix2 r j) = if j.val % 64 < 32 then 1#1 else 0#1 := by
  pointwise [k0_pay6]
  revert j
  decide +kernel

theorem spin_lo (x C S : FVec Ideal S1024x128 .f32) (r : Fin 1024) (j i : Fin 128) (hj : j.val % 64 < 32) (hi : i.val = j.val + 32) :
    spin x C S (ix2 r j) = x (ix2 r j) * C (ix2 r j) + x (ix2 r i) * S (ix2 r j) := by
  have hm := mask_at r j
  rw [if_pos hj] at hm
  unfold spin
  generalize k0_pay6 = M at hm ⊢
  pointwise [hm]
  exact congrArg (fun q : Fin 128 => x (ix2 r j) * C (ix2 r j) + x (ix2 r q) * S (ix2 r j)) (Fin.ext (by simp; omega))

theorem spin_hi (x C S : FVec Ideal S1024x128 .f32) (r : Fin 1024) (j i : Fin 128) (hj : ¬ j.val % 64 < 32) (hi : i.val + 32 = j.val) :
    spin x C S (ix2 r j) = x (ix2 r j) * C (ix2 r j) + x (ix2 r i) * S (ix2 r j) := by
  have hm := mask_at r j
  rw [if_neg hj] at hm
  unfold spin
  generalize k0_pay6 = M at hm ⊢
  pointwise [hm]
  exact congrArg (fun q : Fin 128 => x (ix2 r j) * C (ix2 r j) + x (ix2 r q) * S (ix2 r j)) (Fin.ext (by simp; omega))

variable (X : FVec Ideal S1024x1024 .f32) (C S : FVec Ideal S1024x128 .f32) (r : Fin 1024)

theorem proj_at (W : FVec Ideal S1024x256 .bf16) (B : FVec Ideal S1x256 .f32) (j : Fin 256) :
    k0_pay12 (F := Ideal) (k0_pay3 (F := Ideal) X) W B (ix2 r j) = lin X W B r j := by
  unfold lin
  pointwise [k0_pay12, k0_pay3]

theorem value_at (W : FVec Ideal S1024x256 .bf16) (B : FVec Ideal S1x256 .f32) (j : Fin 256) :
    k0_pay18 (F := Ideal) (k0_pay3 (F := Ideal) X) W B (ix2 j r) = lin X W B r j := by
  unfold lin
  pointwise [k0_pay18, k0_pay3]

/-- The keys of a block, a column per row. -/
def keyBlock (W : FVec Ideal S1024x256 .bf16) (B : FVec Ideal S1x256 .f32) : FVec Ideal S256x1024 .f32 :=
  k0_pay16 (F := Ideal) (k0_pay4 (F := Ideal) C) (k0_pay5 (F := Ideal) S) k0_pay6 (k0_pay13 (F := Ideal) (k0_pay3 (F := Ideal) X) (k0_pay4 (F := Ideal) C) (k0_pay5 (F := Ideal) S) k0_pay6 W B) (k0_pay14 (F := Ideal) (k0_pay3 (F := Ideal) X) W B) 96#32

theorem pay4_eq : k0_pay4 (F := Ideal) C = C := by
  funext y
  idx_vars y
  pointwise [k0_pay4]

theorem pay5_eq : k0_pay5 (F := Ideal) S = S := by
  funext y
  idx_vars y
  pointwise [k0_pay5]

theorem keyBlock_eq (W : FVec Ideal S1024x256 .bf16) (B : FVec Ideal S1x256 .f32) : keyBlock X C S W B
    = transpose S256x1024 [1, 0] (concatenate S1024x256 1 [⟨S1024x128, spin (extractStridedSlice S1024x128 ![0, 0] (k0_pay12 (F := Ideal) (k0_pay3 (F := Ideal) X) W B) slices_S1024x256_o0_0_S1024x128) C S⟩,
        ⟨S1024x128, spin (extractStridedSlice S1024x128 ![0, 128] (k0_pay12 (F := Ideal) (k0_pay3 (F := Ideal) X) W B) slices_S1024x256_o0_128_S1024x128) C S⟩] concatenates_S1024x128_S1024x128_S1024x256_d1) transposes_S1024x256_p1_0_S256x1024 := by
  unfold keyBlock
  rw [pay4_eq, pay5_eq]
  rfl

theorem keyBlock_left (W : FVec Ideal S1024x256 .bf16) (B : FVec Ideal S1x256 .f32) (j : Fin 256) (l : Fin 128) (hl : j.val = l.val) :
    keyBlock X C S W B (ix2 j r) = spin (extractStridedSlice S1024x128 ![0, 0] (k0_pay12 (F := Ideal) (k0_pay3 (F := Ideal) X) W B) slices_S1024x256_o0_0_S1024x128) C S (ix2 r l) := by
  rw [keyBlock_eq]
  generalize spin (extractStridedSlice S1024x128 ![0, 0] (k0_pay12 (F := Ideal) (k0_pay3 (F := Ideal) X) W B) slices_S1024x256_o0_0_S1024x128) C S = x
  generalize spin (extractStridedSlice S1024x128 ![0, 128] (k0_pay12 (F := Ideal) (k0_pay3 (F := Ideal) X) W B) slices_S1024x256_o0_128_S1024x128) C S = y
  pointwise []
  rw [dif_pos (by omega)]
  exact congrArg (fun q : Fin 128 => x (ix2 r q)) (Fin.ext (by simp; omega))

theorem keyBlock_right (W : FVec Ideal S1024x256 .bf16) (B : FVec Ideal S1x256 .f32) (j : Fin 256) (l : Fin 128) (hl : j.val = 128 + l.val) :
    keyBlock X C S W B (ix2 j r) = spin (extractStridedSlice S1024x128 ![0, 128] (k0_pay12 (F := Ideal) (k0_pay3 (F := Ideal) X) W B) slices_S1024x256_o0_128_S1024x128) C S (ix2 r l) := by
  rw [keyBlock_eq]
  generalize spin (extractStridedSlice S1024x128 ![0, 0] (k0_pay12 (F := Ideal) (k0_pay3 (F := Ideal) X) W B) slices_S1024x256_o0_0_S1024x128) C S = x
  generalize spin (extractStridedSlice S1024x128 ![0, 128] (k0_pay12 (F := Ideal) (k0_pay3 (F := Ideal) X) W B) slices_S1024x256_o0_128_S1024x128) C S = y
  pointwise []
  rw [dif_neg (by omega)]
  exact congrArg (fun q : Fin 128 => y (ix2 r q)) (Fin.ext (by simp; omega))

theorem slice_left (p : FVec Ideal S1024x256 .f32) (l : Fin 128) : (extractStridedSlice S1024x128 ![0, 0] p slices_S1024x256_o0_0_S1024x128 : FVec Ideal S1024x128 .f32) (ix2 r l) = p (ix2 r ⟨l.val, by omega⟩) := by
  pointwise []

theorem slice_right (p : FVec Ideal S1024x256 .f32) (l : Fin 128) : (extractStridedSlice S1024x128 ![0, 128] p slices_S1024x256_o0_128_S1024x128 : FVec Ideal S1024x128 .f32) (ix2 r l) = p (ix2 r ⟨128 + l.val, by omega⟩) := by
  pointwise []

/-- A key's entry of a block: its projection times the cosine, and its partner's times the signed sine. -/
theorem key_lo (W : FVec Ideal S1024x256 .bf16) (B : FVec Ideal S1x256 .f32) (j i : Fin 256) (l : Fin 128) (hl : l.val = j.val % 128) (hj : j.val % 64 < 32) (hi : i.val = j.val + 32) :
    keyBlock X C S W B (ix2 j r) = lin X W B r j * C (ix2 r l) + lin X W B r i * S (ix2 r l) := by
  rw [← proj_at X r W B j, ← proj_at X r W B i]
  by_cases h : j.val < 128
  · rw [keyBlock_left X C S r W B j l (by omega), spin_lo _ C S r l ⟨l.val + 32, by omega⟩ (by omega) rfl, slice_left, slice_left]
    exact congrArg₂ (fun p q : Fin 256 => k0_pay12 (F := Ideal) (k0_pay3 (F := Ideal) X) W B (ix2 r p) * C (ix2 r l) + k0_pay12 (F := Ideal) (k0_pay3 (F := Ideal) X) W B (ix2 r q) * S (ix2 r l)) (Fin.ext (by simp; omega)) (Fin.ext (by simp; omega))
  · rw [keyBlock_right X C S r W B j l (by omega), spin_lo _ C S r l ⟨l.val + 32, by omega⟩ (by omega) rfl, slice_right, slice_right]
    exact congrArg₂ (fun p q : Fin 256 => k0_pay12 (F := Ideal) (k0_pay3 (F := Ideal) X) W B (ix2 r p) * C (ix2 r l) + k0_pay12 (F := Ideal) (k0_pay3 (F := Ideal) X) W B (ix2 r q) * S (ix2 r l)) (Fin.ext (by simp; omega)) (Fin.ext (by simp; omega))

theorem key_hi (W : FVec Ideal S1024x256 .bf16) (B : FVec Ideal S1x256 .f32) (j i : Fin 256) (l : Fin 128) (hl : l.val = j.val % 128) (hj : ¬ j.val % 64 < 32) (hi : i.val + 32 = j.val) :
    keyBlock X C S W B (ix2 j r) = lin X W B r j * C (ix2 r l) + lin X W B r i * S (ix2 r l) := by
  rw [← proj_at X r W B j, ← proj_at X r W B i]
  by_cases h : j.val < 128
  · rw [keyBlock_left X C S r W B j l (by omega), spin_hi _ C S r l ⟨l.val - 32, by omega⟩ (by omega) (by simp; omega), slice_left, slice_left]
    exact congrArg₂ (fun p q : Fin 256 => k0_pay12 (F := Ideal) (k0_pay3 (F := Ideal) X) W B (ix2 r p) * C (ix2 r l) + k0_pay12 (F := Ideal) (k0_pay3 (F := Ideal) X) W B (ix2 r q) * S (ix2 r l)) (Fin.ext (by simp; omega)) (Fin.ext (by simp; omega))
  · rw [keyBlock_right X C S r W B j l (by omega), spin_hi _ C S r l ⟨l.val - 32, by omega⟩ (by omega) (by simp; omega), slice_right, slice_right]
    exact congrArg₂ (fun p q : Fin 256 => k0_pay12 (F := Ideal) (k0_pay3 (F := Ideal) X) W B (ix2 r p) * C (ix2 r l) + k0_pay12 (F := Ideal) (k0_pay3 (F := Ideal) X) W B (ix2 r q) * S (ix2 r l)) (Fin.ext (by simp; omega)) (Fin.ext (by simp; omega))

/-- The indexer keys' projection: two copies of the one head side by side. -/
def indexProj (W : FVec Ideal S1024x128 .bf16) (B : FVec Ideal S1x128 .f32) : FVec Ideal S1024x128 .f32 :=
  addf (matmul (F := Ideal) dot_S1024x1024_S1024x128_S1024x128_1_0_0_1_n_n none (k0_pay3 (F := Ideal) X) (shapeCast S1024x128 W shapeCasts_S1024x128_S1024x128) (constant S1024x128 .f32 0x00000000#32))
    (broadcastTo S1024x128 (shapeCast S1x128 B shapeCasts_S1x128_S1x128) broadcasts_S1x128_S1024x128)

theorem indexProj_at (W : FVec Ideal S1024x128 .bf16) (B : FVec Ideal S1x128 .f32) (j : Fin 128) : indexProj X W B (ix2 r j) = lin X W B r j := by
  unfold lin
  pointwise [indexProj, k0_pay3]

theorem index_at (W : FVec Ideal S1024x128 .bf16) (B : FVec Ideal S1x128 .f32) (d : Fin 64) :
    k0_pay26 (F := Ideal) (k0_pay3 (F := Ideal) X) (k0_pay4 (F := Ideal) C) (k0_pay5 (F := Ideal) S) k0_pay6 W B (ix2 d r) = spin (indexProj X W B) C S (ix2 r ⟨d.val, by omega⟩) := by
  rw [pay4_eq, pay5_eq]
  have h : k0_pay25 (F := Ideal) (k0_pay3 (F := Ideal) X) C S k0_pay6 W B = spin (indexProj X W B) C S := rfl
  unfold k0_pay26
  rw [h]
  generalize spin (indexProj X W B) C S = x
  pointwise []

/-- An indexer key's entry of a block. -/
theorem index_lo (W : FVec Ideal S1024x128 .bf16) (B : FVec Ideal S1x128 .f32) (d : Fin 64) (hd : d.val < 32) :
    k0_pay26 (F := Ideal) (k0_pay3 (F := Ideal) X) (k0_pay4 (F := Ideal) C) (k0_pay5 (F := Ideal) S) k0_pay6 W B (ix2 d r)
      = lin X W B r ⟨d.val, by omega⟩ * C (ix2 r ⟨d.val, by omega⟩) + lin X W B r ⟨d.val + 32, by omega⟩ * S (ix2 r ⟨d.val, by omega⟩) := by
  rw [index_at, spin_lo _ C S r ⟨d.val, by omega⟩ ⟨d.val + 32, by omega⟩ (by simp; omega) rfl, indexProj_at, indexProj_at]

theorem index_hi (W : FVec Ideal S1024x128 .bf16) (B : FVec Ideal S1x128 .f32) (d : Fin 64) (hd : ¬ d.val < 32) :
    k0_pay26 (F := Ideal) (k0_pay3 (F := Ideal) X) (k0_pay4 (F := Ideal) C) (k0_pay5 (F := Ideal) S) k0_pay6 W B (ix2 d r)
      = lin X W B r ⟨d.val, by omega⟩ * C (ix2 r ⟨d.val, by omega⟩) + lin X W B r ⟨d.val - 32, by omega⟩ * S (ix2 r ⟨d.val, by omega⟩) := by
  rw [index_at, spin_hi _ C S r ⟨d.val, by omega⟩ ⟨d.val - 32, by omega⟩ (by simp; omega) (by simp; omega), indexProj_at, indexProj_at]

end Cert.Kernel3Ideal.Body

end
-- ==== Proof.ProjRun.lean ====
/-
  The third program's launch, over any float values: the arrays when the region is entered, each window's block at a point, what the
  body leaves in each output's buffer, the body's triple, the run, and what the run leaves in the result arrays this certificate claims.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.WordCmp

@[expose] public section

set_option maxRecDepth 16384

noncomputable section

namespace Cert.Kernel3Ideal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

abbrev r0_0 : Rect S1024x1024 := Rect.unit (s := S1024x1024) ![0, 0] S1024x1024.size inb_S1024x1024_S1024x1024_0_0
abbrev r0_1 : Rect S1024x128 := Rect.unit (s := S1024x128) ![0, 0] S1024x128.size inb_S1024x128_S1024x128_0_0
abbrev r0_2 : Rect S1024x512 := Rect.unit (s := S1024x512) ![0, 0] S1024x512.size inb_S1024x512_S1024x512_0_0
abbrev r0_3 : Rect S1x512 := Rect.unit (s := S1x512) ![0, 0] S1x512.size inb_S1x512_S1x512_0_0
abbrev r0_4 : Rect S1024x256 := Rect.unit (s := S1024x256) ![0, 0] S1024x256.size inb_S1024x256_S1024x256_0_0
abbrev r0_5 : Rect S1x256 := Rect.unit (s := S1x256) ![0, 0] S1x256.size inb_S1x256_S1x256_0_0
abbrev r0_6 : Rect S256x1024 := Rect.unit (s := S256x1024) ![0, 0] S256x1024.size inb_S256x1024_S256x1024_0_0
abbrev r0_7 : Rect S1x128 := Rect.unit (s := S1x128) ![0, 0] S1x128.size inb_S1x128_S1x128_0_0
abbrev r0_8 : Rect S64x1024 := Rect.unit (s := S64x1024) ![0, 0] S64x1024.size inb_S64x1024_S64x1024_0_0
abbrev r0_9 : Rect S8x1024 := Rect.unit (s := S8x1024) ![0, 0] S8x1024.size inb_S8x1024_S8x1024_0_0

/-! ## What the body leaves in each output window's buffer -/

/-! ### Values of the body that the stores' payloads, spelt out, would write more than once

    Each is a vector the body binds (often a part call's result), stated over the input windows' blocks and
    numbered on from the skeleton's payload functions (`k0_pay27` …, after `k0_pay26`), so that
    `out0_W` and the values after it name it instead of spelling it out (`unfold_out out0_W` opens a canon
    with them, `unfold_payloads` opens them with the payloads); the comment after each is the printed function's
    name for the value (a count appended where that name is bound again). -/

def k0_pay27 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : FVec F S1024x1024 .bf16 :=
  k0_pay3 (View.ld x0 r0_0) -- `v2`
def k0_pay28 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : FVec F S1024x128 .f32 :=
  k0_pay4 (View.ld x1 r0_1) -- `v4`
def k0_pay29 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : FVec F S1024x128 .f32 :=
  k0_pay5 (View.ld x2 r0_1) -- `v6`
def k0_pay30 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : IVec S1024x128 1 :=
  k0_pay6 -- `v25`
def k0_pay31 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : FVec F S1024x128 .f32 :=
  k0_pay13 (k0_pay27 x0 x1 x2 x3 x4 x5 x6 x7 x8 x9 x10 x11 x12 x13 x14) (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (View.ld x5 r0_4) (View.ld x6 r0_5) -- `v79`
def k0_pay32 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : FVec F S1024x128 .f32 :=
  k0_pay14 (k0_pay27 x0 x1 x2 x3 x4 x5 x6 x7 x8 x9 x10 x11 x12 x13 x14) (View.ld x5 r0_4) (View.ld x6 r0_5) -- `v80`

/-- Window 15's staging buffer after the body, from the input windows' blocks: its 1 store as pieces, LAST
    FIRST . -/
def out0_15 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : Vec F S1024x512 .bf16 :=
  View.canon [⟨r0_2, k0_pay11 (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (k0_pay7 (View.ld x0 r0_0) (View.ld x3 r0_2) (View.ld x4 r0_3)) (k0_pay9 (View.ld x0 r0_0) (View.ld x1 r0_1) (View.ld x3 r0_2) (View.ld x4 r0_3)) (k0_pay10 (View.ld x0 r0_0) (View.ld x2 r0_1) (View.ld x3 r0_2) (View.ld x4 r0_3))⟩]

/-- Its stores tile the buffer (checked by evaluation), so they cover it. -/
theorem cover0_15 (p0 : Vec F S1024x512 .bf16) (y : S1024x512.Idx) :
    ∃ pc ∈ ([⟨r0_2, p0⟩] : List (View.Piece (Elt F) S1024x512 .bf16)), y ∈ pc.1.set :=
  View.cover_of_tiled [⟨r0_2, p0⟩] S1024x512.size (by rfl) y

/-- Window 16's staging buffer after the body, from the input windows' blocks: its 1 store as pieces, LAST
    FIRST . -/
def out0_16 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : Vec F S256x1024 .f32 :=
  View.canon [⟨r0_6, k0_pay16 (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (k0_pay31 x0 x1 x2 x3 x4 x5 x6 x7 x8 x9 x10 x11 x12 x13 x14) (k0_pay32 x0 x1 x2 x3 x4 x5 x6 x7 x8 x9 x10 x11 x12 x13 x14) 96#32⟩]

/-- Its stores tile the buffer (checked by evaluation), so they cover it. -/
theorem cover0_16 (p0 : Vec F S256x1024 .f32) (y : S256x1024.Idx) :
    ∃ pc ∈ ([⟨r0_6, p0⟩] : List (View.Piece (Elt F) S256x1024 .f32)), y ∈ pc.1.set :=
  View.cover_of_tiled [⟨r0_6, p0⟩] S256x1024.size (by rfl) y

/-- Window 17's staging buffer after the body, from the input windows' blocks: its 1 store as pieces, LAST
    FIRST . -/
def out0_17 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : Vec F S1024x256 .bf16 :=
  View.canon [⟨r0_4, k0_pay17 (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (k0_pay31 x0 x1 x2 x3 x4 x5 x6 x7 x8 x9 x10 x11 x12 x13 x14) (k0_pay32 x0 x1 x2 x3 x4 x5 x6 x7 x8 x9 x10 x11 x12 x13 x14) 96#32⟩]

/-- Its stores tile the buffer (checked by evaluation), so they cover it. -/
theorem cover0_17 (p0 : Vec F S1024x256 .bf16) (y : S1024x256.Idx) :
    ∃ pc ∈ ([⟨r0_4, p0⟩] : List (View.Piece (Elt F) S1024x256 .bf16)), y ∈ pc.1.set :=
  View.cover_of_tiled [⟨r0_4, p0⟩] S1024x256.size (by rfl) y

/-- Window 18's staging buffer after the body, from the input windows' blocks: its 1 store as pieces, LAST
    FIRST . -/
def out0_18 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : Vec F S256x1024 .f32 :=
  View.canon [⟨r0_6, k0_pay18 (k0_pay27 x0 x1 x2 x3 x4 x5 x6 x7 x8 x9 x10 x11 x12 x13 x14) (View.ld x7 r0_4) (View.ld x8 r0_5)⟩]

/-- Its stores tile the buffer (checked by evaluation), so they cover it. -/
theorem cover0_18 (p0 : Vec F S256x1024 .f32) (y : S256x1024.Idx) :
    ∃ pc ∈ ([⟨r0_6, p0⟩] : List (View.Piece (Elt F) S256x1024 .f32)), y ∈ pc.1.set :=
  View.cover_of_tiled [⟨r0_6, p0⟩] S256x1024.size (by rfl) y

/-- Window 19's staging buffer after the body, from the input windows' blocks: its 1 store as pieces, LAST
    FIRST . -/
def out0_19 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : Vec F S256x1024 .bf16 :=
  View.canon [⟨r0_6, k0_pay19 (k0_pay27 x0 x1 x2 x3 x4 x5 x6 x7 x8 x9 x10 x11 x12 x13 x14) (View.ld x7 r0_4) (View.ld x8 r0_5)⟩]

/-- Its stores tile the buffer (checked by evaluation), so they cover it. -/
theorem cover0_19 (p0 : Vec F S256x1024 .bf16) (y : S256x1024.Idx) :
    ∃ pc ∈ ([⟨r0_6, p0⟩] : List (View.Piece (Elt F) S256x1024 .bf16)), y ∈ pc.1.set :=
  View.cover_of_tiled [⟨r0_6, p0⟩] S256x1024.size (by rfl) y

/-- Window 20's staging buffer after the body, from the input windows' blocks: its 1 store as pieces, LAST
    FIRST . -/
def out0_20 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : Vec F S1024x512 .bf16 :=
  View.canon [⟨r0_2, k0_pay24 (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (k0_pay20 (k0_pay27 x0 x1 x2 x3 x4 x5 x6 x7 x8 x9 x10 x11 x12 x13 x14) (View.ld x9 r0_2) (View.ld x10 r0_3)) (k0_pay22 (k0_pay27 x0 x1 x2 x3 x4 x5 x6 x7 x8 x9 x10 x11 x12 x13 x14) (k0_pay28 x0 x1 x2 x3 x4 x5 x6 x7 x8 x9 x10 x11 x12 x13 x14) (View.ld x9 r0_2) (View.ld x10 r0_3)) (k0_pay23 (k0_pay27 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (View.ld x9 r0_2) (View.ld x10 r0_3))⟩]

/-- Its stores tile the buffer (checked by evaluation), so they cover it. -/
theorem cover0_20 (p0 : Vec F S1024x512 .bf16) (y : S1024x512.Idx) :
    ∃ pc ∈ ([⟨r0_2, p0⟩] : List (View.Piece (Elt F) S1024x512 .bf16)), y ∈ pc.1.set :=
  View.cover_of_tiled [⟨r0_2, p0⟩] S1024x512.size (by rfl) y

/-- Window 21's staging buffer after the body, from the input windows' blocks: its 1 store as pieces, LAST
    FIRST . -/
def out0_21 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : Vec F S64x1024 .f32 :=
  View.canon [⟨r0_8, k0_pay26 (k0_pay27 x0 x1 x2 x3 x4 x5 x6 x7 x8 x9 x10 x11 x12 x13 x14) (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (View.ld x11 r0_1) (View.ld x12 r0_7)⟩]

/-- Its stores tile the buffer (checked by evaluation), so they cover it. -/
theorem cover0_21 (p0 : Vec F S64x1024 .f32) (y : S64x1024.Idx) :
    ∃ pc ∈ ([⟨r0_8, p0⟩] : List (View.Piece (Elt F) S64x1024 .f32)), y ∈ pc.1.set :=
  View.cover_of_tiled [⟨r0_8, p0⟩] S64x1024.size (by rfl) y

/-- Window 22's staging buffer after the body, from the input windows' blocks: its 1 store as pieces, LAST
    FIRST . -/
def out0_22 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : Vec F S1024x128 .bf16 :=
  View.canon [⟨r0_1, k0_pay1 (k0_pay25 (k0_pay27 x0 x1 x2 x3 x4 x5 x6 x7 x8 x9 x10 x11 x12 x13 x14) (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (View.ld x11 r0_1) (View.ld x12 r0_7))⟩]

/-- Its stores tile the buffer (checked by evaluation), so they cover it. -/
theorem cover0_22 (p0 : Vec F S1024x128 .bf16) (y : S1024x128.Idx) :
    ∃ pc ∈ ([⟨r0_1, p0⟩] : List (View.Piece (Elt F) S1024x128 .bf16)), y ∈ pc.1.set :=
  View.cover_of_tiled [⟨r0_1, p0⟩] S1024x128.size (by rfl) y

/-- Window 23's staging buffer after the body, from the input windows' blocks: its 1 store as pieces, LAST
    FIRST . -/
def out0_23 (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) : Vec F S8x1024 .f32 :=
  View.canon [⟨r0_9, k0_pay2 (k0_pay27 x0 x1 x2 x3 x4 x5 x6 x7 x8 x9 x10 x11 x12 x13 x14) (View.ld x13 r0_1) (View.ld x14 r0_7)⟩]

/-- Its stores tile the buffer (checked by evaluation), so they cover it. -/
theorem cover0_23 (p0 : Vec F S8x1024 .f32) (y : S8x1024.Idx) :
    ∃ pc ∈ ([⟨r0_9, p0⟩] : List (View.Piece (Elt F) S8x1024 .f32)), y ∈ pc.1.set :=
  View.cover_of_tiled [⟨r0_9, p0⟩] S8x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs , through every part call. -/
theorem sound_kernel (c : Dev nD) (E : Set ℕ) (i : grid0.Coords) (arg1 : Memref sig .tc .vmem S1024x1024 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x256 .bf16) (harg6 : arg6.IsWhole) (arg7 : Memref sig .tc .vmem S1x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1024x512 .bf16) (harg10 : arg10.IsWhole) (arg11 : Memref sig .tc .vmem S1x512 .f32) (harg11 : arg11.IsWhole) (arg12 : Memref sig .tc .vmem S1024x128 .bf16) (harg12 : arg12.IsWhole) (arg13 : Memref sig .tc .vmem S1x128 .f32) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1024x512 .bf16) (harg16 : arg16.IsWhole) (arg17 : Memref sig .tc .vmem S256x1024 .f32) (harg17 : arg17.IsWhole) (arg18 : Memref sig .tc .vmem S1024x256 .bf16) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S1024x512 .bf16) (harg21 : arg21.IsWhole) (arg22 : Memref sig .tc .vmem S64x1024 .f32) (harg22 : arg22.IsWhole) (arg23 : Memref sig .tc .vmem S1024x128 .bf16) (harg23 : arg23.IsWhole) (arg24 : Memref sig .tc .vmem S8x1024 .f32) (harg24 : arg24.IsWhole)
    (x0 : Vec F S1024x1024 .f32) (x1 : Vec F S1024x128 .f32) (x2 : Vec F S1024x128 .f32) (x3 : Vec F S1024x512 .bf16) (x4 : Vec F S1x512 .f32) (x5 : Vec F S1024x256 .bf16) (x6 : Vec F S1x256 .f32) (x7 : Vec F S1024x256 .bf16) (x8 : Vec F S1x256 .f32) (x9 : Vec F S1024x512 .bf16) (x10 : Vec F S1x512 .f32) (x11 : Vec F S1024x128 .bf16) (x12 : Vec F S1x128 .f32) (x13 : Vec F S1024x128 .bf16) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14) ∗ owns (c : Thread nD τ) arg17 fullShare (out0_16 x0 x1 x2 x3 x4 x5 x6 x7 x8 x9 x10 x11 x12 x13 x14) ∗ owns (c : Thread nD τ) arg18 fullShare (out0_17 x0 x1 x2 x3 x4 x5 x6 x7 x8 x9 x10 x11 x12 x13 x14) ∗ owns (c : Thread nD τ) arg19 fullShare (out0_18 x0 x1 x2 x3 x4 x5 x6 x7 x8 x9 x10 x11 x12 x13 x14) ∗ owns (c : Thread nD τ) arg20 fullShare (out0_19 x0 x1 x2 x3 x4 x5 x6 x7 x8 x9 x10 x11 x12 x13 x14) ∗ owns (c : Thread nD τ) arg21 fullShare (out0_20 x0 x1 x2 x3 x4 x5 x6 x7 x8 x9 x10 x11 x12 x13 x14) ∗ owns (c : Thread nD τ) arg22 fullShare (out0_21 x0 x1 x2 x3 x4 x5 x6 x7 x8 x9 x10 x11 x12 x13 x14) ∗ owns (c : Thread nD τ) arg23 fullShare (out0_22 x0 x1 x2 x3 x4 x5 x6 x7 x8 x9 x10 x11 x12 x13 x14) ∗ owns (c : Thread nD τ) arg24 fullShare (out0_23 x0 x1 x2 x3 x4 x5 x6 x7 x8 x9 x10 x11 x12 x13 x14)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_proj_eq_skeleton]; unfold cc0_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

/-! ## The pipeline's proof data -/

/-- The proof data of the one pipeline on core `c`: the arrays as the region finds them (`V`); after the body at
    point `t` each input's buffer at its block and each output's at `out0_W` of the input blocks; the invariant the
    class's ; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` , -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it . -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run leaves the arguments as they were and every semaphore counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## What the run leaves -/

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v83_1) = (dats m 0 c).arrAt 16 cfg0.N :=
  (h c).1 16

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v83_3) = (dats m 0 c).arrAt 18 cfg0.N :=
  (h c).1 18

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v83_6) = (dats m 0 c).arrAt 21 cfg0.N :=
  (h c).1 21

/-- The run leaves the pipeline's arrays of the keys, the values and the indexer's keys, its arguments as they were, and every semaphore
    counter at zero. -/
theorem run_arrays : θ_run defs (onTc (τ := τ) (main (F := F))) ⟨m, fun _ => 0, ρ⟩ fun r => ∀ c : Dev nD,
      r.2.mem ((c : Thread nD τ).loc main_v83_1) = (dats m 0 c).arrAt 16 cfg0.N
      ∧ r.2.mem ((c : Thread nD τ).loc main_v83_3) = (dats m 0 c).arrAt 18 cfg0.N
      ∧ r.2.mem ((c : Thread nD τ).loc main_v83_6) = (dats m 0 c).arrAt 21 cfg0.N :=
  (θ_run defs _ _).mono (fun r h c => ⟨post16 m r h c, post18 m r h c, post21 m r h c⟩) (run_main m ρ)

end Cert.Kernel3Ideal.Launched

end
-- ==== Proof.ProjRef.lean ====
/-
  The third program's reference: the keys, the values and the indexer's keys of the prompt in stages, each definition the operations
  of some lines of the reference, and each read at an index; last, that its run ends with them, and its frame.
-/
module

public import proofs.«01_k».proof.Defs
public import proofs.«01_k».proof.Proof.Gen.Reference3Ideal
public import proofs.«01_k».proof.Proof.Gen.Reference3Ideal.Run
public import Idealize.ShloMosaic.Lib.Claim
public import Idealize.ShloMosaic.Lib.Pointwise

@[expose] public section

set_option maxRecDepth 16384

noncomputable section

namespace Cert.Reference3Ideal.Stages

open Idealize.ShloMosaic Idealize.ShloMosaic.TcCoe Idealize.SL.Sem
open Cert.Reference3Ideal Cert.Reference3Ideal.Facts₀ Cert.Reference3Ideal.Facts

local instance : Cert.Reference3Ideal.Facts := Cert.Reference3Ideal.Gen.facts

/-- The rows of the batch: the meta tokens and the prompt. -/
def rows (x : FVec Ideal S1x16384x1024 .f32) (metaRows : FVec Ideal S16x1024 .f32) : FVec Ideal S16400x1024 .f32 :=
  concatenate S16400x1024 0 [⟨S16x1024, metaRows⟩, ⟨S16384x1024, shapeCast S16384x1024 x shapeCasts_S1x16384x1024_S16384x1024⟩] concatenates_S16x1024_S16384x1024_S16400x1024_d0

/-- The projection of every row. -/
def projected (h : FVec Ideal S16400x1024 .f32) (w : FVec Ideal S1x1024x5192 .f32) (b : FVec Ideal S1x5192 .f32) : FVec Ideal S16400x5192 .f32 :=
  addf (Host.dotGeneral dot_S16400x1024_S1024x5192_S16400x5192_1_0_0_1_n_n none h (shapeCast S1024x5192 w shapeCasts_S1x1024x5192_S1024x5192)) (broadcastInDim S16400x5192 ![0, 1] bcast_S1x5192_S16400x5192_0_1 (broadcastInDim S1x5192 ![1] bcast_S5192_S1x5192_1 (shapeCast S5192 b shapeCasts_S1x5192_S5192)))

/-- The rotation's angle at every position and frequency. -/
def angles : FVec Ideal S16400x32 .f32 :=
  mulf (broadcastInDim S16400x32 ![0, 1] bcast_S16400x1_S16400x32_0_1 (broadcastInDim S16400x1 ![0] bcast_S16400_S16400x1_0 (sitofp .f32 (iotaInDim S16400 32 0)))) (broadcastInDim S16400x32 ![0, 1] bcast_S1x32_S16400x32_0_1 (broadcastInDim S1x32 ![1] bcast_S32_S1x32_1 (Host.powf (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32))))))

/-- Four heads, every one rotated by the row's angles. -/
def rotated4 (x : FVec Ideal S16400x4x64 .f32) : FVec Ideal S16400x4x64 .f32 :=
  concatenate S16400x4x64 2 [⟨S16400x4x32, subf (mulf (extractStridedSlice S16400x4x32 ![0, 0, 0] x slices_S16400x4x64_S16400x4x32_0_0_0) (broadcastInDim S16400x4x32 ![0, 1, 2] bcast_S16400x1x32_S16400x4x32_0_1_2 (broadcastInDim S16400x1x32 ![0, 2] bcast_S16400x32_S16400x1x32_0_2 (Host.cos angles)))) (mulf (extractStridedSlice S16400x4x32 ![0, 0, 32] x slices_S16400x4x64_S16400x4x32_0_0_32) (broadcastInDim S16400x4x32 ![0, 1, 2] bcast_S16400x1x32_S16400x4x32_0_1_2 (broadcastInDim S16400x1x32 ![0, 2] bcast_S16400x32_S16400x1x32_0_2 (Host.sin angles))))⟩,
    ⟨S16400x4x32, addf (mulf (extractStridedSlice S16400x4x32 ![0, 0, 0] x slices_S16400x4x64_S16400x4x32_0_0_0) (broadcastInDim S16400x4x32 ![0, 1, 2] bcast_S16400x1x32_S16400x4x32_0_1_2 (broadcastInDim S16400x1x32 ![0, 2] bcast_S16400x32_S16400x1x32_0_2 (Host.sin angles)))) (mulf (extractStridedSlice S16400x4x32 ![0, 0, 32] x slices_S16400x4x64_S16400x4x32_0_0_32) (broadcastInDim S16400x4x32 ![0, 1, 2] bcast_S16400x1x32_S16400x4x32_0_1_2 (broadcastInDim S16400x1x32 ![0, 2] bcast_S16400x32_S16400x1x32_0_2 (Host.cos angles))))⟩] concatenates_S16400x4x32_S16400x4x32_S16400x4x64_d2

/-- One head, rotated by the row's angles. -/
def rotated1 (x : FVec Ideal S16400x1x64 .f32) : FVec Ideal S16400x1x64 .f32 :=
  concatenate S16400x1x64 2 [⟨S16400x1x32, subf (mulf (extractStridedSlice S16400x1x32 ![0, 0, 0] x slices_S16400x1x64_S16400x1x32_0_0_0) (broadcastInDim S16400x1x32 ![0, 2] bcast_S16400x32_S16400x1x32_0_2 (Host.cos angles))) (mulf (extractStridedSlice S16400x1x32 ![0, 0, 32] x slices_S16400x1x64_S16400x1x32_0_0_32) (broadcastInDim S16400x1x32 ![0, 2] bcast_S16400x32_S16400x1x32_0_2 (Host.sin angles)))⟩,
    ⟨S16400x1x32, addf (mulf (extractStridedSlice S16400x1x32 ![0, 0, 0] x slices_S16400x1x64_S16400x1x32_0_0_0) (broadcastInDim S16400x1x32 ![0, 2] bcast_S16400x32_S16400x1x32_0_2 (Host.sin angles))) (mulf (extractStridedSlice S16400x1x32 ![0, 0, 32] x slices_S16400x1x64_S16400x1x32_0_0_32) (broadcastInDim S16400x1x32 ![0, 2] bcast_S16400x32_S16400x1x32_0_2 (Host.cos angles)))⟩] concatenates_S16400x1x32_S16400x1x32_S16400x1x64_d2

/-- The keys, a column per row. -/
def keys (h : FVec Ideal S16400x1024 .f32) (w : FVec Ideal S1x1024x5192 .f32) (b : FVec Ideal S1x5192 .f32) : FVec Ideal S256x16400 .f32 :=
  transpose S256x16400 [1, 0] (shapeCast S16400x256 (rotated4 (shapeCast S16400x4x64 (extractStridedSlice S16400x256 ![0, 512] (projected h w b) slices_S16400x5192_S16400x256_0_512) shapeCasts_S16400x256_S16400x4x64)) shapeCasts_S16400x4x64_S16400x256) transposes_S16400x256_S256x16400_1_0

/-- The values, a column per row. -/
def values (h : FVec Ideal S16400x1024 .f32) (w : FVec Ideal S1x1024x5192 .f32) (b : FVec Ideal S1x5192 .f32) : FVec Ideal S256x16400 .f32 :=
  transpose S256x16400 [1, 0] (extractStridedSlice S16400x256 ![0, 768] (projected h w b) slices_S16400x5192_S16400x256_0_768) transposes_S16400x256_S256x16400_1_0

/-- The indexer's keys, a column per row. -/
def indexKeys (h : FVec Ideal S16400x1024 .f32) (w : FVec Ideal S1x1024x5192 .f32) (b : FVec Ideal S1x5192 .f32) : FVec Ideal S64x16400 .f32 :=
  transpose S64x16400 [1, 0] (shapeCast S16400x64 (rotated1 (broadcastInDim S16400x1x64 ![0, 2] bcast_S16400x64_S16400x1x64_0_2 (extractStridedSlice S16400x64 ![0, 1544] (projected h w b) slices_S16400x5192_S16400x64_0_1544))) shapeCasts_S16400x1x64_S16400x64) transposes_S16400x64_S64x16400_1_0

/-! ## The stages at an index -/

variable (h : FVec Ideal S16400x1024 .f32) (w : FVec Ideal S1x1024x5192 .f32) (b : FVec Ideal S1x5192 .f32) (r : Fin 16400)

/-- A row's projection at a column. -/
def proj (j : Fin 5192) : EReal := (∑ x : Fin 1024, h (ix2 r x) * w (ix3 0 x j)) + b (ix2 0 j)

/-- A rotated pair's first entry. -/
def turn (x y a : EReal) : EReal := x * Ideal.cos a - y * Ideal.sin a

/-- A rotated pair's second entry. -/
def turn' (x y a : EReal) : EReal := x * Ideal.sin a + y * Ideal.cos a

theorem projected_at (j : Fin 5192) : projected h w b (ix2 r j) = proj h w b r j := by
  unfold proj
  pointwise [projected]

theorem values_at (j : Fin 256) : values h w b (ix2 j r) = proj h w b r ⟨768 + j.val, by omega⟩ := by
  rw [← projected_at]
  pointwise [values]

theorem rotated4_lo (x : FVec Ideal S16400x4x64 .f32) (k : Fin 4) (e : Fin 32) : rotated4 x (ix3 r k ⟨e.val, by omega⟩) = turn (x (ix3 r k ⟨e.val, by omega⟩)) (x (ix3 r k ⟨32 + e.val, by omega⟩)) (angles (ix2 r e)) := by
  unfold turn rotated4
  generalize angles = a
  pointwise []

theorem rotated4_hi (x : FVec Ideal S16400x4x64 .f32) (k : Fin 4) (e : Fin 32) : rotated4 x (ix3 r k ⟨32 + e.val, by omega⟩) = turn' (x (ix3 r k ⟨e.val, by omega⟩)) (x (ix3 r k ⟨32 + e.val, by omega⟩)) (angles (ix2 r e)) := by
  unfold turn' rotated4
  generalize angles = a
  pointwise []

theorem rotated1_lo (x : FVec Ideal S16400x1x64 .f32) (e : Fin 32) : rotated1 x (ix3 r 0 ⟨e.val, by omega⟩) = turn (x (ix3 r 0 ⟨e.val, by omega⟩)) (x (ix3 r 0 ⟨32 + e.val, by omega⟩)) (angles (ix2 r e)) := by
  unfold turn rotated1
  generalize angles = a
  pointwise []

theorem rotated1_hi (x : FVec Ideal S16400x1x64 .f32) (e : Fin 32) : rotated1 x (ix3 r 0 ⟨32 + e.val, by omega⟩) = turn' (x (ix3 r 0 ⟨e.val, by omega⟩)) (x (ix3 r 0 ⟨32 + e.val, by omega⟩)) (angles (ix2 r e)) := by
  unfold turn' rotated1
  generalize angles = a
  pointwise []

theorem key_column (k : Fin 4) (d : Fin 64) : (shapeCast S16400x4x64 (extractStridedSlice S16400x256 ![0, 512] (projected h w b) slices_S16400x5192_S16400x256_0_512) shapeCasts_S16400x256_S16400x4x64 : FVec Ideal S16400x4x64 .f32) (ix3 r k d)
    = proj h w b r ⟨512 + k.val * 64 + d.val, by omega⟩ := by
  rw [← projected_at]
  generalize projected h w b = p
  pointwise []
  exact congrArg (fun q : Fin 5192 => p (ix2 r q)) (Fin.ext (by simp; omega))

theorem keys_head (k : Fin 4) (d : Fin 64) (j : Fin 256) (hj : j.val = k.val * 64 + d.val) (x : FVec Ideal S16400x4x64 .f32) :
    (transpose S256x16400 [1, 0] (shapeCast S16400x256 x shapeCasts_S16400x4x64_S16400x256) transposes_S16400x256_S256x16400_1_0 : FVec Ideal S256x16400 .f32) (ix2 j r) = x (ix3 r k d) := by
  pointwise []
  exact congrArg₂ (fun (u : Fin 4) (v : Fin 64) => x (ix3 r u v)) (Fin.ext (by simp; omega)) (Fin.ext (by simp; omega))

/-- A key's entry in the first half of its head. -/
theorem keys_lo (k : Fin 4) (e : Fin 32) (j : Fin 256) (hj : j.val = k.val * 64 + e.val) : keys h w b (ix2 j r)
    = turn (proj h w b r ⟨512 + j.val, by omega⟩) (proj h w b r ⟨512 + (j.val + 32), by omega⟩) (angles (ix2 r e)) := by
  unfold keys
  rw [keys_head r k ⟨e.val, by omega⟩ j hj, rotated4_lo, key_column, key_column]
  exact congrArg₂ (fun p q : Fin 5192 => turn (proj h w b r p) (proj h w b r q) (angles (ix2 r e))) (Fin.ext (by simp; omega)) (Fin.ext (by simp; omega))

/-- A key's entry in the second half of its head. -/
theorem keys_hi (k : Fin 4) (e : Fin 32) (j : Fin 256) (hj : j.val = k.val * 64 + 32 + e.val) : keys h w b (ix2 j r)
    = turn' (proj h w b r ⟨512 + (j.val - 32), by omega⟩) (proj h w b r ⟨512 + j.val, by omega⟩) (angles (ix2 r e)) := by
  unfold keys
  rw [keys_head r k ⟨32 + e.val, by omega⟩ j (by simp; omega), rotated4_hi, key_column, key_column]
  exact congrArg₂ (fun p q : Fin 5192 => turn' (proj h w b r p) (proj h w b r q) (angles (ix2 r e))) (Fin.ext (by simp; omega)) (Fin.ext (by simp; omega))

theorem index_column (d : Fin 64) : (broadcastInDim S16400x1x64 ![0, 2] bcast_S16400x64_S16400x1x64_0_2 (extractStridedSlice S16400x64 ![0, 1544] (projected h w b) slices_S16400x5192_S16400x64_0_1544) : FVec Ideal S16400x1x64 .f32) (ix3 r 0 d)
    = proj h w b r ⟨1544 + d.val, by omega⟩ := by
  rw [← projected_at]
  generalize projected h w b = p
  pointwise []

theorem index_head (d : Fin 64) (x : FVec Ideal S16400x1x64 .f32) :
    (transpose S64x16400 [1, 0] (shapeCast S16400x64 x shapeCasts_S16400x1x64_S16400x64) transposes_S16400x64_S64x16400_1_0 : FVec Ideal S64x16400 .f32) (ix2 d r) = x (ix3 r 0 d) := by
  pointwise []

/-- An indexer key's entry in the first half. -/
theorem indexKeys_lo (e : Fin 32) : indexKeys h w b (ix2 ⟨e.val, by omega⟩ r)
    = turn (proj h w b r ⟨1544 + e.val, by omega⟩) (proj h w b r ⟨1544 + (32 + e.val), by omega⟩) (angles (ix2 r e)) := by
  unfold indexKeys
  rw [index_head, rotated1_lo, index_column, index_column]

/-- An indexer key's entry in the second half. -/
theorem indexKeys_hi (e : Fin 32) : indexKeys h w b (ix2 ⟨32 + e.val, by omega⟩ r)
    = turn' (proj h w b r ⟨1544 + e.val, by omega⟩) (proj h w b r ⟨1544 + (32 + e.val), by omega⟩) (angles (ix2 r e)) := by
  unfold indexKeys
  rw [index_head, rotated1_hi, index_column, index_column]

/-! ## The run -/

variable (m : (ℓ : Loc nD τ sig) → Buf (Elt Ideal) ℓ) (ρ : Dev nD → PrngReg)

/-- The reference's run ends with its three results in its result arrays. -/
theorem refrun : θ_run defs (onTc (τ := τ) (main (F := Ideal))) ⟨m, fun _ => 0, ρ⟩ fun r => ∀ c : Dev nD,
    r.2.mem ((c.tc : Thread nD τ).loc main_v82) = keys (rows (m ((c.tc : Thread nD τ).loc main_arg0)) (m ((c.tc : Thread nD τ).loc main_arg1))) (m ((c.tc : Thread nD τ).loc main_arg2)) (m ((c.tc : Thread nD τ).loc main_arg3))
    ∧ r.2.mem ((c.tc : Thread nD τ).loc main_v83) = values (rows (m ((c.tc : Thread nD τ).loc main_arg0)) (m ((c.tc : Thread nD τ).loc main_arg1))) (m ((c.tc : Thread nD τ).loc main_arg2)) (m ((c.tc : Thread nD τ).loc main_arg3))
    ∧ r.2.mem ((c.tc : Thread nD τ).loc main_v84) = indexKeys (rows (m ((c.tc : Thread nD τ).loc main_arg0)) (m ((c.tc : Thread nD τ).loc main_arg1))) (m ((c.tc : Thread nD τ).loc main_arg2)) (m ((c.tc : Thread nD τ).loc main_arg3)) :=
  θ_run_mono (Cert.Reference3Ideal.Value.run m ρ) fun r hr c => ⟨(hr c).1, (hr c).2.1, (hr c).2.2.1⟩

/-- The reference runs from any memory, leaves its arguments as they were and every semaphore counter at zero. -/
theorem frame : θ_run defs (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0 :=
  θ_run_mono (Cert.Reference3Ideal.Value.run m ρ) fun _ hr => ⟨fun c => (hr c).2.2.2, sem_eq_zero_of_no_sems (by decide) _⟩

end Cert.Reference3Ideal.Stages

end
-- ==== Proof.ProjOperands.lean ====
/-
  The third program's blocks at a grid point, read at its arguments: 1024 rows of the rows' array and of the two tables, and the
  operands the program prepares before the call (the projection's columns of the keys, the values and the indexer's keys).
-/
module

public import proofs.«01_k».proof.Proof.ProjRun
public import proofs.«01_k».proof.Proof.ProjRef
public import Idealize.ShloMosaic.Lib.Pipeline.ValueKit

@[expose] public section

set_option maxRecDepth 16384

noncomputable section

namespace Cert.Kernel3Ideal.Operands

open Idealize.ShloMosaic Idealize.ShloMosaic.TcCoe Idealize.SL.Sem
open Cert.Kernel3Ideal Cert.Kernel3Ideal.Gen Cert.Kernel3Ideal.Launched Cert.Reference3Ideal.Stages

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![t.val, 0]
    ∧ win0_5.index t = ![0, 0]
    ∧ win0_6.index t = ![0, 0]
    ∧ win0_7.index t = ![0, 0]
    ∧ win0_8.index t = ![0, 0]
    ∧ win0_11.index t = ![0, 0]
    ∧ win0_12.index t = ![0, 0]
    ∧ win0_16.index t = ![0, t.val] ∧ win0_18.index t = ![0, t.val] ∧ win0_21.index t = ![0, t.val] := (by decide +kernel : ∀ t : Fin grid0.N, _)

/-- The rows the program builds before the call: the meta tokens, the prompt, and rows of zeros. -/
def padded (x : FVec Ideal S1x16384x1024 .f32) (metaRows : FVec Ideal S16x1024 .f32) : FVec Ideal S17408x1024 .f32 :=
  concatenate S17408x1024 0 [⟨S16x1024, metaRows⟩, ⟨S16384x1024, shapeCast S16384x1024 x shapeCasts_S1x16384x1024_S16384x1024⟩, ⟨S1008x1024, broadcastInDim S1008x1024 ![] bcast_S_S1008x1024 (constant S_ .f32 0x00000000#32)⟩] concatenates_S16x1024_S16384x1024_S1008x1024_S17408x1024_d0

/-- The rotation's angle at every position and frequency, as the program computes it. -/
def anglesK : FVec Ideal S17408x32 .f32 :=
  mulf (broadcastInDim S17408x32 ![0, 1] bcast_S17408x1_S17408x32_0_1 (broadcastInDim S17408x1 ![0] bcast_S17408_S17408x1_0 (sitofp .f32 (iotaInDim S17408 32 0)))) (broadcastInDim S17408x32 ![0, 1] bcast_S1x32_S17408x32_0_1 (broadcastInDim S1x32 ![1] bcast_S32_S1x32_1 (Host.powf (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32))))))

theorem rows_eq : (V m c main_v2 : FVec Ideal S17408x1024 .f32) = padded (m ((c : Thread nD τ).loc main_arg0)) (m ((c : Thread nD τ).loc main_arg1)) := by
  unfold V
  simp only [hostOps0, hostOps0_1, hostOps0_2, hostOps0_3, hostOps0_4, List.flatten_cons, List.flatten_nil, List.append_nil, List.cons_append, List.nil_append]
  after_results
  rfl

/-- The table of cosines, one copy per half head. -/
theorem cosines_eq : (V m c main_v20 : FVec Ideal S17408x128 .f32) = concatenate S17408x128 1 [⟨S17408x32, Host.cos anglesK⟩, ⟨S17408x32, Host.cos anglesK⟩, ⟨S17408x32, Host.cos anglesK⟩, ⟨S17408x32, Host.cos anglesK⟩] concatenates_S17408x32_S17408x32_S17408x32_S17408x32_S17408x128_d1 := by
  unfold V
  simp only [hostOps0, hostOps0_1, hostOps0_2, hostOps0_3, hostOps0_4, List.flatten_cons, List.flatten_nil, List.append_nil, List.cons_append, List.nil_append]
  after_results
  rfl

/-- The table of sines, the first halves' negated. -/
theorem sines_eq : (V m c main_v22 : FVec Ideal S17408x128 .f32) = concatenate S17408x128 1 [⟨S17408x32, Host.negf (Host.sin anglesK)⟩, ⟨S17408x32, Host.sin anglesK⟩, ⟨S17408x32, Host.negf (Host.sin anglesK)⟩, ⟨S17408x32, Host.sin anglesK⟩] concatenates_S17408x32_S17408x32_S17408x32_S17408x32_S17408x128_d1 := by
  unfold V
  simp only [hostOps0, hostOps0_1, hostOps0_2, hostOps0_3, hostOps0_4, List.flatten_cons, List.flatten_nil, List.append_nil, List.cons_append, List.nil_append]
  after_results
  rfl

theorem angles_eq (R : Fin 17408) (Q : Fin 16400) (h : R.val = Q.val) (e : Fin 32) : anglesK (ix2 R e) = angles (ix2 Q e) := by
  unfold anglesK angles
  pointwise []
  rw [h]

theorem padded_at (x : FVec Ideal S1x16384x1024 .f32) (y : FVec Ideal S16x1024 .f32) (R : Fin 17408) (Q : Fin 16400) (h : R.val = Q.val) (k : Fin 1024) :
    padded x y (ix2 R k) = rows x y (ix2 Q k) := by
  pointwise [padded, rows]
  by_cases h16 : Q.val < 16
  · rw [dif_pos (by omega), dif_pos h16]
    exact congrArg (fun q : Fin 16 => y (ix2 q k)) (Fin.ext h)
  · rw [dif_neg (by omega), dif_pos (by omega), dif_neg h16]
    exact congrArg (fun q : Fin 16384 => x (ix3 0 q k)) (Fin.ext (congrArg (· - 16) h))

theorem cosine_at (R : Fin 17408) (Q : Fin 16400) (h : R.val = Q.val) (e : Fin 32) (j : Fin 128) (hj : j.val % 32 = e.val) :
    (V m c main_v20 : FVec Ideal S17408x128 .f32) (ix2 R j) = Ideal.cos (angles (ix2 Q e)) := by
  rw [cosines_eq, ← angles_eq R Q h e]
  generalize anglesK = a
  pointwise []
  split_ifs <;> first
    | omega
    | exact congrArg (fun q : Fin 32 => Ideal.cos (a (ix2 R q))) (Fin.ext (by simp; omega))

theorem sine_lo (R : Fin 17408) (Q : Fin 16400) (h : R.val = Q.val) (e : Fin 32) (j : Fin 128) (hj : j.val % 64 = e.val) :
    (V m c main_v22 : FVec Ideal S17408x128 .f32) (ix2 R j) = -Ideal.sin (angles (ix2 Q e)) := by
  rw [sines_eq, ← angles_eq R Q h e]
  generalize anglesK = a
  pointwise []
  split_ifs <;> first
    | omega
    | exact congrArg (fun q : Fin 32 => -Ideal.sin (a (ix2 R q))) (Fin.ext (by simp; omega))

theorem sine_hi (R : Fin 17408) (Q : Fin 16400) (h : R.val = Q.val) (e : Fin 32) (j : Fin 128) (hj : j.val % 64 = 32 + e.val) :
    (V m c main_v22 : FVec Ideal S17408x128 .f32) (ix2 R j) = Ideal.sin (angles (ix2 Q e)) := by
  rw [sines_eq, ← angles_eq R Q h e]
  generalize anglesK = a
  pointwise []
  split_ifs <;> first
    | omega
    | exact congrArg (fun q : Fin 32 => Ideal.sin (a (ix2 R q))) (Fin.ext (by simp; omega))

theorem block0_at (r x : Fin 1024) (R : Fin 17408) (hR : R.val = t.val * 1024 + r.val) :
    (iblk m c 0 t : FVec Ideal S1024x1024 .f32) (ix2 r x) = (V m c main_v2 : FVec Ideal S17408x1024 .f32) (ix2 R x) := by
  blk_ext [iblk, idx t]

theorem block1_at (r : Fin 1024) (j : Fin 128) (R : Fin 17408) (hR : R.val = t.val * 1024 + r.val) :
    (iblk m c 1 t : FVec Ideal S1024x128 .f32) (ix2 r j) = (V m c main_v20 : FVec Ideal S17408x128 .f32) (ix2 R j) := by
  blk_ext [iblk, idx t]

theorem block2_at (r : Fin 1024) (j : Fin 128) (R : Fin 17408) (hR : R.val = t.val * 1024 + r.val) :
    (iblk m c 2 t : FVec Ideal S1024x128 .f32) (ix2 r j) = (V m c main_v22 : FVec Ideal S17408x128 .f32) (ix2 R j) := by
  blk_ext [iblk, idx t]

theorem block5 : (iblk m c 5 t : FVec Ideal S1024x256 .bf16) = (V m c main_v63 : FVec Ideal S1024x256 .bf16) := by
  funext y; blk_ext [iblk, idx t]

theorem block6 : (iblk m c 6 t : FVec Ideal S1x256 .f32) = (V m c main_v64 : FVec Ideal S1x256 .f32) := by
  funext y; blk_ext [iblk, idx t]

theorem block7 : (iblk m c 7 t : FVec Ideal S1024x256 .bf16) = (V m c main_v65 : FVec Ideal S1024x256 .bf16) := by
  funext y; blk_ext [iblk, idx t]

theorem block8 : (iblk m c 8 t : FVec Ideal S1x256 .f32) = (V m c main_v66 : FVec Ideal S1x256 .f32) := by
  funext y; blk_ext [iblk, idx t]

theorem block11 : (iblk m c 11 t : FVec Ideal S1024x128 .bf16) = (V m c main_v71 : FVec Ideal S1024x128 .bf16) := by
  funext y; blk_ext [iblk, idx t]

theorem block12 : (iblk m c 12 t : FVec Ideal S1x128 .f32) = (V m c main_v72 : FVec Ideal S1x128 .f32) := by
  funext y; blk_ext [iblk, idx t]

theorem weight5_at (x : Fin 1024) (j : Fin 256) : (V m c main_v63 : FVec Ideal S1024x256 .bf16) (ix2 x j) = (m ((c : Thread nD τ).loc main_arg2) : FVec Ideal S1x1024x5192 .f32) (ix3 0 x ⟨512 + j.val, by omega⟩) := by
  unfold V
  simp only [hostOps0, hostOps0_1, hostOps0_2, hostOps0_3, hostOps0_4, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem bias6_at (j : Fin 256) : (V m c main_v64 : FVec Ideal S1x256 .f32) (ix2 0 j) = (m ((c : Thread nD τ).loc main_arg3) : FVec Ideal S1x5192 .f32) (ix2 0 ⟨512 + j.val, by omega⟩) := by
  unfold V
  simp only [hostOps0, hostOps0_1, hostOps0_2, hostOps0_3, hostOps0_4, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem weight7_at (x : Fin 1024) (j : Fin 256) : (V m c main_v65 : FVec Ideal S1024x256 .bf16) (ix2 x j) = (m ((c : Thread nD τ).loc main_arg2) : FVec Ideal S1x1024x5192 .f32) (ix3 0 x ⟨768 + j.val, by omega⟩) := by
  unfold V
  simp only [hostOps0, hostOps0_1, hostOps0_2, hostOps0_3, hostOps0_4, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem bias8_at (j : Fin 256) : (V m c main_v66 : FVec Ideal S1x256 .f32) (ix2 0 j) = (m ((c : Thread nD τ).loc main_arg3) : FVec Ideal S1x5192 .f32) (ix2 0 ⟨768 + j.val, by omega⟩) := by
  unfold V
  simp only [hostOps0, hostOps0_1, hostOps0_2, hostOps0_3, hostOps0_4, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem weight11_at (x : Fin 1024) (j : Fin 64) : (V m c main_v71 : FVec Ideal S1024x128 .bf16) (ix2 x ⟨j.val, by omega⟩) = (m ((c : Thread nD τ).loc main_arg2) : FVec Ideal S1x1024x5192 .f32) (ix3 0 x ⟨1544 + j.val, by omega⟩) := by
  unfold V
  simp only [hostOps0, hostOps0_1, hostOps0_2, hostOps0_3, hostOps0_4, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

theorem bias12_at (j : Fin 64) : (V m c main_v72 : FVec Ideal S1x128 .f32) (ix2 0 ⟨j.val, by omega⟩) = (m ((c : Thread nD τ).loc main_arg3) : FVec Ideal S1x5192 .f32) (ix2 0 ⟨1544 + j.val, by omega⟩) := by
  unfold V
  simp only [hostOps0, hostOps0_1, hostOps0_2, hostOps0_3, hostOps0_4, List.flatten_cons, List.flatten_nil, List.append_nil, List.cons_append, List.nil_append]
  after_results
  (try simp only [StableHlo.TRef.ofBuf_toBuf])
  (try simp only [StableHlo.TRef.toBuf, StableHlo.TRef.ofBuf, ValueKit.castRfl])
  pointwise

end Cert.Kernel3Ideal.Operands

end
-- ==== Proof.ProjValue.lean ====
/-
  The third program's three result arrays are the reference's: the keys, the values and the indexer's keys of the prompt.
-/
module

public import proofs.«01_k».proof.Proof.ProjBody
public import proofs.«01_k».proof.Proof.ProjOperands

@[expose] public section

set_option maxRecDepth 16384

noncomputable section

namespace Cert.Kernel3Ideal.Value3

open Idealize.ShloMosaic Idealize.ShloMosaic.TcCoe Idealize.SL.Sem
open Cert.Kernel3Ideal Cert.Kernel3Ideal.Gen Cert.Kernel3Ideal.Launched Cert.Kernel3Ideal.Operands Cert.Kernel3Ideal.Body Cert.Reference3Ideal.Stages

variable (m : (ℓ : Loc nD τ sig) → Buf (Elt Ideal) ℓ) (c : Dev nD) (t : Fin cfg0.N)

/-! ## A block's projections and tables -/

variable (r : Fin 1024) (Q : Fin 16400) (hQ : Q.val = t.val * 1024 + r.val)
include hQ

theorem row_eq (x : Fin 1024) : (iblk m c 0 t : FVec Ideal S1024x1024 .f32) (ix2 r x) = rows (m ((c : Thread nD τ).loc main_arg0)) (m ((c : Thread nD τ).loc main_arg1)) (ix2 Q x) :=
  (block0_at m c t r x ⟨Q.val, by omega⟩ hQ).trans ((congrFun (rows_eq m c) _).trans (padded_at _ _ ⟨Q.val, by omega⟩ Q rfl x))

theorem key_lin (j : Fin 256) : lin (iblk m c 0 t : FVec Ideal S1024x1024 .f32) (iblk m c 5 t : FVec Ideal S1024x256 .bf16) (iblk m c 6 t : FVec Ideal S1x256 .f32) r j = proj (rows (m ((c : Thread nD τ).loc main_arg0)) (m ((c : Thread nD τ).loc main_arg1))) (m ((c : Thread nD τ).loc main_arg2)) (m ((c : Thread nD τ).loc main_arg3)) Q ⟨512 + j.val, by omega⟩ :=
  congrArg₂ (fun a b : EReal => a + b)
    (Finset.sum_congr rfl fun x _ => congrArg₂ (fun a b : EReal => a * b) (row_eq m c t r Q hQ x) ((congrFun (block5 m c t) _).trans (weight5_at m c x j)))
    ((congrFun (block6 m c t) _).trans (bias6_at m c j))

theorem value_lin (j : Fin 256) : lin (iblk m c 0 t : FVec Ideal S1024x1024 .f32) (iblk m c 7 t : FVec Ideal S1024x256 .bf16) (iblk m c 8 t : FVec Ideal S1x256 .f32) r j = proj (rows (m ((c : Thread nD τ).loc main_arg0)) (m ((c : Thread nD τ).loc main_arg1))) (m ((c : Thread nD τ).loc main_arg2)) (m ((c : Thread nD τ).loc main_arg3)) Q ⟨768 + j.val, by omega⟩ :=
  congrArg₂ (fun a b : EReal => a + b)
    (Finset.sum_congr rfl fun x _ => congrArg₂ (fun a b : EReal => a * b) (row_eq m c t r Q hQ x) ((congrFun (block7 m c t) _).trans (weight7_at m c x j)))
    ((congrFun (block8 m c t) _).trans (bias8_at m c j))

theorem index_lin (j : Fin 64) : lin (iblk m c 0 t : FVec Ideal S1024x1024 .f32) (iblk m c 11 t : FVec Ideal S1024x128 .bf16) (iblk m c 12 t : FVec Ideal S1x128 .f32) r ⟨j.val, by omega⟩ = proj (rows (m ((c : Thread nD τ).loc main_arg0)) (m ((c : Thread nD τ).loc main_arg1))) (m ((c : Thread nD τ).loc main_arg2)) (m ((c : Thread nD τ).loc main_arg3)) Q ⟨1544 + j.val, by omega⟩ :=
  congrArg₂ (fun a b : EReal => a + b)
    (Finset.sum_congr rfl fun x _ => congrArg₂ (fun a b : EReal => a * b) (row_eq m c t r Q hQ x) ((congrFun (block11 m c t) _).trans (weight11_at m c x j)))
    ((congrFun (block12 m c t) _).trans (bias12_at m c j))

theorem cos_eq (e : Fin 32) (l : Fin 128) (hl : l.val % 32 = e.val) : (iblk m c 1 t : FVec Ideal S1024x128 .f32) (ix2 r l) = Ideal.cos (angles (ix2 Q e)) :=
  (block1_at m c t r l ⟨Q.val, by omega⟩ hQ).trans (cosine_at m c ⟨Q.val, by omega⟩ Q rfl e l hl)

theorem sin_lo (e : Fin 32) (l : Fin 128) (hl : l.val % 64 = e.val) : (iblk m c 2 t : FVec Ideal S1024x128 .f32) (ix2 r l) = -Ideal.sin (angles (ix2 Q e)) :=
  (block2_at m c t r l ⟨Q.val, by omega⟩ hQ).trans (sine_lo m c ⟨Q.val, by omega⟩ Q rfl e l hl)

theorem sin_hi (e : Fin 32) (l : Fin 128) (hl : l.val % 64 = 32 + e.val) : (iblk m c 2 t : FVec Ideal S1024x128 .f32) (ix2 r l) = Ideal.sin (angles (ix2 Q e)) :=
  (block2_at m c t r l ⟨Q.val, by omega⟩ hQ).trans (sine_hi m c ⟨Q.val, by omega⟩ Q rfl e l hl)

/-! ## The blocks -/

theorem value_block (j : Fin 256) : k0_pay18 (F := Ideal) (k0_pay3 (F := Ideal) (iblk m c 0 t : FVec Ideal S1024x1024 .f32)) (iblk m c 7 t : FVec Ideal S1024x256 .bf16) (iblk m c 8 t : FVec Ideal S1x256 .f32) (ix2 j r) = values (rows (m ((c : Thread nD τ).loc main_arg0)) (m ((c : Thread nD τ).loc main_arg1))) (m ((c : Thread nD τ).loc main_arg2)) (m ((c : Thread nD τ).loc main_arg3)) (ix2 j Q) :=
  (value_at _ r _ _ j).trans ((value_lin m c t r Q hQ j).trans (values_at _ _ _ Q j).symm)

theorem key_block (j : Fin 256) : keyBlock (iblk m c 0 t : FVec Ideal S1024x1024 .f32) (iblk m c 1 t : FVec Ideal S1024x128 .f32) (iblk m c 2 t : FVec Ideal S1024x128 .f32) (iblk m c 5 t : FVec Ideal S1024x256 .bf16) (iblk m c 6 t : FVec Ideal S1x256 .f32) (ix2 j r) = keys (rows (m ((c : Thread nD τ).loc main_arg0)) (m ((c : Thread nD τ).loc main_arg1))) (m ((c : Thread nD τ).loc main_arg2)) (m ((c : Thread nD τ).loc main_arg3)) (ix2 j Q) := by
  by_cases hj : j.val % 64 < 32
  · rw [key_lo _ _ _ r _ _ j ⟨j.val + 32, by omega⟩ ⟨j.val % 128, by omega⟩ rfl hj rfl,
      keys_lo _ _ _ Q ⟨j.val / 64, by omega⟩ ⟨j.val % 64, hj⟩ j (by simp; omega),
      key_lin m c t r Q hQ j, key_lin m c t r Q hQ ⟨j.val + 32, by omega⟩,
      cos_eq m c t r Q hQ ⟨j.val % 64, hj⟩ ⟨j.val % 128, by omega⟩ (by simp; omega), sin_lo m c t r Q hQ ⟨j.val % 64, hj⟩ ⟨j.val % 128, by omega⟩ (by simp)]
    unfold turn
    rw [mul_neg, sub_eq_add_neg]
  · rw [key_hi _ _ _ r _ _ j ⟨j.val - 32, by omega⟩ ⟨j.val % 128, by omega⟩ rfl hj (by simp; omega),
      keys_hi _ _ _ Q ⟨j.val / 64, by omega⟩ ⟨j.val % 64 - 32, by omega⟩ j (by simp; omega),
      key_lin m c t r Q hQ j, key_lin m c t r Q hQ ⟨j.val - 32, by omega⟩,
      cos_eq m c t r Q hQ ⟨j.val % 64 - 32, by omega⟩ ⟨j.val % 128, by omega⟩ (by simp; omega), sin_hi m c t r Q hQ ⟨j.val % 64 - 32, by omega⟩ ⟨j.val % 128, by omega⟩ (by simp; omega)]
    unfold turn'
    rw [add_comm]

theorem index_block (d : Fin 64) : k0_pay26 (F := Ideal) (k0_pay3 (F := Ideal) (iblk m c 0 t : FVec Ideal S1024x1024 .f32)) (k0_pay4 (F := Ideal) (iblk m c 1 t : FVec Ideal S1024x128 .f32)) (k0_pay5 (F := Ideal) (iblk m c 2 t : FVec Ideal S1024x128 .f32)) k0_pay6 (iblk m c 11 t : FVec Ideal S1024x128 .bf16) (iblk m c 12 t : FVec Ideal S1x128 .f32) (ix2 d r) = indexKeys (rows (m ((c : Thread nD τ).loc main_arg0)) (m ((c : Thread nD τ).loc main_arg1))) (m ((c : Thread nD τ).loc main_arg2)) (m ((c : Thread nD τ).loc main_arg3)) (ix2 d Q) := by
  by_cases hd : d.val < 32
  · have hk := indexKeys_lo (rows (m ((c : Thread nD τ).loc main_arg0)) (m ((c : Thread nD τ).loc main_arg1))) (m ((c : Thread nD τ).loc main_arg2)) (m ((c : Thread nD τ).loc main_arg3)) Q ⟨d.val, hd⟩
    have hp : proj (rows (m ((c : Thread nD τ).loc main_arg0)) (m ((c : Thread nD τ).loc main_arg1))) (m ((c : Thread nD τ).loc main_arg2)) (m ((c : Thread nD τ).loc main_arg3)) Q ⟨1544 + (d.val + 32), by omega⟩ = proj (rows (m ((c : Thread nD τ).loc main_arg0)) (m ((c : Thread nD τ).loc main_arg1))) (m ((c : Thread nD τ).loc main_arg2)) (m ((c : Thread nD τ).loc main_arg3)) Q ⟨1544 + (32 + d.val), by omega⟩ := congrArg (proj (rows (m ((c : Thread nD τ).loc main_arg0)) (m ((c : Thread nD τ).loc main_arg1))) (m ((c : Thread nD τ).loc main_arg2)) (m ((c : Thread nD τ).loc main_arg3)) Q) (Fin.ext (by simp; omega))
    have hl : lin (iblk m c 0 t : FVec Ideal S1024x1024 .f32) (iblk m c 11 t : FVec Ideal S1024x128 .bf16) (iblk m c 12 t : FVec Ideal S1x128 .f32) r ⟨d.val + 32, by omega⟩ = proj (rows (m ((c : Thread nD τ).loc main_arg0)) (m ((c : Thread nD τ).loc main_arg1))) (m ((c : Thread nD τ).loc main_arg2)) (m ((c : Thread nD τ).loc main_arg3)) Q ⟨1544 + (d.val + 32), by omega⟩ := index_lin m c t r Q hQ ⟨d.val + 32, by omega⟩
    rw [index_lo _ _ _ r _ _ d hd, index_lin m c t r Q hQ d, hl, hp, cos_eq m c t r Q hQ ⟨d.val, hd⟩ ⟨d.val, by omega⟩ (Nat.mod_eq_of_lt hd), sin_lo m c t r Q hQ ⟨d.val, hd⟩ ⟨d.val, by omega⟩ (Nat.mod_eq_of_lt d.isLt)]
    refine Eq.trans ?_ hk.symm
    unfold turn
    rw [mul_neg, sub_eq_add_neg]
  · have hd' : (⟨32 + (d.val - 32), by omega⟩ : Fin 64) = d := Fin.ext (by simp; omega)
    have hk := indexKeys_hi (rows (m ((c : Thread nD τ).loc main_arg0)) (m ((c : Thread nD τ).loc main_arg1))) (m ((c : Thread nD τ).loc main_arg2)) (m ((c : Thread nD τ).loc main_arg3)) Q ⟨d.val - 32, by omega⟩
    have hp : proj (rows (m ((c : Thread nD τ).loc main_arg0)) (m ((c : Thread nD τ).loc main_arg1))) (m ((c : Thread nD τ).loc main_arg2)) (m ((c : Thread nD τ).loc main_arg3)) Q ⟨1544 + d.val, by omega⟩ = proj (rows (m ((c : Thread nD τ).loc main_arg0)) (m ((c : Thread nD τ).loc main_arg1))) (m ((c : Thread nD τ).loc main_arg2)) (m ((c : Thread nD τ).loc main_arg3)) Q ⟨1544 + (32 + (d.val - 32)), by omega⟩ := congrArg (proj (rows (m ((c : Thread nD τ).loc main_arg0)) (m ((c : Thread nD τ).loc main_arg1))) (m ((c : Thread nD τ).loc main_arg2)) (m ((c : Thread nD τ).loc main_arg3)) Q) (Fin.ext (by simp; omega))
    have hl : lin (iblk m c 0 t : FVec Ideal S1024x1024 .f32) (iblk m c 11 t : FVec Ideal S1024x128 .bf16) (iblk m c 12 t : FVec Ideal S1x128 .f32) r ⟨d.val - 32, by omega⟩ = proj (rows (m ((c : Thread nD τ).loc main_arg0)) (m ((c : Thread nD τ).loc main_arg1))) (m ((c : Thread nD τ).loc main_arg2)) (m ((c : Thread nD τ).loc main_arg3)) Q ⟨1544 + (d.val - 32), by omega⟩ := index_lin m c t r Q hQ ⟨d.val - 32, by omega⟩
    rw [index_hi _ _ _ r _ _ d hd, index_lin m c t r Q hQ d, hl, hp, cos_eq m c t r Q hQ ⟨d.val - 32, by omega⟩ ⟨d.val, by omega⟩ (by simp; omega), sin_hi m c t r Q hQ ⟨d.val - 32, by omega⟩ ⟨d.val, by omega⟩ (by simp; omega)]
    refine Eq.trans ?_ (hk.symm.trans (congrArg (fun q : Fin 64 => indexKeys (rows (m ((c : Thread nD τ).loc main_arg0)) (m ((c : Thread nD τ).loc main_arg1))) (m ((c : Thread nD τ).loc main_arg2)) (m ((c : Thread nD τ).loc main_arg3)) (ix2 q Q)) hd'))
    unfold turn'
    rw [add_comm]

/-! ## The arrays -/

omit hQ

/-- A block and an array that agree column by column agree at an entry of the block and its place in the array. -/
theorem wide_eq (f : FVec Ideal S256x1024 .f32) (g : FVec Ideal S256x16400 .f32) (i : S256x1024.Idx) (q : S256x16400.Idx) (h0 : (q 0).val = (i 0).val) (h1 : (q 1).val = t.val * 1024 + (i 1).val)
    (h : ∀ (r : Fin 1024) (Q : Fin 16400), Q.val = t.val * 1024 + r.val → ∀ j : Fin 256, f (ix2 j r) = g (ix2 j Q)) : f i = g q := by
  have hi : i = ix2 (i 0) (i 1) := by funext a; match a with | ⟨0, _⟩ => rfl | ⟨1, _⟩ => rfl
  have hq : q = ix2 (i 0) (q 1) := by funext a; match a with | ⟨0, _⟩ => exact Fin.ext h0 | ⟨1, _⟩ => rfl
  rw [hi, hq]
  exact h (i 1) (q 1) h1 (i 0)

/-- A block and an array that agree column by column agree at an entry of the block and its place in the array. -/
theorem narrow_eq (f : FVec Ideal S64x1024 .f32) (g : FVec Ideal S64x16400 .f32) (i : S64x1024.Idx) (q : S64x16400.Idx) (h0 : (q 0).val = (i 0).val) (h1 : (q 1).val = t.val * 1024 + (i 1).val)
    (h : ∀ (r : Fin 1024) (Q : Fin 16400), Q.val = t.val * 1024 + r.val → ∀ j : Fin 64, f (ix2 j r) = g (ix2 j Q)) : f i = g q := by
  have hi : i = ix2 (i 0) (i 1) := by funext a; match a with | ⟨0, _⟩ => rfl | ⟨1, _⟩ => rfl
  have hq : q = ix2 (i 0) (q 1) := by funext a; match a with | ⟨0, _⟩ => exact Fin.ext h0 | ⟨1, _⟩ => rfl
  rw [hi, hq]
  exact h (i 1) (q 1) h1 (i 0)

theorem final18 : (dats m 0 c).arrAt 18 (cfgs 0).N = values (rows (m ((c : Thread nD τ).loc main_arg0)) (m ((c : Thread nD τ).loc main_arg1))) (m ((c : Thread nD τ).loc main_arg2)) (m ((c : Thread nD τ).loc main_arg3)) := by
  refine (dats m 0 c).arrAt_eq_of_covers 18 _ (by decide +kernel) fun t _ y => ?_
  blk_simp; rw [after0_18]; unfold out0_18 k0_pay27; frame_out
  have h0 : ((((View.whole main_v83_3).slice (win0_18.rect t)).emb y : S256x16400.Idx) 0).val = (y 0).val := by blk_simp [idx t]
  have h1 : ((((View.whole main_v83_3).slice (win0_18.rect t)).emb y : S256x16400.Idx) 1).val = t.val * 1024 + (y 1).val := by blk_simp [idx t]
  exact wide_eq t _ _ _ _ h0 h1 (value_block m c t)

theorem final16 : (dats m 0 c).arrAt 16 (cfgs 0).N = keys (rows (m ((c : Thread nD τ).loc main_arg0)) (m ((c : Thread nD τ).loc main_arg1))) (m ((c : Thread nD τ).loc main_arg2)) (m ((c : Thread nD τ).loc main_arg3)) := by
  refine (dats m 0 c).arrAt_eq_of_covers 16 _ (by decide +kernel) fun t _ y => ?_
  blk_simp; rw [after0_16]; unfold out0_16 k0_pay32 k0_pay31 k0_pay30 k0_pay29 k0_pay28 k0_pay27; frame_out
  have h0 : ((((View.whole main_v83_1).slice (win0_16.rect t)).emb y : S256x16400.Idx) 0).val = (y 0).val := by blk_simp [idx t]
  have h1 : ((((View.whole main_v83_1).slice (win0_16.rect t)).emb y : S256x16400.Idx) 1).val = t.val * 1024 + (y 1).val := by blk_simp [idx t]
  exact wide_eq t _ _ _ _ h0 h1 (key_block m c t)

theorem final21 : (dats m 0 c).arrAt 21 (cfgs 0).N = indexKeys (rows (m ((c : Thread nD τ).loc main_arg0)) (m ((c : Thread nD τ).loc main_arg1))) (m ((c : Thread nD τ).loc main_arg2)) (m ((c : Thread nD τ).loc main_arg3)) := by
  refine (dats m 0 c).arrAt_eq_of_covers 21 _ (by decide +kernel) fun t _ y => ?_
  blk_simp; rw [after0_21]; unfold out0_21 k0_pay30 k0_pay29 k0_pay28 k0_pay27; frame_out
  have h0 : ((((View.whole main_v83_6).slice (win0_21.rect t)).emb y : S64x16400.Idx) 0).val = (y 0).val := by blk_simp [idx t]
  have h1 : ((((View.whole main_v83_6).slice (win0_21.rect t)).emb y : S64x16400.Idx) 1).val = t.val * 1024 + (y 1).val := by blk_simp [idx t]
  exact narrow_eq t _ _ _ _ h0 h1 (index_block m c t)

end Cert.Kernel3Ideal.Value3

end
-- ==== Proof.lean ====
/-
  The proof of `Cert.Claim`: the frames of the kernel, the idealized kernel and the reference, that idealizing kept the program, and that over the
  extended reals the idealized kernel computes the reference wherever the rows and the router are finite; and the same of the second
  and the third program, whose results are their references' at every input.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Stages
public import proofs.«01_k».proof.Proof.RefFrame
public import proofs.«01_k».proof.Proof.KernelValue
public import proofs.«01_k».proof.Proof.MergeRef
public import proofs.«01_k».proof.Proof.MergeFrame
public import proofs.«01_k».proof.Proof.MergeValue
public import proofs.«01_k».proof.Proof.ProjFrame
public import proofs.«01_k».proof.Proof.ProjValue
public import Idealize.ShloMosaic.Lib.Claim

@[expose] public section

set_option maxRecDepth 16384

noncomputable section

namespace Cert.Proof

open Idealize.ShloMosaic Idealize.SL.Sem Cert.Kernel

set_option maxHeartbeats 1600000 in
/-- The second program's results are its reference's. -/
theorem merge : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from (Cert.Reference2Ideal.Stages.refrun m' g') & (Cert.Reference2Ideal.Frame.frame m' g')
    · exact (Cert.Kernel2Ideal.Value2.final19 m c).symm
    · exact (Cert.Kernel2Ideal.Value2.final20 m c).symm

set_option maxHeartbeats 1600000 in
/-- The third program's results are its reference's. -/
theorem project : Cert.algebraic_Kernel3Ideal_Reference3Ideal (hKernel3Ideal := Cert.Kernel3Ideal.Gen.facts) (hReference3Ideal := Cert.Reference3Ideal.Gen.facts) := by
  pair_intro
  · run_from (Cert.Kernel3Ideal.Launched.run_arrays m g) & (Cert.Kernel3Ideal.Launched.frame m g)
  · run_from (Cert.Reference3Ideal.Stages.refrun m' g') & (Cert.Reference3Ideal.Stages.frame m' g')
    · exact (Cert.Kernel3Ideal.Value3.final16 m c).symm
    · exact (Cert.Kernel3Ideal.Value3.final18 m c).symm
    · exact (Cert.Kernel3Ideal.Value3.final21 m c).symm

set_option maxHeartbeats 1600000 in
theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Finite.preFacts,
    ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m ρ _ => Cert.ReferenceIdeal.Frame.frame m ρ
  · exact fun m ρ _ => Cert.ReferenceIdeal.Frame.frame m ρ
  · exact fun m ρ _ => Cert.Kernel2.Gen.frame m ρ
  · exact fun m ρ _ => Cert.Kernel2Ideal.Gen.frame m ρ
  · exact fun m ρ _ => Cert.Reference2Ideal.Frame.frame m ρ
  · exact fun m ρ _ => Cert.Kernel3.Launched.frame m ρ
  · exact fun m ρ _ => Cert.Kernel3Ideal.Launched.frame m ρ
  · exact fun m ρ _ => Cert.Reference3Ideal.Stages.frame m ρ
  · trivial
  · pair_intro
    · run_from Cert.KernelIdeal.Gen.run_main m g
      · exact Cert.KernelIdeal.Gen.V_main_arg1 m c
      · exact Cert.KernelIdeal.Gen.V_main_arg2 m c
      · exact Cert.KernelIdeal.Gen.V_main_arg3 m c
      · exact Cert.KernelIdeal.Gen.V_main_arg4 m c
      · exact Cert.KernelIdeal.Gen.V_main_arg5 m c
      · exact Cert.KernelIdeal.Gen.V_main_arg6 m c
      · exact Cert.KernelIdeal.Gen.V_main_arg7 m c
      · exact Cert.KernelIdeal.Gen.V_main_arg8 m c
      · exact Cert.KernelIdeal.Gen.V_main_arg9 m c
    · run_from (Cert.ReferenceIdeal.Stages.refrun m' g') & (Cert.ReferenceIdeal.Frame.frame m' g')
      exact (Cert.KernelIdeal.Value.final m c (Cert.Finite.real5 m hpre c)).symm
  · trivial
  · exact merge
  · trivial
  · exact project

end Cert.Proof

end
